-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x32x1x160000 : Shape := ⟨4, ![2, 32, 1, 160000]⟩
abbrev S32x1x160000 : Shape := ⟨3, ![32, 1, 160000]⟩
abbrev S32x16 : Shape := ⟨2, ![32, 16]⟩
abbrev S10240000 : Shape := ⟨1, ![10240000]⟩
abbrev S5120000 : Shape := ⟨1, ![5120000]⟩
abbrev S16 : Shape := ⟨1, ![16]⟩
abbrev S16000 : Shape := ⟨1, ![16000]⟩
abbrev S_ : Shape := ⟨0, ![]⟩
abbrev S1x16 : Shape := ⟨2, ![1, 16]⟩
abbrev S1 : Shape := ⟨1, ![1]⟩

abbrev nBuf : Table → Nat
  | .hbm => 9
  | .local .scVector .vmem => 9
  | _ => 0

abbrev bufTy : (tb : Table) → Fin (nBuf tb) → BufTy
  | .hbm, ⟨0, _⟩ => ⟨S2x32x1x160000, .f32⟩
  | .hbm, ⟨1, _⟩ => ⟨S32x1x160000, .f32⟩
  | .hbm, ⟨2, _⟩ => ⟨S32x16, .i32⟩
  | .hbm, ⟨3, _⟩ => ⟨S10240000, .f32⟩
  | .hbm, ⟨4, _⟩ => ⟨S5120000, .f32⟩
  | .hbm, ⟨5, _⟩ => ⟨S10240000, .f32⟩
  | .hbm, ⟨6, _⟩ => ⟨S5120000, .f32⟩
  | .hbm, ⟨7, _⟩ => ⟨S2x32x1x160000, .f32⟩
  | .hbm, ⟨8, _⟩ => ⟨S32x1x160000, .f32⟩
  | .local .scVector .vmem, ⟨0, _⟩ => ⟨S16, .i32⟩
  | .local .scVector .vmem, ⟨1, _⟩ => ⟨S16000, .f32⟩
  | .local .scVector .vmem, ⟨2, _⟩ => ⟨S16000, .f32⟩
  | .local .scVector .vmem, ⟨3, _⟩ => ⟨S16000, .f32⟩
  | .local .scVector .vmem, ⟨4, _⟩ => ⟨S16000, .f32⟩
  | .local .scVector .vmem, ⟨5, _⟩ => ⟨S16000, .f32⟩
  | .local .scVector .vmem, ⟨6, _⟩ => ⟨S16000, .f32⟩
  | .local .scVector .vmem, ⟨7, _⟩ => ⟨S16000, .f32⟩
  | .local .scVector .vmem, ⟨8, _⟩ => ⟨S16000, .f32⟩
  | _, _ => ⟨S2x32x1x160000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v0_scv : Ref sig .scVector := ⟨.hbm, 3, rfl⟩
abbrev main_v1_scv : Ref sig .scVector := ⟨.hbm, 4, rfl⟩
abbrev main_c_scv : Ref sig .scVector := ⟨.hbm, 2, rfl⟩
abbrev main_v2_0_scv : Ref sig .scVector := ⟨.hbm, 5, rfl⟩
abbrev main_v2_1_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_45_r0 : BitVec 32 := 0#32
  ![v1.toNat, 0]
def k0_off2 (v5 : BitVec 32) (c0_i32 : BitVec 32) : Fin 1 → Nat :=
  let c160000_i32 : BitVec 32 := 160000#32
  let v6 : BitVec 32 := Scalar.muli v5 c160000_i32
  let v13 : BitVec 32 := Scalar.addi v6 c0_i32
  ![v13.toNat]

def k0_off3 (i : grid0.Coords) (c0_i32_4 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v10 : BitVec 32 := Scalar.muli v1 c2_i32_1
  let c160000_i32_2 : BitVec 32 := 160000#32
  let v11 : BitVec 32 := Scalar.muli v10 c160000_i32_2
  let v30 : BitVec 32 := Scalar.addi v11 c0_i32_4
  ![v30.toNat]
def k0_off4 (v8 : BitVec 32) (c0_i32_10 : BitVec 32) : Fin 1 → Nat :=
  let c160000_i32_0 : BitVec 32 := 160000#32
  let v9 : BitVec 32 := Scalar.muli v8 c160000_i32_0
  let v79 : BitVec 32 := Scalar.addi v9 c0_i32_10
  ![v79.toNat]

def k0_chk2 (v8 : BitVec 32) : Prop :=
  (∀ (r : Fin 10), ∀ a, (k0_off4 v8 (BitVec.ofNat 32 (16000 * r.val))) a + S16000.size a ≤ S10240000.size a)
theorem k0_off4_inb : ∀ (v8 : BitVec 32) (k0_hw2 : k0_chk2 v8), ∀ (r : Fin 10), ∀ a, (k0_off4 v8 (BitVec.ofNat 32 (16000 * r.val))) a + S16000.size a ≤ S10240000.size a := fun v8 k0_hw2 r => k0_hw2 r

def k0_off5 (v5 : BitVec 32) (c96000_i32 : BitVec 32) : Fin 1 → Nat :=
  let c160000_i32 : BitVec 32 := 160000#32
  let v6 : BitVec 32 := Scalar.muli v5 c160000_i32
  let v41 : BitVec 32 := Scalar.addi v6 c96000_i32
  ![v41.toNat]

def k0_chk1 (v5 : BitVec 32) : Prop :=
  (∀ (r : Fin 10), ∀ a, (k0_off2 v5 (BitVec.ofNat 32 (16000 * r.val))) a + S16000.size a ≤ S10240000.size a) ∧
  (∀ (r : Fin 4), ∀ a, (k0_off5 v5 (BitVec.ofNat 32 (96000 + 16000 * r.val))) a + S16000.size a ≤ S10240000.size a)
theorem k0_off2_inb : ∀ (v5 : BitVec 32) (k0_hw1 : k0_chk1 v5), ∀ (r : Fin 10), ∀ a, (k0_off2 v5 (BitVec.ofNat 32 (16000 * r.val))) a + S16000.size a ≤ S10240000.size a := fun v5 k0_hw1 r => k0_hw1.1 r
theorem k0_off5_inb : ∀ (v5 : BitVec 32) (k0_hw1 : k0_chk1 v5), ∀ (r : Fin 4), ∀ a, (k0_off5 v5 (BitVec.ofNat 32 (96000 + 16000 * r.val))) a + S16000.size a ≤ S10240000.size a := fun v5 k0_hw1 r => k0_hw1.2 r

def k0_off6 (i : grid0.Coords) (c96000_i32_11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_1 : BitVec 32 := 2#32
  let v10 : BitVec 32 := Scalar.muli v1 c2_i32_1
  let c160000_i32_2 : BitVec 32 := 160000#32
  let v11 : BitVec 32 := Scalar.muli v10 c160000_i32_2
  let v84 : BitVec 32 := Scalar.addi v11 c96000_i32_11
  ![v84.toNat]
def k0_off7 (i : grid0.Coords) (c0_i32_25 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160000_i32_3 : BitVec 32 := 160000#32
  let v12 : BitVec 32 := Scalar.muli v1 c160000_i32_3
  let v179 : BitVec 32 := Scalar.addi v12 c0_i32_25
  ![v179.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x32x1x160000 : Shape := ⟨4, ![2, 32, 1, 160000]⟩
abbrev S32x1x160000 : Shape := ⟨3, ![32, 1, 160000]⟩
abbrev S1x32x1x160000 : Shape := ⟨4, ![1, 32, 1, 160000]⟩
abbrev S_ : Shape := ⟨0, ![]⟩
abbrev S1 : Shape := ⟨1, ![1]⟩
abbrev S2 : Shape := ⟨1, ![2]⟩
abbrev S32 : Shape := ⟨1, ![32]⟩
abbrev S32x1 : Shape := ⟨2, ![32, 1]⟩

abbrev nBuf : Space → Nat
  | .hbm => 290
  | .vmem => 0
  | .smem => 0
  | _ => 0

abbrev hbmTy0_0 (i : Nat) : BufTy := match i % 128 with
  | 0 => ⟨S2x32x1x160000, .f32⟩
  | 1 => ⟨S32x1x160000, .f32⟩
  | 2 => ⟨S1x32x1x160000, .f32⟩
  | 3 => ⟨S32x1x160000, .f32⟩
  | 4 => ⟨S1x32x1x160000, .f32⟩
  | 5 => ⟨S32x1x160000, .f32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S_, .f32⟩
  | 17 => ⟨S_, .f32⟩
  | 18 => ⟨S_, .f32⟩
  | 19 => ⟨S_, .f32⟩
  | 20 => ⟨S1, .f32⟩
  | 21 => ⟨S1, .f32⟩
  | 22 => ⟨S1, .i32⟩
  | 23 => ⟨S_, .i32⟩
  | 24 => ⟨S1, .i32⟩
  | 25 => ⟨S_, .i32⟩
  | 26 => ⟨S32, .i64⟩
  | 27 => ⟨S_, .i64⟩
  | 28 => ⟨S32, .i64⟩
  | 29 => ⟨S32, .i64⟩
  | 30 => ⟨S_, .i64⟩
  | 31 => ⟨S32, .i64⟩
  | 32 => ⟨S32, .i64⟩
  | 33 => ⟨S32, .i32⟩
  | 34 => ⟨S32, .i32⟩
  | 35 => ⟨S_, .i32⟩
  | 36 => ⟨S_, .i32⟩
  | 37 => ⟨S_, .i32⟩
  | 38 => ⟨S32, .i32⟩
  | 39 => ⟨S32, .i32⟩
  | 40 => ⟨S32, .i32⟩
  | 41 => ⟨S32, .i32⟩
  | 42 => ⟨S32, .i32⟩
  | 43 => ⟨S_, .i32⟩
  | 44 => ⟨S32, .i32⟩
  | 45 => ⟨S32, .i32⟩
  | 46 => ⟨S_, .i32⟩
  | 47 => ⟨S32, .i32⟩
  | 48 => ⟨S32, .i32⟩
  | 49 => ⟨S32, .i32⟩
  | 50 => ⟨S32, .i32⟩
  | 51 => ⟨S32, .i32⟩
  | 52 => ⟨S_, .i32⟩
  | 53 => ⟨S32, .i32⟩
  | 54 => ⟨S32, .i32⟩
  | 55 => ⟨S_, .i32⟩
  | 56 => ⟨S32, .i32⟩
  | 57 => ⟨S32, .i32⟩
  | 58 => ⟨S32, .i32⟩
  | 59 => ⟨S32, .i32⟩
  | 60 => ⟨S32, .i32⟩
  | 61 => ⟨S_, .i32⟩
  | 62 => ⟨S32, .i32⟩
  | 63 => ⟨S32, .i32⟩
  | 64 => ⟨S_, .i32⟩
  | 65 => ⟨S32, .i32⟩
  | 66 => ⟨S32, .i32⟩
  | 67 => ⟨S32, .i32⟩
  | 68 => ⟨S32, .i32⟩
  | 69 => ⟨S32, .i32⟩
  | 70 => ⟨S_, .i32⟩
  | 71 => ⟨S32, .i32⟩
  | 72 => ⟨S32, .i32⟩
  | 73 => ⟨S_, .i32⟩
  | 74 => ⟨S32, .i32⟩
  | 75 => ⟨S32, .i32⟩
  | 76 => ⟨S32, .i32⟩
  | 77 => ⟨S32, .i32⟩
  | 78 => ⟨S32, .i32⟩
  | 79 => ⟨S32, .i32⟩
  | 80 => ⟨S32, .i32⟩
  | 81 => ⟨S32, .i32⟩
  | 82 => ⟨S_, .i32⟩
  | 83 => ⟨S32, .i32⟩
  | 84 => ⟨S32, .i32⟩
  | 85 => ⟨S32, .i32⟩
  | 86 => ⟨S_, .i32⟩
  | 87 => ⟨S32, .i32⟩
  | 88 => ⟨S32, .i32⟩
  | 89 => ⟨S_, .i32⟩
  | 90 => ⟨S32, .i32⟩
  | 91 => ⟨S32, .i32⟩
  | 92 => ⟨S32, .i32⟩
  | 93 => ⟨S32, .i32⟩
  | 94 => ⟨S32, .i32⟩
  | 95 => ⟨S_, .i32⟩
  | 96 => ⟨S32, .i32⟩
  | 97 => ⟨S32, .i32⟩
  | 98 => ⟨S_, .i32⟩
  | 99 => ⟨S32, .i32⟩
  | 100 => ⟨S32, .i32⟩
  | 101 => ⟨S32, .i32⟩
  | 102 => ⟨S32, .i32⟩
  | 103 => ⟨S32, .i32⟩
  | 104 => ⟨S_, .i32⟩
  | 105 => ⟨S32, .i32⟩
  | 106 => ⟨S32, .i32⟩
  | 107 => ⟨S_, .i32⟩
  | 108 => ⟨S32, .i32⟩
  | 109 => ⟨S32, .i32⟩
  | 110 => ⟨S32, .i32⟩
  | 111 => ⟨S32, .i32⟩
  | 112 => ⟨S32, .i32⟩
  | 113 => ⟨S_, .i32⟩
  | 114 => ⟨S32, .i32⟩
  | 115 => ⟨S32, .i32⟩
  | 116 => ⟨S_, .i32⟩
  | 117 => ⟨S32, .i32⟩
  | 118 => ⟨S32, .i32⟩
  | 119 => ⟨S32, .i32⟩
  | 120 => ⟨S32, .i32⟩
  | 121 => ⟨S32, .i32⟩
  | 122 => ⟨S32, .i32⟩
  | 123 => ⟨S32, .i32⟩
  | 124 => ⟨S32, .i32⟩
  | 125 => ⟨S_, .i32⟩
  | 126 => ⟨S32, .i32⟩
  | 127 => ⟨S32, .i32⟩
  | _ => ⟨S2x32x1x160000, .f32⟩

abbrev hbmTy0_1 (i : Nat) : BufTy := match i % 128 with
  | 0 => ⟨S32, .i32⟩
  | 1 => ⟨S_, .i32⟩
  | 2 => ⟨S32, .i32⟩
  | 3 => ⟨S32, .i32⟩
  | 4 => ⟨S_, .i32⟩
  | 5 => ⟨S32, .i32⟩
  | 6 => ⟨S32, .i32⟩
  | 7 => ⟨S32, .i32⟩
  | 8 => ⟨S32, .i32⟩
  | 9 => ⟨S32, .i32⟩
  | 10 => ⟨S_, .i32⟩
  | 11 => ⟨S32, .i32⟩
  | 12 => ⟨S32, .i32⟩
  | 13 => ⟨S_, .i32⟩
  | 14 => ⟨S32, .i32⟩
  | 15 => ⟨S32, .i32⟩
  | 16 => ⟨S32, .i32⟩
  | 17 => ⟨S32, .i32⟩
  | 18 => ⟨S32, .i32⟩
  | 19 => ⟨S_, .i32⟩
  | 20 => ⟨S32, .i32⟩
  | 21 => ⟨S32, .i32⟩
  | 22 => ⟨S_, .i32⟩
  | 23 => ⟨S32, .i32⟩
  | 24 => ⟨S32, .i32⟩
  | 25 => ⟨S32, .i32⟩
  | 26 => ⟨S32, .i32⟩
  | 27 => ⟨S32, .i32⟩
  | 28 => ⟨S_, .i32⟩
  | 29 => ⟨S32, .i32⟩
  | 30 => ⟨S32, .i32⟩
  | 31 => ⟨S_, .i32⟩
  | 32 => ⟨S32, .i32⟩
  | 33 => ⟨S32, .i32⟩
  | 34 => ⟨S32, .i32⟩
  | 35 => ⟨S32, .i32⟩
  | 36 => ⟨S32, .i32⟩
  | 37 => ⟨S32, .i32⟩
  | 38 => ⟨S32, .i32⟩
  | 39 => ⟨S32, .i32⟩
  | 40 => ⟨S_, .i32⟩
  | 41 => ⟨S32, .i32⟩
  | 42 => ⟨S32, .i32⟩
  | 43 => ⟨S32, .i32⟩
  | 44 => ⟨S_, .i32⟩
  | 45 => ⟨S32, .i32⟩
  | 46 => ⟨S32, .i32⟩
  | 47 => ⟨S_, .i32⟩
  | 48 => ⟨S32, .i32⟩
  | 49 => ⟨S32, .i32⟩
  | 50 => ⟨S32, .i32⟩
  | 51 => ⟨S32, .i32⟩
  | 52 => ⟨S32, .i32⟩
  | 53 => ⟨S_, .i32⟩
  | 54 => ⟨S32, .i32⟩
  | 55 => ⟨S32, .i32⟩
  | 56 => ⟨S_, .i32⟩
  | 57 => ⟨S32, .i32⟩
  | 58 => ⟨S32, .i32⟩
  | 59 => ⟨S32, .i32⟩
  | 60 => ⟨S32, .i32⟩
  | 61 => ⟨S32, .i32⟩
  | 62 => ⟨S_, .i32⟩
  | 63 => ⟨S32, .i32⟩
  | 64 => ⟨S32, .i32⟩
  | 65 => ⟨S_, .i32⟩
  | 66 => ⟨S32, .i32⟩
  | 67 => ⟨S32, .i32⟩
  | 68 => ⟨S32, .i32⟩
  | 69 => ⟨S32, .i32⟩
  | 70 => ⟨S32, .i32⟩
  | 71 => ⟨S_, .i32⟩
  | 72 => ⟨S32, .i32⟩
  | 73 => ⟨S32, .i32⟩
  | 74 => ⟨S_, .i32⟩
  | 75 => ⟨S32, .i32⟩
  | 76 => ⟨S32, .i32⟩
  | 77 => ⟨S32, .i32⟩
  | 78 => ⟨S32, .i32⟩
  | 79 => ⟨S32, .i32⟩
  | 80 => ⟨S32, .i32⟩
  | 81 => ⟨S32, .i32⟩
  | 82 => ⟨S32, .i32⟩
  | 83 => ⟨S_, .i32⟩
  | 84 => ⟨S32, .i32⟩
  | 85 => ⟨S32, .i32⟩
  | 86 => ⟨S32, .i32⟩
  | 87 => ⟨S_, .i32⟩
  | 88 => ⟨S32, .i32⟩
  | 89 => ⟨S32, .i32⟩
  | 90 => ⟨S_, .i32⟩
  | 91 => ⟨S32, .i32⟩
  | 92 => ⟨S32, .i32⟩
  | 93 => ⟨S32, .i32⟩
  | 94 => ⟨S32, .i32⟩
  | 95 => ⟨S32, .i32⟩
  | 96 => ⟨S_, .i32⟩
  | 97 => ⟨S32, .i32⟩
  | 98 => ⟨S32, .i32⟩
  | 99 => ⟨S_, .i32⟩
  | 100 => ⟨S32, .i32⟩
  | 101 => ⟨S32, .i32⟩
  | 102 => ⟨S32, .i32⟩
  | 103 => ⟨S32, .i32⟩
  | 104 => ⟨S32, .i32⟩
  | 105 => ⟨S_, .i32⟩
  | 106 => ⟨S32, .i32⟩
  | 107 => ⟨S32, .i32⟩
  | 108 => ⟨S_, .i32⟩
  | 109 => ⟨S32, .i32⟩
  | 110 => ⟨S32, .i32⟩
  | 111 => ⟨S32, .i32⟩
  | 112 => ⟨S32, .i32⟩
  | 113 => ⟨S32, .i32⟩
  | 114 => ⟨S_, .i32⟩
  | 115 => ⟨S32, .i32⟩
  | 116 => ⟨S32, .i32⟩
  | 117 => ⟨S_, .i32⟩
  | 118 => ⟨S32, .i32⟩
  | 119 => ⟨S32, .i32⟩
  | 120 => ⟨S32, .i32⟩
  | 121 => ⟨S32, .i32⟩
  | 122 => ⟨S32, .i32⟩
  | 123 => ⟨S32, .i32⟩
  | 124 => ⟨S32, .i32⟩
  | 125 => ⟨S32, .i32⟩
  | 126 => ⟨S_, .i32⟩
  | 127 => ⟨S32, .i32⟩
  | _ => ⟨S2x32x1x160000, .f32⟩

abbrev hbmTy0_2 (i : Nat) : BufTy := match i % 128 with
  | 0 => ⟨S32, .i32⟩
  | 1 => ⟨S32, .i32⟩
  | 2 => ⟨S_, .i32⟩
  | 3 => ⟨S32, .i32⟩
  | 4 => ⟨S32, .i32⟩
  | 5 => ⟨S_, .i32⟩
  | 6 => ⟨S32, .i32⟩
  | 7 => ⟨S32, .i32⟩
  | 8 => ⟨S32, .f32⟩
  | 9 => ⟨S_, .f32⟩
  | 10 => ⟨S32, .f32⟩
  | 11 => ⟨S32, .f32⟩
  | 12 => ⟨S1, .f32⟩
  | 13 => ⟨S32, .f32⟩
  | 14 => ⟨S32, .f32⟩
  | 15 => ⟨S32, .f32⟩
  | 16 => ⟨S32, .f32⟩
  | 17 => ⟨S32, .f32⟩
  | 18 => ⟨S32, .f32⟩
  | 19 => ⟨S32, .i32⟩
  | 20 => ⟨S32, .f32⟩
  | 21 => ⟨S32, .i32⟩
  | 22 => ⟨S_, .i32⟩
  | 23 => ⟨S32, .i32⟩
  | 24 => ⟨S32, .i1⟩
  | 25 => ⟨S_, .i32⟩
  | 26 => ⟨S32, .i32⟩
  | 27 => ⟨S32, .i32⟩
  | 28 => ⟨S32, .i32⟩
  | 29 => ⟨S32x1, .i32⟩
  | 30 => ⟨S32x1x160000, .f32⟩
  | 31 => ⟨S1x32x1x160000, .f32⟩
  | 32 => ⟨S1x32x1x160000, .f32⟩
  | 33 => ⟨S2x32x1x160000, .f32⟩
  | _ => ⟨S2x32x1x160000, .f32⟩

abbrev hbmTy (i : Nat) : BufTy := match i / 128 with
  | 0 => hbmTy0_0 i
  | 1 => hbmTy0_1 i
  | 2 => hbmTy0_2 i
  | _ => ⟨S2x32x1x160000, .f32⟩

abbrev bufTy : (tb : Table) → Fin (tcTables nBuf tb) → BufTy
  | .hbm, ⟨i, _⟩ => hbmTy i
  | _, _ => ⟨S2x32x1x160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_c_0 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v15_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v15_1 : Ref sig .tc := ⟨.hbm, 256, rfl⟩
abbrev main_call0_v16 : Ref sig .tc := ⟨.hbm, 257, rfl⟩
abbrev main_call0_c_1 : Ref sig .tc := ⟨.hbm, 258, rfl⟩
abbrev main_call0_v17 : Ref sig .tc := ⟨.hbm, 259, rfl⟩
abbrev main_call0_v18 : Ref sig .tc := ⟨.hbm, 260, rfl⟩
abbrev main_call0_c_2 : Ref sig .tc := ⟨.hbm, 261, rfl⟩
abbrev main_call0_v19 : Ref sig .tc := ⟨.hbm, 262, rfl⟩
abbrev main_call0_v20 : Ref sig .tc := ⟨.hbm, 263, rfl⟩
abbrev main_call0_v21 : Ref sig .tc := ⟨.hbm, 264, rfl⟩
abbrev main_call0_cst : Ref sig .tc := ⟨.hbm, 265, rfl⟩
abbrev main_call0_v22 : Ref sig .tc := ⟨.hbm, 266, rfl⟩
abbrev main_call0_v23 : Ref sig .tc := ⟨.hbm, 267, rfl⟩
abbrev main_call0_v24 : Ref sig .tc := ⟨.hbm, 268, rfl⟩
abbrev main_call0_v25 : Ref sig .tc := ⟨.hbm, 269, rfl⟩
abbrev main_call0_v26 : Ref sig .tc := ⟨.hbm, 270, rfl⟩
abbrev main_call0_v27 : Ref sig .tc := ⟨.hbm, 271, rfl⟩
abbrev main_call0_v28 : Ref sig .tc := ⟨.hbm, 272, rfl⟩
abbrev main_call0_v29 : Ref sig .tc := ⟨.hbm, 273, rfl⟩
abbrev main_v11 : Ref sig .tc := ⟨.hbm, 274, rfl⟩
abbrev main_call1_v0 : Ref sig .tc := ⟨.hbm, 275, rfl⟩
abbrev main_call1_v1_0 : Ref sig .tc := ⟨.hbm, 276, rfl⟩
abbrev main_v12 : Ref sig .tc := ⟨.hbm, 277, rfl⟩
abbrev main_c_3 : Ref sig .tc := ⟨.hbm, 278, rfl⟩
abbrev main_v13 : Ref sig .tc := ⟨.hbm, 279, rfl⟩
abbrev main_v14 : Ref sig .tc := ⟨.hbm, 280, rfl⟩
abbrev main_c_4 : Ref sig .tc := ⟨.hbm, 281, rfl⟩
abbrev main_v15 : Ref sig .tc := ⟨.hbm, 282, rfl⟩
abbrev main_v16 : Ref sig .tc := ⟨.hbm, 283, rfl⟩
abbrev main_v17 : Ref sig .tc := ⟨.hbm, 284, rfl⟩
abbrev main_v18 : Ref sig .tc := ⟨.hbm, 285, rfl⟩
abbrev main_v19 : Ref sig .tc := ⟨.hbm, 286, rfl⟩
abbrev main_v20 : Ref sig .tc := ⟨.hbm, 287, rfl⟩
abbrev main_v21 : Ref sig .tc := ⟨.hbm, 288, rfl⟩
abbrev main_v22 : Ref sig .tc := ⟨.hbm, 289, rfl⟩

abbrev nD : Nat := 1
abbrev τ : Topo := Topo.v7x

variable {F : FTy → Type} [FloatOps F]
-- ==== Proof.Setup.lean ====
/-
  The mesh program's launch in this proof's words: the arrays, the pieces each vector subcore is dealt, and the
  windows the task's copies name.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev sLoc (d : Dev nD) : Loc nD τ sig := (SparseCore.T d).loc main_v0
abbrev tLoc (d : Dev nD) : Loc nD τ sig := (SparseCore.T d).loc main_v1
abbrev cLoc (d : Dev nD) : Loc nD τ sig := (SparseCore.T d).loc main_c
abbrev oLoc (d : Dev nD) : Loc nD τ sig := (SparseCore.T d).loc main_v2_0
abbrev uLoc (d : Dev nD) : Loc nD τ sig := (SparseCore.T d).loc main_v2_1

abbrev sV : Memref sig .scVector .hbm S10240000 .f32 := Memref.whole main_v0_scv
abbrev tV : Memref sig .scVector .hbm S5120000 .f32 := Memref.whole main_v1_scv
abbrev cV : Memref sig .scVector .hbm S32x16 .i32 := Memref.whole main_c_scv
abbrev oV : Memref sig .scVector .hbm S10240000 .f32 := Memref.whole main_v2_0_scv
abbrev uV : Memref sig .scVector .hbm S5120000 .f32 := Memref.whole main_v2_1_scv
abbrev iV : Memref sig .scVector .vmem S16 .i32 := Memref.whole cc0_scratch0
abbrev bV0 : Memref sig .scVector .vmem S16000 .f32 := Memref.whole cc0_scratch1
abbrev bV1 : Memref sig .scVector .vmem S16000 .f32 := Memref.whole cc0_scratch2
abbrev bV2 : Memref sig .scVector .vmem S16000 .f32 := Memref.whole cc0_scratch3
abbrev bV3 : Memref sig .scVector .vmem S16000 .f32 := Memref.whole cc0_scratch4
abbrev bV4 : Memref sig .scVector .vmem S16000 .f32 := Memref.whole cc0_scratch5
abbrev bV5 : Memref sig .scVector .vmem S16000 .f32 := Memref.whole cc0_scratch6
abbrev bV6 : Memref sig .scVector .vmem S16000 .f32 := Memref.whole cc0_scratch7
abbrev bV7 : Memref sig .scVector .vmem S16000 .f32 := Memref.whole cc0_scratch8

/-! ## One vector subcore: its thread, the windows of its copies as the body slices them -/

variable [FloatOps F]

section Windows

variable (d : Dev nD) (L : grid0.Coords)

abbrev cC (L : grid0.Coords) : Fin τ.nSC := (L 0).castLE hcore0
abbrev jC (L : grid0.Coords) : Fin τ.nSub := (L 1).castLE hsub0
abbrev VT (d : Dev nD) (L : grid0.Coords) : Thread nD τ := V d (cC L) (jC L)

/-- The task's row of the table, squeezed to its sixteen words. -/
abbrev cRow (L : grid0.Coords) : Memref sig .scVector .hbm S16 .i32 :=
  ((cV).slice (Rect.unit (s := S32x16) (k0_off1 L) S1x16.size (k0_off1_inb L)) (fun _ => rfl)).squeeze S16 squeezes_S1x16_S16
abbrev oC0 (L : grid0.Coords) : Memref sig .scVector .hbm S16000 .f32 := (oV).slice (Rect.unit (s := S10240000) (k0_off3 L 0#32) S16000.size (k0_off3_inb L 0)) (fun _ => rfl)
abbrev oC1 (L : grid0.Coords) : Memref sig .scVector .hbm S16000 .f32 := (oV).slice (Rect.unit (s := S10240000) (k0_off3 L 16000#32) S16000.size (k0_off3_inb L 1)) (fun _ => rfl)
abbrev oC2 (L : grid0.Coords) : Memref sig .scVector .hbm S16000 .f32 := (oV).slice (Rect.unit (s := S10240000) (k0_off3 L 32000#32) S16000.size (k0_off3_inb L 2)) (fun _ => rfl)
abbrev oC3 (L : grid0.Coords) : Memref sig .scVector .hbm S16000 .f32 := (oV).slice (Rect.unit (s := S10240000) (k0_off3 L 48000#32) S16000.size (k0_off3_inb L 3)) (fun _ => rfl)
abbrev oC4 (L : grid0.Coords) : Memref sig .scVector .hbm S16000 .f32 := (oV).slice (Rect.unit (s := S10240000) (k0_off3 L 64000#32) S16000.size (k0_off3_inb L 4)) (fun _ => rfl)
abbrev oC5 (L : grid0.Coords) : Memref sig .scVector .hbm S16000 .f32 := (oV).slice (Rect.unit (s := S10240000) (k0_off3 L 80000#32) S16000.size (k0_off3_inb L 5)) (fun _ => rfl)
abbrev oC6 (L : grid0.Coords) : Memref sig .scVector .hbm S16000 .f32 := (oV).slice (Rect.unit (s := S10240000) (k0_off6 L 96000#32) S16000.size (k0_off6_inb L 3)) (fun _ => rfl)
abbrev oC7 (L : grid0.Coords) : Memref sig .scVector .hbm S16000 .f32 := (oV).slice (Rect.unit (s := S10240000) (k0_off6 L 112000#32) S16000.size (k0_off6_inb L 4)) (fun _ => rfl)
abbrev oC8 (L : grid0.Coords) : Memref sig .scVector .hbm S16000 .f32 := (oV).slice (Rect.unit (s := S10240000) (k0_off6 L 128000#32) S16000.size (k0_off6_inb L 5)) (fun _ => rfl)
abbrev oC9 (L : grid0.Coords) : Memref sig .scVector .hbm S16000 .f32 := (oV).slice (Rect.unit (s := S10240000) (k0_off6 L 144000#32) S16000.size (k0_off6_inb L 6)) (fun _ => rfl)
abbrev oC10 (L : grid0.Coords) : Memref sig .scVector .hbm S16000 .f32 := (oV).slice (Rect.unit (s := S10240000) (k0_off6 L 160000#32) S16000.size (k0_off6_inb L 7)) (fun _ => rfl)
abbrev oC11 (L : grid0.Coords) : Memref sig .scVector .hbm S16000 .f32 := (oV).slice (Rect.unit (s := S10240000) (k0_off6 L 176000#32) S16000.size (k0_off6_inb L 8)) (fun _ => rfl)
abbrev oC12 (L : grid0.Coords) : Memref sig .scVector .hbm S16000 .f32 := (oV).slice (Rect.unit (s := S10240000) (k0_off6 L 192000#32) S16000.size (k0_off6_inb L 9)) (fun _ => rfl)
abbrev oC13 (L : grid0.Coords) : Memref sig .scVector .hbm S16000 .f32 := (oV).slice (Rect.unit (s := S10240000) (k0_off6 L 208000#32) S16000.size (k0_off6_inb L 10)) (fun _ => rfl)
abbrev oC14 (L : grid0.Coords) : Memref sig .scVector .hbm S16000 .f32 := (oV).slice (Rect.unit (s := S10240000) (k0_off6 L 224000#32) S16000.size (k0_off6_inb L 11)) (fun _ => rfl)
abbrev oC15 (L : grid0.Coords) : Memref sig .scVector .hbm S16000 .f32 := (oV).slice (Rect.unit (s := S10240000) (k0_off6 L 240000#32) S16000.size (k0_off6_inb L 12)) (fun _ => rfl)
abbrev oC16 (L : grid0.Coords) : Memref sig .scVector .hbm S16000 .f32 := (oV).slice (Rect.unit (s := S10240000) (k0_off6 L 256000#32) S16000.size (k0_off6_inb L 13)) (fun _ => rfl)
abbrev oC17 (L : grid0.Coords) : Memref sig .scVector .hbm S16000 .f32 := (oV).slice (Rect.unit (s := S10240000) (k0_off6 L 272000#32) S16000.size (k0_off6_inb L 14)) (fun _ => rfl)
abbrev oC18 (L : grid0.Coords) : Memref sig .scVector .hbm S16000 .f32 := (oV).slice (Rect.unit (s := S10240000) (k0_off6 L 288000#32) S16000.size (k0_off6_inb L 15)) (fun _ => rfl)
abbrev oC19 (L : grid0.Coords) : Memref sig .scVector .hbm S16000 .f32 := (oV).slice (Rect.unit (s := S10240000) (k0_off6 L 304000#32) S16000.size (k0_off6_inb L 16)) (fun _ => rfl)
abbrev uC0 (L : grid0.Coords) : Memref sig .scVector .hbm S16000 .f32 := (uV).slice (Rect.unit (s := S5120000) (k0_off7 L 0#32) S16000.size (k0_off7_inb L 0)) (fun _ => rfl)
abbrev uC1 (L : grid0.Coords) : Memref sig .scVector .hbm S16000 .f32 := (uV).slice (Rect.unit (s := S5120000) (k0_off7 L 16000#32) S16000.size (k0_off7_inb L 1)) (fun _ => rfl)
abbrev uC2 (L : grid0.Coords) : Memref sig .scVector .hbm S16000 .f32 := (uV).slice (Rect.unit (s := S5120000) (k0_off7 L 32000#32) S16000.size (k0_off7_inb L 2)) (fun _ => rfl)
abbrev uC3 (L : grid0.Coords) : Memref sig .scVector .hbm S16000 .f32 := (uV).slice (Rect.unit (s := S5120000) (k0_off7 L 48000#32) S16000.size (k0_off7_inb L 3)) (fun _ => rfl)
abbrev uC4 (L : grid0.Coords) : Memref sig .scVector .hbm S16000 .f32 := (uV).slice (Rect.unit (s := S5120000) (k0_off7 L 64000#32) S16000.size (k0_off7_inb L 4)) (fun _ => rfl)
abbrev uC5 (L : grid0.Coords) : Memref sig .scVector .hbm S16000 .f32 := (uV).slice (Rect.unit (s := S5120000) (k0_off7 L 80000#32) S16000.size (k0_off7_inb L 5)) (fun _ => rfl)
abbrev uC6 (L : grid0.Coords) : Memref sig .scVector .hbm S16000 .f32 := (uV).slice (Rect.unit (s := S5120000) (k0_off7 L 96000#32) S16000.size (k0_off7_inb L 6)) (fun _ => rfl)
abbrev uC7 (L : grid0.Coords) : Memref sig .scVector .hbm S16000 .f32 := (uV).slice (Rect.unit (s := S5120000) (k0_off7 L 112000#32) S16000.size (k0_off7_inb L 7)) (fun _ => rfl)
abbrev uC8 (L : grid0.Coords) : Memref sig .scVector .hbm S16000 .f32 := (uV).slice (Rect.unit (s := S5120000) (k0_off7 L 128000#32) S16000.size (k0_off7_inb L 8)) (fun _ => rfl)
abbrev uC9 (L : grid0.Coords) : Memref sig .scVector .hbm S16000 .f32 := (uV).slice (Rect.unit (s := S5120000) (k0_off7 L 144000#32) S16000.size (k0_off7_inb L 9)) (fun _ => rfl)

/-- The seventeen transfer cells the task names. -/
abbrev csem (k : Nat) (hk : k < 17 := by decide) : DmaSem sig := ⟨k, hk⟩

end Windows

end Cert.Proof.Tile

end
-- ==== Proof.Values.lean ====
/-
  What a task's copies move, elementwise: the two table words it reads, and each window's contents in terms of the
  arrays it came from.
-/
module

public import proofs.«01_k».proof.Proof.Setup

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The result in closed form -/

/-- Row `w`, lane `j` of the table. -/
def rowIx (w j : Nat) : S32x16.Idx := fun
  | 0 => ⟨w % 32, Nat.mod_lt _ (by decide)⟩
  | 1 => ⟨j % 16, Nat.mod_lt _ (by decide)⟩

/-- Where in the flat source the flat output's element `n` comes from: its block of 320000 names the table's row, its
    half of the block the lane, and the word there the source's row of 160000. -/
def srcOf (fc : S32x16.Idx → BitVec 32) (n : Nat) : Nat := (fc (rowIx (n / 320000) (n / 160000 % 2))).toNat * 160000 + n % 160000

/-- Element `n` of the flat source. -/
def sIx (n : Nat) : S10240000.Idx := fun | 0 => ⟨n % 10240000, Nat.mod_lt _ (by decide)⟩

/-- The flat output: every element from its place in the source. -/
def OUT {α : Type} (fc : S32x16.Idx → BitVec 32) (fs : S10240000.Idx → α) : S10240000.Idx → α := fun i => fs (sIx (srcOf fc (i 0).val))

section Words

variable (d : Dev nD) (L : grid0.Coords) (fc : Buf (Elt F) (cLoc d))

/-- What the row's fetch lands: the task's row of the table. -/
abbrev PAY : S16.Idx → Elt F .i32 := ReadAs.same.apply ((cRow L).view.read (Elt F) fc)
/-- The row as the body loads it. -/
abbrev rowVec : Vec F S16 .i32 := (iV).view.readCov [⟨Rect.whole cc0_scratch0.ty.shape, PAY d L fc⟩] (Rect.unit (s := S16) ![0] S16.size inb_S16_S16_0).toLoadRect
/-- Its word 0 and its word 1, as the body extracts them. -/
def word0 : BitVec 32 := extractAt ![0] (k0_pay2 (rowVec d L fc)) inpos_S1_p0
def word1 : BitVec 32 := extractAt ![0] (k0_pay3 (rowVec d L fc)) inpos_S1_p0

theorem PAY_apply (x : S16.Idx) : PAY d L fc x = fc ((cRow L).view.emb x) :=
  (View.read_apply _ _).trans (cast_eq _ _)

theorem cRow_emb (x : S16.Idx) : (cRow L).view.emb x = rowIx (2 * (L 1).val + (L 0).val) (x 0).val := by
  have h : ∀ y : S16.Idx, ((Shape.reshapeEquiv (s := S1x16) (s' := S16) squeezes_S1x16_S16.numel_eq) y 1).val = (y 0).val := by
    decide +kernel
  have h0 : ∀ y : S16.Idx, ((Shape.reshapeEquiv (s := S1x16) (s' := S16) squeezes_S1x16_S16.numel_eq) y 0).val = 0 := by
    decide +kernel
  have hL0 : (L 0).val < 2 := (L 0).isLt
  have hL1 : (L 1).val < 16 := (L 1).isLt
  have hx : (x 0).val < 16 := (x 0).isLt
  funext a
  match a with
  | 0 =>
    apply Fin.ext
    show k0_off1 L 0 + 1 * ((Shape.reshapeEquiv squeezes_S1x16_S16.numel_eq) x 0).val = (2 * (L 1).val + (L 0).val) % 32
    rw [h0 x, k0_off1_eq]; simp; omega
  | 1 =>
    apply Fin.ext
    show k0_off1 L 1 + 1 * ((Shape.reshapeEquiv squeezes_S1x16_S16.numel_eq) x 1).val = (x 0).val % 16
    rw [h x, k0_off1_eq]; simp; omega

theorem rowVec_apply (x : S16.Idx) : rowVec d L fc x = fc (rowIx (2 * (L 1).val + (L 0).val) (x 0).val) := by
  rw [← cRow_emb L x, ← PAY_apply d L fc x]
  show (iV).view.readAt (Elt F) _ ((iV).view.writes (Elt F) (iV).view.junk [⟨Rect.whole cc0_scratch0.ty.shape, PAY d L fc⟩]) _ = _
  rw [View.readAt_apply]
  refine (congrFun (View.read_writes_whole (iV).view (iV).view.junk (PAY d L fc)) _).trans ?_
  congr 1; funext a
  match a with
  | 0 => apply Fin.ext; show 0 + 1 * _ = _; simp

theorem word0_eq : word0 d L fc = fc (rowIx (2 * (L 1).val + (L 0).val) 0) := by
  have h : word0 d L fc = rowVec d L fc (fun | 0 => ⟨0, by decide⟩) := by
    unfold word0 extractAt k0_pay2 extractStridedSlice
    congr 1
  rw [h, rowVec_apply]
theorem word1_eq : word1 d L fc = fc (rowIx (2 * (L 1).val + (L 0).val) 1) := by
  have h : word1 d L fc = rowVec d L fc (fun | 0 => ⟨1, by decide⟩) := by
    unfold word1 extractAt k0_pay3 extractStridedSlice
    congr 1
  rw [h, rowVec_apply]

end Words

/-! ## The checks at a word below 64, the windows' offsets -/

theorem chk1_of_lt {v : BitVec 32} (h : v.toNat < 64) : k0_chk1 v := by
  have key : ∀ n : Fin 64, k0_chk1 (BitVec.ofNat 32 n.val) := by decide +kernel
  have e : v = BitVec.ofNat 32 v.toNat := by simp
  rw [e]; exact key ⟨v.toNat, h⟩
theorem chk2_of_lt {v : BitVec 32} (h : v.toNat < 64) : k0_chk2 v := by
  have key : ∀ n : Fin 64, k0_chk2 (BitVec.ofNat 32 n.val) := by decide +kernel
  have e : v = BitVec.ofNat 32 v.toNat := by simp
  rw [e]; exact key ⟨v.toNat, h⟩

theorem off2_eq {v : BitVec 32} (h : v.toNat < 64) (r : Fin 10) : k0_off2 v (BitVec.ofNat 32 (16000 * r.val)) 0 = v.toNat * 160000 + 16000 * r.val := by
  have key : ∀ (n : Fin 64) (r : Fin 10), k0_off2 (BitVec.ofNat 32 n.val) (BitVec.ofNat 32 (16000 * r.val)) 0 = n.val * 160000 + 16000 * r.val := by decide +kernel
  have e : v = BitVec.ofNat 32 v.toNat := by simp
  conv_lhs => rw [e]
  exact key ⟨v.toNat, h⟩ r
theorem off4_eq {v : BitVec 32} (h : v.toNat < 64) (r : Fin 10) : k0_off4 v (BitVec.ofNat 32 (16000 * r.val)) 0 = v.toNat * 160000 + 16000 * r.val := by
  have key : ∀ (n : Fin 64) (r : Fin 10), k0_off4 (BitVec.ofNat 32 n.val) (BitVec.ofNat 32 (16000 * r.val)) 0 = n.val * 160000 + 16000 * r.val := by decide +kernel
  have e : v = BitVec.ofNat 32 v.toNat := by simp
  conv_lhs => rw [e]
  exact key ⟨v.toNat, h⟩ r

/-! ## A window's contents after its copy -/

/-- Whatever a staging buffer held before, read whole it gives the last whole payload written. -/
theorem stage_read (b : Memref sig .scVector .vmem S16000 .f32) (g : b.view.ty.Contents (Elt F)) (p : S16000.Idx → Elt F .f32)
    (ws : List (View.Piece (Elt F) S16000 .f32)) (x : S16000.Idx) :
    ReadAs.same.apply (b.view.read (Elt F) (b.view.writes (Elt F) g (⟨Rect.whole S16000, p⟩ :: ws))) x = p x := by
  have h := View.read_writes_cons_emb b.view g (Rect.whole S16000) p ws x
  rwa [Rect.emb_whole_apply] at h

/-- A window written whole with a payload that agrees with `h` there is the window at `h`. -/
theorem window_at (d : Dev nD) (L : grid0.Coords) {s : Shape} {sp : Space} (w : Memref sig .scVector sp s .f32) (f h : Buf (Elt F) (w.view.loc (VT d L))) (p : s.Idx → Elt F .f32)
    (hp : ∀ x, View.read (Elt F) w.view h x = p x) :
    (w.view.loc (VT d L) ↦[w.view.set]{fullShare} w.view.writes (Elt F) f [⟨Rect.whole s, p⟩] : sProp 𝕄) = w.view.loc (VT d L) ↦[w.view.set]{fullShare} h :=
  pointsTo_congr fun i hi => by
    obtain ⟨x, -, rfl⟩ := Finset.mem_map.mp hi
    have h1 := congrFun (View.read_writes_whole w.view f p) x
    have h2 := hp x
    rw [View.read_apply] at h1 h2
    exact (cast_inj _).mp (h1.trans h2.symm)

/-- A chunk of the flat target agrees with its window of the second output. -/
theorem tgt_chunk (ft : S5120000.Idx → Elt F .f32) (off : Fin 1 → Nat)
    (io : ∀ a, off a + S16000.size a ≤ S5120000.size a) (x : S16000.Idx) :
    View.read (Elt F) ((uV).slice (Rect.unit (s := S5120000) off S16000.size io) (fun _ => rfl)).view ft x
      = View.read (Elt F) ((tV).slice (Rect.unit (s := S5120000) off S16000.size io) (fun _ => rfl)).view ft x := rfl

/-- The task's place among the thirty-two, as its own words name it. -/
abbrev wid (L : grid0.Coords) : Nat := 2 * (L 1).val + (L 0).val

theorem o3_eq (L : grid0.Coords) (r : Fin 6) : k0_off3 L (BitVec.ofNat 32 (16000 * r.val)) 0 = 320000 * wid L + 16000 * r.val := by
  rw [k0_off3_eq L r]; show 640000 * (L 1).val + 320000 * (L 0).val + 16000 * r.val = _; unfold wid; omega
theorem o6_eq (L : grid0.Coords) (r : Fin 17) : k0_off6 L (BitVec.ofNat 32 (48000 + 16000 * r.val)) 0 = 320000 * wid L + 16000 * (r.val + 3) := by
  rw [k0_off6_eq L r]; show 640000 * (L 1).val + 320000 * (L 0).val + 16000 * r.val + 48000 = _; unfold wid; omega
theorem o7_eq (L : grid0.Coords) (r : Fin 10) : k0_off7 L (BitVec.ofNat 32 (16000 * r.val)) 0 = 160000 * wid L + 16000 * r.val := by
  rw [k0_off7_eq L r]; show 320000 * (L 1).val + 160000 * (L 0).val + 16000 * r.val = _; unfold wid; omega

/-- A chunk of the flat source agrees with the output's window it is copied to. -/
theorem out_chunk (fc : S32x16.Idx → BitVec 32) (fs : S10240000.Idx → Elt F .f32) (w j r k : Nat) (v : BitVec 32) (hw : w < 32) (hj : j < 2) (hr : r < 10)
    (hk : k = 10 * j + r) (hv : v = fc (rowIx w j)) (hlt : v.toNat < 64)
    (offo offs : Fin 1 → Nat) (ho : offo 0 = 320000 * w + 16000 * k) (hs : offs 0 = v.toNat * 160000 + 16000 * r)
    (io : ∀ a, offo a + S16000.size a ≤ S10240000.size a) (is : ∀ a, offs a + S16000.size a ≤ S10240000.size a)
    (b : Memref sig .scVector .vmem S16000 .f32) (g : b.view.ty.Contents (Elt F)) (ws : List (View.Piece (Elt F) S16000 .f32)) (x : S16000.Idx) :
    View.read (Elt F) ((oV).slice (Rect.unit (s := S10240000) offo S16000.size io) (fun _ => rfl)).view (OUT fc fs) x
      = ReadAs.same.apply (b.view.read (Elt F) (b.view.writes (Elt F) g
          (⟨Rect.whole S16000, ReadAs.same.apply (View.read (Elt F) ((sV).slice (Rect.unit (s := S10240000) offs S16000.size is) (fun _ => rfl)).view fs)⟩ :: ws))) x := by
  have hx : (x 0).val < 16000 := (x 0).isLt
  refine Eq.trans ?_ (stage_read b g _ ws x).symm
  show _ = View.read (Elt F) ((sV).slice (Rect.unit (s := S10240000) offs S16000.size is) (fun _ => rfl)).view fs x
  rw [View.read_apply, View.read_apply]
  show fs (sIx (srcOf fc (offo 0 + 1 * (x 0).val))) = fs _
  congr 1; funext a
  match a with
  | 0 =>
    apply Fin.ext
    show srcOf fc (offo 0 + 1 * (x 0).val) % 10240000 = offs 0 + 1 * (x 0).val
    have e1 : (offo 0 + 1 * (x 0).val) / 320000 = w := by rw [ho]; omega
    have e2 : (offo 0 + 1 * (x 0).val) / 160000 % 2 = j := by rw [ho]; omega
    have e3 : (offo 0 + 1 * (x 0).val) % 160000 = 16000 * r + (x 0).val := by rw [ho]; omega
    rw [srcOf, e1, e2, e3, hs, ← hv]
    omega

end Cert.Proof.Tile

end
-- ==== Proof.Pieces.lean ====
/-
  The pieces the launch deals the thirty-two tasks, and the five arrays as those pieces.
-/
module

public import proofs.«01_k».proof.Proof.Values

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The chunks of the two outputs -/

theorem unit_congr {s : Shape} {off off' sz : Fin s.rank → Nat} (h : off = off') (i₁ : ∀ a, off a + sz a ≤ s.size a) (i₂ : ∀ a, off' a + sz a ≤ s.size a) :
    Rect.unit (s := s) off sz i₁ = Rect.unit off' sz i₂ := by subst h; rfl

/-- Where chunk `k` of task `(c, i)`'s block of the first output begins; -/
abbrev oOff (p : (Fin 2 × Fin 16) × Fin 20) : Fin 1 → Nat := ![320000 * (2 * p.1.2.val + p.1.1.val) + 16000 * p.2.val]
/-- and of the second. -/
abbrev uOff (p : (Fin 2 × Fin 16) × Fin 10) : Fin 1 → Nat := ![160000 * (2 * p.1.2.val + p.1.1.val) + 16000 * p.2.val]
theorem oOff_inb (p : (Fin 2 × Fin 16) × Fin 20) : ∀ a, oOff p a + S16000.size a ≤ S10240000.size a := by
  have := p.1.1.isLt; have := p.1.2.isLt; have := p.2.isLt
  intro a
  match a with
  | 0 => show 320000 * (2 * p.1.2.val + p.1.1.val) + 16000 * p.2.val + 16000 ≤ 10240000; omega
theorem uOff_inb (p : (Fin 2 × Fin 16) × Fin 10) : ∀ a, uOff p a + S16000.size a ≤ S5120000.size a := by
  have := p.1.1.isLt; have := p.1.2.isLt; have := p.2.isLt
  intro a
  match a with
  | 0 => show 160000 * (2 * p.1.2.val + p.1.1.val) + 16000 * p.2.val + 16000 ≤ 5120000; omega
abbrev oRect (p : (Fin 2 × Fin 16) × Fin 20) : Rect S10240000 := Rect.unit (s := S10240000) (oOff p) S16000.size (oOff_inb p)
abbrev uRect (p : (Fin 2 × Fin 16) × Fin 10) : Rect S5120000 := Rect.unit (s := S5120000) (uOff p) S16000.size (uOff_inb p)
def oSet (p : (Fin 2 × Fin 16) × Fin 20) : Finset S10240000.Idx := ((oV).view.slice (oRect p)).set
def uSet (p : (Fin 2 × Fin 16) × Fin 10) : Finset S5120000.Idx := ((uV).view.slice (uRect p)).set
theorem oSet_eq (p : (Fin 2 × Fin 16) × Fin 20) : oSet p = (oRect p).set := by
  show ((View.whole (main_v2_0_scv : Ref sig .scVector)).slice (oRect p)).set = _
  rw [View.set_slice]; exact Finset.map_refl
theorem uSet_eq (p : (Fin 2 × Fin 16) × Fin 10) : uSet p = (uRect p).set := by
  show ((View.whole (main_v2_1_scv : Ref sig .scVector)).slice (uRect p)).set = _
  rw [View.set_slice]; exact Finset.map_refl

theorem mem_oSet (p : (Fin 2 × Fin 16) × Fin 20) (x : S10240000.Idx) :
    x ∈ oSet p ↔ 320000 * (2 * p.1.2.val + p.1.1.val) + 16000 * p.2.val ≤ (x 0).val ∧ (x 0).val < 320000 * (2 * p.1.2.val + p.1.1.val) + 16000 * p.2.val + 16000 := by
  rw [oSet_eq, Rect.mem_set_unit, Fin.forall_fin_one]; rfl
theorem mem_uSet (p : (Fin 2 × Fin 16) × Fin 10) (x : S5120000.Idx) :
    x ∈ uSet p ↔ 160000 * (2 * p.1.2.val + p.1.1.val) + 16000 * p.2.val ≤ (x 0).val ∧ (x 0).val < 160000 * (2 * p.1.2.val + p.1.1.val) + 16000 * p.2.val + 16000 := by
  rw [uSet_eq, Rect.mem_set_unit, Fin.forall_fin_one]; rfl

theorem oSet_disjoint : ∀ p ∈ (Finset.univ : Finset ((Fin 2 × Fin 16) × Fin 20)), ∀ p' ∈ (Finset.univ : Finset ((Fin 2 × Fin 16) × Fin 20)), p ≠ p' → Disjoint (oSet p) (oSet p') := by
  intro p _ p' _ h
  refine Finset.disjoint_left.mpr fun x hx hx' => h ?_
  rw [mem_oSet] at hx hx'
  have := p.1.1.isLt; have := p.1.2.isLt; have := p.2.isLt
  have := p'.1.1.isLt; have := p'.1.2.isLt; have := p'.2.isLt
  refine Prod.ext (Prod.ext (Fin.ext ?_) (Fin.ext ?_)) (Fin.ext ?_) <;> omega
theorem uSet_disjoint : ∀ p ∈ (Finset.univ : Finset ((Fin 2 × Fin 16) × Fin 10)), ∀ p' ∈ (Finset.univ : Finset ((Fin 2 × Fin 16) × Fin 10)), p ≠ p' → Disjoint (uSet p) (uSet p') := by
  intro p _ p' _ h
  refine Finset.disjoint_left.mpr fun x hx hx' => h ?_
  rw [mem_uSet] at hx hx'
  have := p.1.1.isLt; have := p.1.2.isLt; have := p.2.isLt
  have := p'.1.1.isLt; have := p'.1.2.isLt; have := p'.2.isLt
  refine Prod.ext (Prod.ext (Fin.ext ?_) (Fin.ext ?_)) (Fin.ext ?_) <;> omega
theorem oSet_cover : (Finset.univ : Finset ((Fin 2 × Fin 16) × Fin 20)).biUnion oSet = Finset.univ := by
  refine Finset.ext fun x => iff_of_true ?_ (Finset.mem_univ x)
  rw [Finset.mem_biUnion]
  have h0 : (x 0).val < 10240000 := (x 0).isLt
  refine ⟨((⟨(x 0).val / 320000 % 2, by omega⟩, ⟨(x 0).val / 640000, by omega⟩), ⟨(x 0).val % 320000 / 16000, by omega⟩), Finset.mem_univ _, ?_⟩
  rw [mem_oSet]; dsimp only; omega
theorem uSet_cover : (Finset.univ : Finset ((Fin 2 × Fin 16) × Fin 10)).biUnion uSet = Finset.univ := by
  refine Finset.ext fun x => iff_of_true ?_ (Finset.mem_univ x)
  rw [Finset.mem_biUnion]
  have h0 : (x 0).val < 5120000 := (x 0).isLt
  refine ⟨((⟨(x 0).val / 160000 % 2, by omega⟩, ⟨(x 0).val / 320000, by omega⟩), ⟨(x 0).val % 160000 / 16000, by omega⟩), Finset.mem_univ _, ?_⟩
  rw [mem_uSet]; dsimp only; omega

/-! ## What a task is dealt -/

/-- Task `(c, i)`'s share of each array all the tasks read. -/
abbrev shr (c : Fin 2) (i : Fin 16) : PosShare TreeShare := ShareLeaves.leaf 4 (ShareLeaves.leaf 1 fullShare c) i

/-- Task `(c, i)`'s pieces: its shares of the table, the source and the target, its chunks of the two outputs. -/
def GO (d : Dev nD) (fc : Buf (Elt F) (cLoc d)) (fs : Buf (Elt F) (sLoc d)) (ft : Buf (Elt F) (tLoc d)) (fo : Buf (Elt F) (oLoc d)) (fu : Buf (Elt F) (uLoc d))
    (c : Fin 2) (i : Fin 16) : sProp 𝕄 :=
  iprop((cLoc d ↦{shr c i} fc) ∗ (sLoc d ↦{shr c i} fs) ∗ (tLoc d ↦{shr c i} ft)
    ∗ (bigSep Finset.univ fun k : Fin 20 => oLoc d ↦[oSet ((c, i), k)]{fullShare} fo)
    ∗ (bigSep Finset.univ fun k : Fin 10 => uLoc d ↦[uSet ((c, i), k)]{fullShare} fu))

instance GO_storable (d : Dev nD) (fc : Buf (Elt F) (cLoc d)) (fs : Buf (Elt F) (sLoc d)) (ft : Buf (Elt F) (tLoc d)) (fo : Buf (Elt F) (oLoc d)) (fu : Buf (Elt F) (uLoc d))
    (c : Fin 2) (i : Fin 16) : BI.Storable (upEmb : UEmb _ 𝕄) (GO d fc fs ft fo fu c i) := by
  unfold GO; infer_instance

theorem shares_eq {ℓ : Loc nD τ sig} (f : Buf (Elt F) ℓ) :
    (ℓ ↦{fullShare} f : sProp 𝕄) = bigSep Finset.univ fun c : Fin 2 => bigSep Finset.univ fun i : Fin 16 => ℓ ↦{shr c i} f :=
  (ShareLeaves.pointsTo_leaves Finset.univ f 1 fullShare).trans
    (bigSep_congr fun c _ => ShareLeaves.pointsTo_leaves Finset.univ f 4 _)

theorem out_chunks (d : Dev nD) (f : Buf (Elt F) (oLoc d)) :
    (oLoc d ↦{fullShare} f : sProp 𝕄) = bigSep Finset.univ fun c : Fin 2 => bigSep Finset.univ fun i : Fin 16 => bigSep Finset.univ fun k : Fin 20 => oLoc d ↦[oSet ((c, i), k)]{fullShare} f := by
  have h : (oLoc d ↦{fullShare} f : sProp 𝕄) = bigSep Finset.univ fun p : (Fin 2 × Fin 16) × Fin 20 => oLoc d ↦[oSet p]{fullShare} f := by
    rw [← pointsTo_biUnion Finset.univ (ℓ := oLoc d) oSet oSet_disjoint, oSet_cover]; try rfl
  rw [h, BI.bigSep_univ_prod, BI.bigSep_univ_prod]
theorem tgt_chunks (d : Dev nD) (f : Buf (Elt F) (uLoc d)) :
    (uLoc d ↦{fullShare} f : sProp 𝕄) = bigSep Finset.univ fun c : Fin 2 => bigSep Finset.univ fun i : Fin 16 => bigSep Finset.univ fun k : Fin 10 => uLoc d ↦[uSet ((c, i), k)]{fullShare} f := by
  have h : (uLoc d ↦{fullShare} f : sProp 𝕄) = bigSep Finset.univ fun p : (Fin 2 × Fin 16) × Fin 10 => uLoc d ↦[uSet p]{fullShare} f := by
    rw [← pointsTo_biUnion Finset.univ (ℓ := uLoc d) uSet uSet_disjoint, uSet_cover]; try rfl
  rw [h, BI.bigSep_univ_prod, BI.bigSep_univ_prod]

/-- The five arrays whole are the thirty-two tasks' pieces. -/
theorem deal_eq (d : Dev nD) (fc : Buf (Elt F) (cLoc d)) (fs : Buf (Elt F) (sLoc d)) (ft : Buf (Elt F) (tLoc d)) (fo : Buf (Elt F) (oLoc d)) (fu : Buf (Elt F) (uLoc d)) :
    (bigSep Finset.univ fun c : Fin 2 => bigSep Finset.univ fun i : Fin 16 => GO d fc fs ft fo fu c i)
      = (iprop((cLoc d ↦{fullShare} fc) ∗ (sLoc d ↦{fullShare} fs) ∗ (tLoc d ↦{fullShare} ft) ∗ (oLoc d ↦{fullShare} fo) ∗ uLoc d ↦{fullShare} fu) : sProp 𝕄) := by
  unfold GO
  rw [bigSep_congr fun c _ => by rw [bigSep_sep', bigSep_sep', bigSep_sep', bigSep_sep'],
    bigSep_sep', bigSep_sep', bigSep_sep', bigSep_sep', ← shares_eq, ← shares_eq, ← shares_eq, ← out_chunks, ← tgt_chunks]

/-! ## The pieces in the body's spelling -/

section Spelling

variable (d : Dev nD) (L : grid0.Coords)

/-- The task's two coordinates. -/
abbrev cL (L : grid0.Coords) : Fin 2 := L 0
abbrev jL (L : grid0.Coords) : Fin 16 := L 1

theorem oWin_set (k : Fin 20) (off : Fin 1 → Nat) (io : ∀ a, off a + S16000.size a ≤ S10240000.size a) (h : off 0 = 320000 * wid L + 16000 * k.val) :
    oSet ((cL L, jL L), k) = ((oV).slice (Rect.unit (s := S10240000) off S16000.size io) (fun _ => rfl)).view.set := by
  show ((oV).view.slice (oRect ((cL L, jL L), k))).set = ((oV).view.slice (Rect.unit (s := S10240000) off S16000.size io)).set
  have e : oRect ((cL L, jL L), k) = Rect.unit (s := S10240000) off S16000.size io :=
    unit_congr (funext fun a => by match a with | 0 => exact h.symm) _ _
  rw [e]
theorem uWin_set (k : Fin 10) (off : Fin 1 → Nat) (io : ∀ a, off a + S16000.size a ≤ S5120000.size a) (h : off 0 = 160000 * wid L + 16000 * k.val) :
    uSet ((cL L, jL L), k) = ((uV).slice (Rect.unit (s := S5120000) off S16000.size io) (fun _ => rfl)).view.set := by
  show ((uV).view.slice (uRect ((cL L, jL L), k))).set = ((uV).view.slice (Rect.unit (s := S5120000) off S16000.size io)).set
  have e : uRect ((cL L, jL L), k) = Rect.unit (s := S5120000) off S16000.size io :=
    unit_congr (funext fun a => by match a with | 0 => exact h.symm) _ _
  rw [e]

theorem bigSep_fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide,
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    bigSep_singleton]
theorem bigSep_fin17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) := by
  rw [show (Finset.univ : Finset (Fin 17)) = {0, 1, 2, 3, 4, 5, 6, 7, 8, 9, 10, 11, 12, 13, 14, 15, 16} by decide,
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    bigSep_singleton]
theorem bigSep_fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) := by
  rw [show (Finset.univ : Finset (Fin 20)) = {0, 1, 2, 3, 4, 5, 6, 7, 8, 9, 10, 11, 12, 13, 14, 15, 16, 17, 18, 19} by decide,
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    bigSep_singleton]
theorem oW0 (f : Buf (Elt F) (oLoc d)) : (oLoc d ↦[oSet ((cL L, jL L), 0)]{fullShare} f : sProp 𝕄) = ((oC0 L).view.loc (VT d L) ↦[(oC0 L).view.set]{fullShare} f) :=
  congrArg (fun S => (oLoc d ↦[S]{fullShare} f : sProp 𝕄)) (oWin_set L 0 _ (k0_off3_inb L 0) (o3_eq L 0))
theorem oW1 (f : Buf (Elt F) (oLoc d)) : (oLoc d ↦[oSet ((cL L, jL L), 1)]{fullShare} f : sProp 𝕄) = ((oC1 L).view.loc (VT d L) ↦[(oC1 L).view.set]{fullShare} f) :=
  congrArg (fun S => (oLoc d ↦[S]{fullShare} f : sProp 𝕄)) (oWin_set L 1 _ (k0_off3_inb L 1) (o3_eq L 1))
theorem oW2 (f : Buf (Elt F) (oLoc d)) : (oLoc d ↦[oSet ((cL L, jL L), 2)]{fullShare} f : sProp 𝕄) = ((oC2 L).view.loc (VT d L) ↦[(oC2 L).view.set]{fullShare} f) :=
  congrArg (fun S => (oLoc d ↦[S]{fullShare} f : sProp 𝕄)) (oWin_set L 2 _ (k0_off3_inb L 2) (o3_eq L 2))
theorem oW3 (f : Buf (Elt F) (oLoc d)) : (oLoc d ↦[oSet ((cL L, jL L), 3)]{fullShare} f : sProp 𝕄) = ((oC3 L).view.loc (VT d L) ↦[(oC3 L).view.set]{fullShare} f) :=
  congrArg (fun S => (oLoc d ↦[S]{fullShare} f : sProp 𝕄)) (oWin_set L 3 _ (k0_off3_inb L 3) (o3_eq L 3))
theorem oW4 (f : Buf (Elt F) (oLoc d)) : (oLoc d ↦[oSet ((cL L, jL L), 4)]{fullShare} f : sProp 𝕄) = ((oC4 L).view.loc (VT d L) ↦[(oC4 L).view.set]{fullShare} f) :=
  congrArg (fun S => (oLoc d ↦[S]{fullShare} f : sProp 𝕄)) (oWin_set L 4 _ (k0_off3_inb L 4) (o3_eq L 4))
theorem oW5 (f : Buf (Elt F) (oLoc d)) : (oLoc d ↦[oSet ((cL L, jL L), 5)]{fullShare} f : sProp 𝕄) = ((oC5 L).view.loc (VT d L) ↦[(oC5 L).view.set]{fullShare} f) :=
  congrArg (fun S => (oLoc d ↦[S]{fullShare} f : sProp 𝕄)) (oWin_set L 5 _ (k0_off3_inb L 5) (o3_eq L 5))
theorem oW6 (f : Buf (Elt F) (oLoc d)) : (oLoc d ↦[oSet ((cL L, jL L), 6)]{fullShare} f : sProp 𝕄) = ((oC6 L).view.loc (VT d L) ↦[(oC6 L).view.set]{fullShare} f) :=
  congrArg (fun S => (oLoc d ↦[S]{fullShare} f : sProp 𝕄)) (oWin_set L 6 _ (k0_off6_inb L 3) (o6_eq L 3))
theorem oW7 (f : Buf (Elt F) (oLoc d)) : (oLoc d ↦[oSet ((cL L, jL L), 7)]{fullShare} f : sProp 𝕄) = ((oC7 L).view.loc (VT d L) ↦[(oC7 L).view.set]{fullShare} f) :=
  congrArg (fun S => (oLoc d ↦[S]{fullShare} f : sProp 𝕄)) (oWin_set L 7 _ (k0_off6_inb L 4) (o6_eq L 4))
theorem oW8 (f : Buf (Elt F) (oLoc d)) : (oLoc d ↦[oSet ((cL L, jL L), 8)]{fullShare} f : sProp 𝕄) = ((oC8 L).view.loc (VT d L) ↦[(oC8 L).view.set]{fullShare} f) :=
  congrArg (fun S => (oLoc d ↦[S]{fullShare} f : sProp 𝕄)) (oWin_set L 8 _ (k0_off6_inb L 5) (o6_eq L 5))
theorem oW9 (f : Buf (Elt F) (oLoc d)) : (oLoc d ↦[oSet ((cL L, jL L), 9)]{fullShare} f : sProp 𝕄) = ((oC9 L).view.loc (VT d L) ↦[(oC9 L).view.set]{fullShare} f) :=
  congrArg (fun S => (oLoc d ↦[S]{fullShare} f : sProp 𝕄)) (oWin_set L 9 _ (k0_off6_inb L 6) (o6_eq L 6))
theorem oW10 (f : Buf (Elt F) (oLoc d)) : (oLoc d ↦[oSet ((cL L, jL L), 10)]{fullShare} f : sProp 𝕄) = ((oC10 L).view.loc (VT d L) ↦[(oC10 L).view.set]{fullShare} f) :=
  congrArg (fun S => (oLoc d ↦[S]{fullShare} f : sProp 𝕄)) (oWin_set L 10 _ (k0_off6_inb L 7) (o6_eq L 7))
theorem oW11 (f : Buf (Elt F) (oLoc d)) : (oLoc d ↦[oSet ((cL L, jL L), 11)]{fullShare} f : sProp 𝕄) = ((oC11 L).view.loc (VT d L) ↦[(oC11 L).view.set]{fullShare} f) :=
  congrArg (fun S => (oLoc d ↦[S]{fullShare} f : sProp 𝕄)) (oWin_set L 11 _ (k0_off6_inb L 8) (o6_eq L 8))
theorem oW12 (f : Buf (Elt F) (oLoc d)) : (oLoc d ↦[oSet ((cL L, jL L), 12)]{fullShare} f : sProp 𝕄) = ((oC12 L).view.loc (VT d L) ↦[(oC12 L).view.set]{fullShare} f) :=
  congrArg (fun S => (oLoc d ↦[S]{fullShare} f : sProp 𝕄)) (oWin_set L 12 _ (k0_off6_inb L 9) (o6_eq L 9))
theorem oW13 (f : Buf (Elt F) (oLoc d)) : (oLoc d ↦[oSet ((cL L, jL L), 13)]{fullShare} f : sProp 𝕄) = ((oC13 L).view.loc (VT d L) ↦[(oC13 L).view.set]{fullShare} f) :=
  congrArg (fun S => (oLoc d ↦[S]{fullShare} f : sProp 𝕄)) (oWin_set L 13 _ (k0_off6_inb L 10) (o6_eq L 10))
theorem oW14 (f : Buf (Elt F) (oLoc d)) : (oLoc d ↦[oSet ((cL L, jL L), 14)]{fullShare} f : sProp 𝕄) = ((oC14 L).view.loc (VT d L) ↦[(oC14 L).view.set]{fullShare} f) :=
  congrArg (fun S => (oLoc d ↦[S]{fullShare} f : sProp 𝕄)) (oWin_set L 14 _ (k0_off6_inb L 11) (o6_eq L 11))
theorem oW15 (f : Buf (Elt F) (oLoc d)) : (oLoc d ↦[oSet ((cL L, jL L), 15)]{fullShare} f : sProp 𝕄) = ((oC15 L).view.loc (VT d L) ↦[(oC15 L).view.set]{fullShare} f) :=
  congrArg (fun S => (oLoc d ↦[S]{fullShare} f : sProp 𝕄)) (oWin_set L 15 _ (k0_off6_inb L 12) (o6_eq L 12))
theorem oW16 (f : Buf (Elt F) (oLoc d)) : (oLoc d ↦[oSet ((cL L, jL L), 16)]{fullShare} f : sProp 𝕄) = ((oC16 L).view.loc (VT d L) ↦[(oC16 L).view.set]{fullShare} f) :=
  congrArg (fun S => (oLoc d ↦[S]{fullShare} f : sProp 𝕄)) (oWin_set L 16 _ (k0_off6_inb L 13) (o6_eq L 13))
theorem oW17 (f : Buf (Elt F) (oLoc d)) : (oLoc d ↦[oSet ((cL L, jL L), 17)]{fullShare} f : sProp 𝕄) = ((oC17 L).view.loc (VT d L) ↦[(oC17 L).view.set]{fullShare} f) :=
  congrArg (fun S => (oLoc d ↦[S]{fullShare} f : sProp 𝕄)) (oWin_set L 17 _ (k0_off6_inb L 14) (o6_eq L 14))
theorem oW18 (f : Buf (Elt F) (oLoc d)) : (oLoc d ↦[oSet ((cL L, jL L), 18)]{fullShare} f : sProp 𝕄) = ((oC18 L).view.loc (VT d L) ↦[(oC18 L).view.set]{fullShare} f) :=
  congrArg (fun S => (oLoc d ↦[S]{fullShare} f : sProp 𝕄)) (oWin_set L 18 _ (k0_off6_inb L 15) (o6_eq L 15))
theorem oW19 (f : Buf (Elt F) (oLoc d)) : (oLoc d ↦[oSet ((cL L, jL L), 19)]{fullShare} f : sProp 𝕄) = ((oC19 L).view.loc (VT d L) ↦[(oC19 L).view.set]{fullShare} f) :=
  congrArg (fun S => (oLoc d ↦[S]{fullShare} f : sProp 𝕄)) (oWin_set L 19 _ (k0_off6_inb L 16) (o6_eq L 16))
theorem uW0 (f : Buf (Elt F) (uLoc d)) : (uLoc d ↦[uSet ((cL L, jL L), 0)]{fullShare} f : sProp 𝕄) = ((uC0 L).view.loc (VT d L) ↦[(uC0 L).view.set]{fullShare} f) :=
  congrArg (fun S => (uLoc d ↦[S]{fullShare} f : sProp 𝕄)) (uWin_set L 0 _ (k0_off7_inb L 0) (o7_eq L 0))
theorem uW1 (f : Buf (Elt F) (uLoc d)) : (uLoc d ↦[uSet ((cL L, jL L), 1)]{fullShare} f : sProp 𝕄) = ((uC1 L).view.loc (VT d L) ↦[(uC1 L).view.set]{fullShare} f) :=
  congrArg (fun S => (uLoc d ↦[S]{fullShare} f : sProp 𝕄)) (uWin_set L 1 _ (k0_off7_inb L 1) (o7_eq L 1))
theorem uW2 (f : Buf (Elt F) (uLoc d)) : (uLoc d ↦[uSet ((cL L, jL L), 2)]{fullShare} f : sProp 𝕄) = ((uC2 L).view.loc (VT d L) ↦[(uC2 L).view.set]{fullShare} f) :=
  congrArg (fun S => (uLoc d ↦[S]{fullShare} f : sProp 𝕄)) (uWin_set L 2 _ (k0_off7_inb L 2) (o7_eq L 2))
theorem uW3 (f : Buf (Elt F) (uLoc d)) : (uLoc d ↦[uSet ((cL L, jL L), 3)]{fullShare} f : sProp 𝕄) = ((uC3 L).view.loc (VT d L) ↦[(uC3 L).view.set]{fullShare} f) :=
  congrArg (fun S => (uLoc d ↦[S]{fullShare} f : sProp 𝕄)) (uWin_set L 3 _ (k0_off7_inb L 3) (o7_eq L 3))
theorem uW4 (f : Buf (Elt F) (uLoc d)) : (uLoc d ↦[uSet ((cL L, jL L), 4)]{fullShare} f : sProp 𝕄) = ((uC4 L).view.loc (VT d L) ↦[(uC4 L).view.set]{fullShare} f) :=
  congrArg (fun S => (uLoc d ↦[S]{fullShare} f : sProp 𝕄)) (uWin_set L 4 _ (k0_off7_inb L 4) (o7_eq L 4))
theorem uW5 (f : Buf (Elt F) (uLoc d)) : (uLoc d ↦[uSet ((cL L, jL L), 5)]{fullShare} f : sProp 𝕄) = ((uC5 L).view.loc (VT d L) ↦[(uC5 L).view.set]{fullShare} f) :=
  congrArg (fun S => (uLoc d ↦[S]{fullShare} f : sProp 𝕄)) (uWin_set L 5 _ (k0_off7_inb L 5) (o7_eq L 5))
theorem uW6 (f : Buf (Elt F) (uLoc d)) : (uLoc d ↦[uSet ((cL L, jL L), 6)]{fullShare} f : sProp 𝕄) = ((uC6 L).view.loc (VT d L) ↦[(uC6 L).view.set]{fullShare} f) :=
  congrArg (fun S => (uLoc d ↦[S]{fullShare} f : sProp 𝕄)) (uWin_set L 6 _ (k0_off7_inb L 6) (o7_eq L 6))
theorem uW7 (f : Buf (Elt F) (uLoc d)) : (uLoc d ↦[uSet ((cL L, jL L), 7)]{fullShare} f : sProp 𝕄) = ((uC7 L).view.loc (VT d L) ↦[(uC7 L).view.set]{fullShare} f) :=
  congrArg (fun S => (uLoc d ↦[S]{fullShare} f : sProp 𝕄)) (uWin_set L 7 _ (k0_off7_inb L 7) (o7_eq L 7))
theorem uW8 (f : Buf (Elt F) (uLoc d)) : (uLoc d ↦[uSet ((cL L, jL L), 8)]{fullShare} f : sProp 𝕄) = ((uC8 L).view.loc (VT d L) ↦[(uC8 L).view.set]{fullShare} f) :=
  congrArg (fun S => (uLoc d ↦[S]{fullShare} f : sProp 𝕄)) (uWin_set L 8 _ (k0_off7_inb L 8) (o7_eq L 8))
theorem uW9 (f : Buf (Elt F) (uLoc d)) : (uLoc d ↦[uSet ((cL L, jL L), 9)]{fullShare} f : sProp 𝕄) = ((uC9 L).view.loc (VT d L) ↦[(uC9 L).view.set]{fullShare} f) :=
  congrArg (fun S => (uLoc d ↦[S]{fullShare} f : sProp 𝕄)) (uWin_set L 9 _ (k0_off7_inb L 9) (o7_eq L 9))
/-- The task's chunks of the first output are its body's twenty windows; -/
theorem oWins_eq (f : Buf (Elt F) (oLoc d)) :
    (bigSep Finset.univ fun k : Fin 20 => (oLoc d ↦[oSet ((cL L, jL L), k)]{fullShare} f : sProp 𝕄))
      = iprop(((oC0 L).view.loc (VT d L) ↦[(oC0 L).view.set]{fullShare} f)
        ∗ ((oC1 L).view.loc (VT d L) ↦[(oC1 L).view.set]{fullShare} f)
        ∗ ((oC2 L).view.loc (VT d L) ↦[(oC2 L).view.set]{fullShare} f)
        ∗ ((oC3 L).view.loc (VT d L) ↦[(oC3 L).view.set]{fullShare} f)
        ∗ ((oC4 L).view.loc (VT d L) ↦[(oC4 L).view.set]{fullShare} f)
        ∗ ((oC5 L).view.loc (VT d L) ↦[(oC5 L).view.set]{fullShare} f)
        ∗ ((oC6 L).view.loc (VT d L) ↦[(oC6 L).view.set]{fullShare} f)
        ∗ ((oC7 L).view.loc (VT d L) ↦[(oC7 L).view.set]{fullShare} f)
        ∗ ((oC8 L).view.loc (VT d L) ↦[(oC8 L).view.set]{fullShare} f)
        ∗ ((oC9 L).view.loc (VT d L) ↦[(oC9 L).view.set]{fullShare} f)
        ∗ ((oC10 L).view.loc (VT d L) ↦[(oC10 L).view.set]{fullShare} f)
        ∗ ((oC11 L).view.loc (VT d L) ↦[(oC11 L).view.set]{fullShare} f)
        ∗ ((oC12 L).view.loc (VT d L) ↦[(oC12 L).view.set]{fullShare} f)
        ∗ ((oC13 L).view.loc (VT d L) ↦[(oC13 L).view.set]{fullShare} f)
        ∗ ((oC14 L).view.loc (VT d L) ↦[(oC14 L).view.set]{fullShare} f)
        ∗ ((oC15 L).view.loc (VT d L) ↦[(oC15 L).view.set]{fullShare} f)
        ∗ ((oC16 L).view.loc (VT d L) ↦[(oC16 L).view.set]{fullShare} f)
        ∗ ((oC17 L).view.loc (VT d L) ↦[(oC17 L).view.set]{fullShare} f)
        ∗ ((oC18 L).view.loc (VT d L) ↦[(oC18 L).view.set]{fullShare} f)
        ∗ ((oC19 L).view.loc (VT d L) ↦[(oC19 L).view.set]{fullShare} f)) := by
  exact (bigSep_fin20 _).trans (congrArg₂ BIBase.sep (oW0 d L f)
    (congrArg₂ BIBase.sep (oW1 d L f)
    (congrArg₂ BIBase.sep (oW2 d L f)
    (congrArg₂ BIBase.sep (oW3 d L f)
    (congrArg₂ BIBase.sep (oW4 d L f)
    (congrArg₂ BIBase.sep (oW5 d L f)
    (congrArg₂ BIBase.sep (oW6 d L f)
    (congrArg₂ BIBase.sep (oW7 d L f)
    (congrArg₂ BIBase.sep (oW8 d L f)
    (congrArg₂ BIBase.sep (oW9 d L f)
    (congrArg₂ BIBase.sep (oW10 d L f)
    (congrArg₂ BIBase.sep (oW11 d L f)
    (congrArg₂ BIBase.sep (oW12 d L f)
    (congrArg₂ BIBase.sep (oW13 d L f)
    (congrArg₂ BIBase.sep (oW14 d L f)
    (congrArg₂ BIBase.sep (oW15 d L f)
    (congrArg₂ BIBase.sep (oW16 d L f)
    (congrArg₂ BIBase.sep (oW17 d L f)
    (congrArg₂ BIBase.sep (oW18 d L f)
    (oW19 d L f))))))))))))))))))))
/-- and of the second, its ten. -/
theorem uWins_eq (f : Buf (Elt F) (uLoc d)) :
    (bigSep Finset.univ fun k : Fin 10 => (uLoc d ↦[uSet ((cL L, jL L), k)]{fullShare} f : sProp 𝕄))
      = iprop(((uC0 L).view.loc (VT d L) ↦[(uC0 L).view.set]{fullShare} f)
        ∗ ((uC1 L).view.loc (VT d L) ↦[(uC1 L).view.set]{fullShare} f)
        ∗ ((uC2 L).view.loc (VT d L) ↦[(uC2 L).view.set]{fullShare} f)
        ∗ ((uC3 L).view.loc (VT d L) ↦[(uC3 L).view.set]{fullShare} f)
        ∗ ((uC4 L).view.loc (VT d L) ↦[(uC4 L).view.set]{fullShare} f)
        ∗ ((uC5 L).view.loc (VT d L) ↦[(uC5 L).view.set]{fullShare} f)
        ∗ ((uC6 L).view.loc (VT d L) ↦[(uC6 L).view.set]{fullShare} f)
        ∗ ((uC7 L).view.loc (VT d L) ↦[(uC7 L).view.set]{fullShare} f)
        ∗ ((uC8 L).view.loc (VT d L) ↦[(uC8 L).view.set]{fullShare} f)
        ∗ ((uC9 L).view.loc (VT d L) ↦[(uC9 L).view.set]{fullShare} f)) := by
  exact (bigSep_fin10 _).trans (congrArg₂ BIBase.sep (uW0 d L f)
    (congrArg₂ BIBase.sep (uW1 d L f)
    (congrArg₂ BIBase.sep (uW2 d L f)
    (congrArg₂ BIBase.sep (uW3 d L f)
    (congrArg₂ BIBase.sep (uW4 d L f)
    (congrArg₂ BIBase.sep (uW5 d L f)
    (congrArg₂ BIBase.sep (uW6 d L f)
    (congrArg₂ BIBase.sep (uW7 d L f)
    (congrArg₂ BIBase.sep (uW8 d L f)
    (uW9 d L f))))))))))

/-- A share of an array as what stays behind and eight read tokens. -/
theorem toks_eq {ℓ : Loc nD τ sig} (q : PosShare TreeShare) (f : Buf (Elt F) ℓ) :
    (ℓ ↦{q} f : sProp 𝕄) = iprop((ℓ ↦{Transfers.shareDrop q 8} f)
        ∗ (ℓ ↦{Transfers.shareTokN q 0} f)
        ∗ (ℓ ↦{Transfers.shareTokN q 1} f)
        ∗ (ℓ ↦{Transfers.shareTokN q 2} f)
        ∗ (ℓ ↦{Transfers.shareTokN q 3} f)
        ∗ (ℓ ↦{Transfers.shareTokN q 4} f)
        ∗ (ℓ ↦{Transfers.shareTokN q 5} f)
        ∗ (ℓ ↦{Transfers.shareTokN q 6} f)
        ∗ (ℓ ↦{Transfers.shareTokN q 7} f)) := by
  have h : (ℓ ↦{q} f : sProp 𝕄) ⊣⊢ iprop((ℓ ↦{Transfers.shareDrop q 8} f) ∗ bigSep (Finset.range 8) fun i => ℓ ↦{Transfers.shareTokN q i} f) :=
    Transfers.pointsTo_toks_range (ℓ := ℓ) (S := Finset.univ) (f := f) q 8
  rw [BI.Entails.antisymm h.1 h.2, show Finset.range 8 = {0, 1, 2, 3, 4, 5, 6, 7} by decide,
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    bigSep_singleton]

/-- Cell `k` of the subcore, as the body names it. -/
abbrev dcell (d : Dev nD) (c : Fin τ.nSC) (i : Fin τ.nSub) (k : Fin 17) : GSem nD τ sig := (V d c i, .dma (csem k.val k.isLt))
theorem dcell_mem (c : Fin τ.nSC) (i : Fin τ.nSub) (k : Fin 17) : dcell d c i k ∈ ownCells (V d c i) :=
  mem_ownCells.mpr ⟨rfl, (show ∀ s : DmaSem sig, (SemLoc.dma s : SemLoc sig).isScoped .scVector = true by decide) _⟩

/-- The subcore's own cells at zero: the seventeen the task names, one by one, and the rest. -/
theorem ownSems0_V :
    (ownSems0 (VT d L) : sProp 𝕄)
      = iprop((semVal (VT d L, SemLoc.dma (csem 0)) 0 ∗ semVal (VT d L, SemLoc.dma (csem 1)) 0 ∗ semVal (VT d L, SemLoc.dma (csem 2)) 0 ∗ semVal (VT d L, SemLoc.dma (csem 3)) 0 ∗ semVal (VT d L, SemLoc.dma (csem 4)) 0 ∗ semVal (VT d L, SemLoc.dma (csem 5)) 0 ∗ semVal (VT d L, SemLoc.dma (csem 6)) 0 ∗ semVal (VT d L, SemLoc.dma (csem 7)) 0 ∗ semVal (VT d L, SemLoc.dma (csem 8)) 0 ∗ semVal (VT d L, SemLoc.dma (csem 9)) 0 ∗ semVal (VT d L, SemLoc.dma (csem 10)) 0 ∗ semVal (VT d L, SemLoc.dma (csem 11)) 0 ∗ semVal (VT d L, SemLoc.dma (csem 12)) 0 ∗ semVal (VT d L, SemLoc.dma (csem 13)) 0 ∗ semVal (VT d L, SemLoc.dma (csem 14)) 0 ∗ semVal (VT d L, SemLoc.dma (csem 15)) 0 ∗ semVal (VT d L, SemLoc.dma (csem 16)) 0)
          ∗ bigSep ((ownCells (VT d L)) \ Finset.univ.image (dcell d (cC L) (jC L))) fun g => semVal g 0) := by
  unfold SparseCore.Cfg.ownSems0
  rw [SparseCore.bigSep_sdiff_split' (t := Finset.univ.image (dcell d (cC L) (jC L)))
      (Finset.image_subset_iff.mpr fun k _ => dcell_mem d (cC L) (jC L) k),
    SparseCore.bigSep_image_of_injOn (fun a _ b _ h => by
      have := congrArg (fun g : GSem nD τ sig => g.2) h
      simp only [SemLoc.dma.injEq, Fin.mk.injEq] at this; exact Fin.ext this)]
  rw [bigSep_fin17]
  rfl

/-- The nine scratch buffers of a task. -/
abbrev scr : Finset (Ref sig .scVector) := {cc0_scratch0, cc0_scratch1, cc0_scratch2, cc0_scratch3, cc0_scratch4, cc0_scratch5, cc0_scratch6, cc0_scratch7, cc0_scratch8}
theorem scr_sep (Φ : Ref sig .scVector → sProp 𝕄) : bigSep scr Φ = iprop(Φ cc0_scratch0 ∗ Φ cc0_scratch1 ∗ Φ cc0_scratch2 ∗ Φ cc0_scratch3 ∗ Φ cc0_scratch4 ∗ Φ cc0_scratch5 ∗ Φ cc0_scratch6 ∗ Φ cc0_scratch7 ∗ Φ cc0_scratch8) := by
  unfold scr
  rw [SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    SparseCore.bigSep_insert' (by decide),
    bigSep_singleton]
/-- The subcore's own buffers: the nine the task names, at some contents, and the rest. -/
theorem ownBufs_V :
    (ownBufs (VT d L) : sProp 𝕄)
      = iprop(((∃ f, (VT d L).loc cc0_scratch0 ↦{fullShare} f) ∗ (∃ f, (VT d L).loc cc0_scratch1 ↦{fullShare} f) ∗ (∃ f, (VT d L).loc cc0_scratch2 ↦{fullShare} f) ∗ (∃ f, (VT d L).loc cc0_scratch3 ↦{fullShare} f) ∗ (∃ f, (VT d L).loc cc0_scratch4 ↦{fullShare} f) ∗ (∃ f, (VT d L).loc cc0_scratch5 ↦{fullShare} f) ∗ (∃ f, (VT d L).loc cc0_scratch6 ↦{fullShare} f) ∗ (∃ f, (VT d L).loc cc0_scratch7 ↦{fullShare} f) ∗ (∃ f, (VT d L).loc cc0_scratch8 ↦{fullShare} f))
          ∗ bigSep ((ownRefs (τ := τ) (.scVector (cC L) (jC L))) \ scr.image (Proc.scVector (cC L) (jC L)).devRef)
              fun b => iprop(∃ f, ((d, b) : Loc nD τ sig) ↦{fullShare} f)) := by
  unfold SparseCore.Cfg.ownBufs
  rw [SparseCore.bigSep_sdiff_split' (t := scr.image (Proc.scVector (cC L) (jC L)).devRef)
      (Finset.image_subset_iff.mpr fun b hb => SparseCore.Cfg.mem_ownRefs_of_owner (p := Proc.scVector (cC L) (jC L)) (by
        simp only [scr, Finset.mem_insert, Finset.mem_singleton] at hb
        rcases hb with rfl | rfl | rfl | rfl | rfl | rfl | rfl | rfl | rfl <;> rfl)),
    SparseCore.bigSep_image_of_injOn (fun a _ b _ h => Proc.devRef_injective _ h)]
  exact congrArg (fun X => iprop(X ∗ bigSep ((ownRefs (τ := τ) (.scVector (cC L) (jC L))) \ scr.image (Proc.scVector (cC L) (jC L)).devRef)
              fun b => iprop(∃ f, ((d, b) : Loc nD τ sig) ↦{fullShare} f)))
    (scr_sep fun b : Ref sig .scVector => iprop(∃ f, (VT d L).loc b ↦{fullShare} f))

end Spelling

end Cert.Proof.Tile

end
-- ==== Proof.Run.lean ====
/-
  One task's run, from the pieces the launch deals it to what it hands back.
-/
module

public import proofs.«01_k».proof.Proof.Values

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Run

variable (d : Dev nD) (L : grid0.Coords) (fc : Buf (Elt F) (cLoc d)) (fs : Buf (Elt F) (sLoc d)) (ft : Buf (Elt F) (tLoc d))

set_option maxHeartbeats 4000000 in
/-- The task's body run from its pieces. -/
theorem tile_run (hlt : ∀ i, (fc i).toNat < 64) (hk1 : k0_chk1 (word0 d L fc)) (hk2 : k0_chk2 (word1 d L fc)) (qc qs qt : PosShare TreeShare)
    (O : CellTallies nD τ sig (HIx 1)) (W : Waits sig (HIx 1)) (fo : Buf (Elt F) (oLoc d)) (fu : Buf (Elt F) (uLoc d))
    (gi : Buf (Elt F) ((iV).view.loc (VT d L)))
    (g0 : Buf (Elt F) ((bV0).view.loc (VT d L)))
    (g1 : Buf (Elt F) ((bV1).view.loc (VT d L)))
    (g2 : Buf (Elt F) ((bV2).view.loc (VT d L)))
    (g3 : Buf (Elt F) ((bV3).view.loc (VT d L)))
    (g4 : Buf (Elt F) ((bV4).view.loc (VT d L)))
    (g5 : Buf (Elt F) ((bV5).view.loc (VT d L)))
    (g6 : Buf (Elt F) ((bV6).view.loc (VT d L)))
    (g7 : Buf (Elt F) ((bV7).view.loc (VT d L))) :
    (iprop(Transfers.MayWaits (VT d L) (default : HIx 1) O
        ∗ ((cV).view.loc (VT d L) ↦{qc} fc)
        ∗ ((sV).view.loc (VT d L) ↦{Transfers.shareTokN qs 0} fs)
        ∗ ((sV).view.loc (VT d L) ↦{Transfers.shareTokN qs 1} fs)
        ∗ ((sV).view.loc (VT d L) ↦{Transfers.shareTokN qs 2} fs)
        ∗ ((sV).view.loc (VT d L) ↦{Transfers.shareTokN qs 3} fs)
        ∗ ((sV).view.loc (VT d L) ↦{Transfers.shareTokN qs 4} fs)
        ∗ ((sV).view.loc (VT d L) ↦{Transfers.shareTokN qs 5} fs)
        ∗ ((sV).view.loc (VT d L) ↦{Transfers.shareTokN qs 6} fs)
        ∗ ((sV).view.loc (VT d L) ↦{Transfers.shareTokN qs 7} fs)
        ∗ ((tV).view.loc (VT d L) ↦{Transfers.shareTokN qt 0} ft)
        ∗ ((tV).view.loc (VT d L) ↦{Transfers.shareTokN qt 1} ft)
        ∗ ((tV).view.loc (VT d L) ↦{Transfers.shareTokN qt 2} ft)
        ∗ ((tV).view.loc (VT d L) ↦{Transfers.shareTokN qt 3} ft)
        ∗ ((tV).view.loc (VT d L) ↦{Transfers.shareTokN qt 4} ft)
        ∗ ((tV).view.loc (VT d L) ↦{Transfers.shareTokN qt 5} ft)
        ∗ ((tV).view.loc (VT d L) ↦{Transfers.shareTokN qt 6} ft)
        ∗ ((tV).view.loc (VT d L) ↦{Transfers.shareTokN qt 7} ft)
        ∗ ((oC0 L).view.loc (VT d L) ↦[(oC0 L).view.set]{fullShare} fo)
        ∗ ((oC1 L).view.loc (VT d L) ↦[(oC1 L).view.set]{fullShare} fo)
        ∗ ((oC2 L).view.loc (VT d L) ↦[(oC2 L).view.set]{fullShare} fo)
        ∗ ((oC3 L).view.loc (VT d L) ↦[(oC3 L).view.set]{fullShare} fo)
        ∗ ((oC4 L).view.loc (VT d L) ↦[(oC4 L).view.set]{fullShare} fo)
        ∗ ((oC5 L).view.loc (VT d L) ↦[(oC5 L).view.set]{fullShare} fo)
        ∗ ((oC6 L).view.loc (VT d L) ↦[(oC6 L).view.set]{fullShare} fo)
        ∗ ((oC7 L).view.loc (VT d L) ↦[(oC7 L).view.set]{fullShare} fo)
        ∗ ((oC8 L).view.loc (VT d L) ↦[(oC8 L).view.set]{fullShare} fo)
        ∗ ((oC9 L).view.loc (VT d L) ↦[(oC9 L).view.set]{fullShare} fo)
        ∗ ((oC10 L).view.loc (VT d L) ↦[(oC10 L).view.set]{fullShare} fo)
        ∗ ((oC11 L).view.loc (VT d L) ↦[(oC11 L).view.set]{fullShare} fo)
        ∗ ((oC12 L).view.loc (VT d L) ↦[(oC12 L).view.set]{fullShare} fo)
        ∗ ((oC13 L).view.loc (VT d L) ↦[(oC13 L).view.set]{fullShare} fo)
        ∗ ((oC14 L).view.loc (VT d L) ↦[(oC14 L).view.set]{fullShare} fo)
        ∗ ((oC15 L).view.loc (VT d L) ↦[(oC15 L).view.set]{fullShare} fo)
        ∗ ((oC16 L).view.loc (VT d L) ↦[(oC16 L).view.set]{fullShare} fo)
        ∗ ((oC17 L).view.loc (VT d L) ↦[(oC17 L).view.set]{fullShare} fo)
        ∗ ((oC18 L).view.loc (VT d L) ↦[(oC18 L).view.set]{fullShare} fo)
        ∗ ((oC19 L).view.loc (VT d L) ↦[(oC19 L).view.set]{fullShare} fo)
        ∗ ((uC0 L).view.loc (VT d L) ↦[(uC0 L).view.set]{fullShare} fu)
        ∗ ((uC1 L).view.loc (VT d L) ↦[(uC1 L).view.set]{fullShare} fu)
        ∗ ((uC2 L).view.loc (VT d L) ↦[(uC2 L).view.set]{fullShare} fu)
        ∗ ((uC3 L).view.loc (VT d L) ↦[(uC3 L).view.set]{fullShare} fu)
        ∗ ((uC4 L).view.loc (VT d L) ↦[(uC4 L).view.set]{fullShare} fu)
        ∗ ((uC5 L).view.loc (VT d L) ↦[(uC5 L).view.set]{fullShare} fu)
        ∗ ((uC6 L).view.loc (VT d L) ↦[(uC6 L).view.set]{fullShare} fu)
        ∗ ((uC7 L).view.loc (VT d L) ↦[(uC7 L).view.set]{fullShare} fu)
        ∗ ((uC8 L).view.loc (VT d L) ↦[(uC8 L).view.set]{fullShare} fu)
        ∗ ((uC9 L).view.loc (VT d L) ↦[(uC9 L).view.set]{fullShare} fu)
        ∗ ((iV).view.loc (VT d L) ↦[(iV).view.set]{fullShare} gi)
        ∗ ((bV0).view.loc (VT d L) ↦[(bV0).view.set]{fullShare} g0)
        ∗ ((bV1).view.loc (VT d L) ↦[(bV1).view.set]{fullShare} g1)
        ∗ ((bV2).view.loc (VT d L) ↦[(bV2).view.set]{fullShare} g2)
        ∗ ((bV3).view.loc (VT d L) ↦[(bV3).view.set]{fullShare} g3)
        ∗ ((bV4).view.loc (VT d L) ↦[(bV4).view.set]{fullShare} g4)
        ∗ ((bV5).view.loc (VT d L) ↦[(bV5).view.set]{fullShare} g5)
        ∗ ((bV6).view.loc (VT d L) ↦[(bV6).view.set]{fullShare} g6)
        ∗ ((bV7).view.loc (VT d L) ↦[(bV7).view.set]{fullShare} g7)
        ∗ semVal (VT d L, SemLoc.dma (csem 0)) 0
        ∗ semVal (VT d L, SemLoc.dma (csem 1)) 0
        ∗ semVal (VT d L, SemLoc.dma (csem 2)) 0
        ∗ semVal (VT d L, SemLoc.dma (csem 3)) 0
        ∗ semVal (VT d L, SemLoc.dma (csem 4)) 0
        ∗ semVal (VT d L, SemLoc.dma (csem 5)) 0
        ∗ semVal (VT d L, SemLoc.dma (csem 6)) 0
        ∗ semVal (VT d L, SemLoc.dma (csem 7)) 0
        ∗ semVal (VT d L, SemLoc.dma (csem 8)) 0
        ∗ semVal (VT d L, SemLoc.dma (csem 9)) 0
        ∗ semVal (VT d L, SemLoc.dma (csem 10)) 0
        ∗ semVal (VT d L, SemLoc.dma (csem 11)) 0
        ∗ semVal (VT d L, SemLoc.dma (csem 12)) 0
        ∗ semVal (VT d L, SemLoc.dma (csem 13)) 0
        ∗ semVal (VT d L, SemLoc.dma (csem 14)) 0
        ∗ semVal (VT d L, SemLoc.dma (csem 15)) 0
        ∗ semVal (VT d L, SemLoc.dma (csem 16)) 0
        ∗ owes (VT d L) O W) : sProp 𝕄)
      ⊢ wp frame (wpE (defs₀ (F := F)) 𝒱₀ (VT d L) none) Set.univ
          (cc0__remix_copy L sV (Memref.isWhole_whole _) tV (Memref.isWhole_whole _) cV (Memref.isWhole_whole _) oV (Memref.isWhole_whole _) uV (Memref.isWhole_whole _) iV (Memref.isWhole_whole _) bV0 (Memref.isWhole_whole _) bV1 (Memref.isWhole_whole _) bV2 (Memref.isWhole_whole _) bV3 (Memref.isWhole_whole _) bV4 (Memref.isWhole_whole _) bV5 (Memref.isWhole_whole _) bV6 (Memref.isWhole_whole _) bV7 (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scoped0)
          fun _ => iprop(((cV).view.loc (VT d L) ↦{qc} fc)
            ∗ ((sV).view.loc (VT d L) ↦{Transfers.shareTokN qs 0} fs)
            ∗ ((sV).view.loc (VT d L) ↦{Transfers.shareTokN qs 1} fs)
            ∗ ((sV).view.loc (VT d L) ↦{Transfers.shareTokN qs 2} fs)
            ∗ ((sV).view.loc (VT d L) ↦{Transfers.shareTokN qs 3} fs)
            ∗ ((sV).view.loc (VT d L) ↦{Transfers.shareTokN qs 4} fs)
            ∗ ((sV).view.loc (VT d L) ↦{Transfers.shareTokN qs 5} fs)
            ∗ ((sV).view.loc (VT d L) ↦{Transfers.shareTokN qs 6} fs)
            ∗ ((sV).view.loc (VT d L) ↦{Transfers.shareTokN qs 7} fs)
            ∗ ((tV).view.loc (VT d L) ↦{Transfers.shareTokN qt 0} ft)
            ∗ ((tV).view.loc (VT d L) ↦{Transfers.shareTokN qt 1} ft)
            ∗ ((tV).view.loc (VT d L) ↦{Transfers.shareTokN qt 2} ft)
            ∗ ((tV).view.loc (VT d L) ↦{Transfers.shareTokN qt 3} ft)
            ∗ ((tV).view.loc (VT d L) ↦{Transfers.shareTokN qt 4} ft)
            ∗ ((tV).view.loc (VT d L) ↦{Transfers.shareTokN qt 5} ft)
            ∗ ((tV).view.loc (VT d L) ↦{Transfers.shareTokN qt 6} ft)
            ∗ ((tV).view.loc (VT d L) ↦{Transfers.shareTokN qt 7} ft)
            ∗ ((oC0 L).view.loc (VT d L) ↦[(oC0 L).view.set]{fullShare} OUT fc fs)
            ∗ ((oC1 L).view.loc (VT d L) ↦[(oC1 L).view.set]{fullShare} OUT fc fs)
            ∗ ((oC2 L).view.loc (VT d L) ↦[(oC2 L).view.set]{fullShare} OUT fc fs)
            ∗ ((oC3 L).view.loc (VT d L) ↦[(oC3 L).view.set]{fullShare} OUT fc fs)
            ∗ ((oC4 L).view.loc (VT d L) ↦[(oC4 L).view.set]{fullShare} OUT fc fs)
            ∗ ((oC5 L).view.loc (VT d L) ↦[(oC5 L).view.set]{fullShare} OUT fc fs)
            ∗ ((oC6 L).view.loc (VT d L) ↦[(oC6 L).view.set]{fullShare} OUT fc fs)
            ∗ ((oC7 L).view.loc (VT d L) ↦[(oC7 L).view.set]{fullShare} OUT fc fs)
            ∗ ((oC8 L).view.loc (VT d L) ↦[(oC8 L).view.set]{fullShare} OUT fc fs)
            ∗ ((oC9 L).view.loc (VT d L) ↦[(oC9 L).view.set]{fullShare} OUT fc fs)
            ∗ ((oC10 L).view.loc (VT d L) ↦[(oC10 L).view.set]{fullShare} OUT fc fs)
            ∗ ((oC11 L).view.loc (VT d L) ↦[(oC11 L).view.set]{fullShare} OUT fc fs)
            ∗ ((oC12 L).view.loc (VT d L) ↦[(oC12 L).view.set]{fullShare} OUT fc fs)
            ∗ ((oC13 L).view.loc (VT d L) ↦[(oC13 L).view.set]{fullShare} OUT fc fs)
            ∗ ((oC14 L).view.loc (VT d L) ↦[(oC14 L).view.set]{fullShare} OUT fc fs)
            ∗ ((oC15 L).view.loc (VT d L) ↦[(oC15 L).view.set]{fullShare} OUT fc fs)
            ∗ ((oC16 L).view.loc (VT d L) ↦[(oC16 L).view.set]{fullShare} OUT fc fs)
            ∗ ((oC17 L).view.loc (VT d L) ↦[(oC17 L).view.set]{fullShare} OUT fc fs)
            ∗ ((oC18 L).view.loc (VT d L) ↦[(oC18 L).view.set]{fullShare} OUT fc fs)
            ∗ ((oC19 L).view.loc (VT d L) ↦[(oC19 L).view.set]{fullShare} OUT fc fs)
            ∗ ((uC0 L).view.loc (VT d L) ↦[(uC0 L).view.set]{fullShare} ft)
            ∗ ((uC1 L).view.loc (VT d L) ↦[(uC1 L).view.set]{fullShare} ft)
            ∗ ((uC2 L).view.loc (VT d L) ↦[(uC2 L).view.set]{fullShare} ft)
            ∗ ((uC3 L).view.loc (VT d L) ↦[(uC3 L).view.set]{fullShare} ft)
            ∗ ((uC4 L).view.loc (VT d L) ↦[(uC4 L).view.set]{fullShare} ft)
            ∗ ((uC5 L).view.loc (VT d L) ↦[(uC5 L).view.set]{fullShare} ft)
            ∗ ((uC6 L).view.loc (VT d L) ↦[(uC6 L).view.set]{fullShare} ft)
            ∗ ((uC7 L).view.loc (VT d L) ↦[(uC7 L).view.set]{fullShare} ft)
            ∗ ((uC8 L).view.loc (VT d L) ↦[(uC8 L).view.set]{fullShare} ft)
            ∗ ((uC9 L).view.loc (VT d L) ↦[(uC9 L).view.set]{fullShare} ft)
            ∗ (∃ g, (iV).view.loc (VT d L) ↦[(iV).view.set]{fullShare} g)
            ∗ (∃ g, (bV0).view.loc (VT d L) ↦[(bV0).view.set]{fullShare} g)
            ∗ (∃ g, (bV1).view.loc (VT d L) ↦[(bV1).view.set]{fullShare} g)
            ∗ (∃ g, (bV2).view.loc (VT d L) ↦[(bV2).view.set]{fullShare} g)
            ∗ (∃ g, (bV3).view.loc (VT d L) ↦[(bV3).view.set]{fullShare} g)
            ∗ (∃ g, (bV4).view.loc (VT d L) ↦[(bV4).view.set]{fullShare} g)
            ∗ (∃ g, (bV5).view.loc (VT d L) ↦[(bV5).view.set]{fullShare} g)
            ∗ (∃ g, (bV6).view.loc (VT d L) ↦[(bV6).view.set]{fullShare} g)
            ∗ (∃ g, (bV7).view.loc (VT d L) ↦[(bV7).view.set]{fullShare} g)
            ∗ semVal (VT d L, SemLoc.dma (csem 0)) 0
            ∗ semVal (VT d L, SemLoc.dma (csem 1)) 0
            ∗ semVal (VT d L, SemLoc.dma (csem 2)) 0
            ∗ semVal (VT d L, SemLoc.dma (csem 3)) 0
            ∗ semVal (VT d L, SemLoc.dma (csem 4)) 0
            ∗ semVal (VT d L, SemLoc.dma (csem 5)) 0
            ∗ semVal (VT d L, SemLoc.dma (csem 6)) 0
            ∗ semVal (VT d L, SemLoc.dma (csem 7)) 0
            ∗ semVal (VT d L, SemLoc.dma (csem 8)) 0
            ∗ semVal (VT d L, SemLoc.dma (csem 9)) 0
            ∗ semVal (VT d L, SemLoc.dma (csem 10)) 0
            ∗ semVal (VT d L, SemLoc.dma (csem 11)) 0
            ∗ semVal (VT d L, SemLoc.dma (csem 12)) 0
            ∗ semVal (VT d L, SemLoc.dma (csem 13)) 0
            ∗ semVal (VT d L, SemLoc.dma (csem 14)) 0
            ∗ semVal (VT d L, SemLoc.dma (csem 15)) 0
            ∗ semVal (VT d L, SemLoc.dma (csem 16)) 0
            ∗ ∃ W', owes (VT d L) O W') := by
  iintro ⟨#Hmw, HC, HS0, HS1, HS2, HS3, HS4, HS5, HS6, HS7, HT0, HT1, HT2, HT3, HT4, HT5, HT6, HT7, HO0, HO1, HO2, HO3, HO4, HO5, HO6, HO7, HO8, HO9, HO10, HO11, HO12, HO13, HO14, HO15, HO16, HO17, HO18, HO19, HU0, HU1, HU2, HU3, HU4, HU5, HU6, HU7, HU8, HU9, HI, HB0, HB1, HB2, HB3, HB4, HB5, HB6, HB7, Hc0, Hc1, Hc2, Hc3, Hc4, Hc5, Hc6, Hc7, Hc8, Hc9, Hc10, Hc11, Hc12, Hc13, Hc14, Hc15, Hc16, HW⟩
  sl_unfold [cc0__remix_copy]
  sl_exec
  have hw : wid L < 32 := by
    have hL0 : (L 0).val < 2 := (L 0).isLt
    have hL1 : (L 1).val < 16 := (L 1).isLt
    show 2 * (L 1).val + (L 0).val < 32; omega
  have hw0 : (word0 d L fc).toNat < 64 := by rw [word0_eq]; exact hlt _
  have hw1 : (word1 d L fc).toNat < 64 := by rw [word1_eq]; exact hlt _
  have e0 : ∀ x, View.read (Elt F) (oC0 L).view (OUT fc fs) x = tile_run.sl.dma1_5 d L fc fs hk1 g0 x := fun x =>
    out_chunk fc fs (wid L) 0 0 0 _ hw (by decide) (by decide) (by decide) (word0_eq d L fc) hw0 _ _ (o3_eq L 0) (off2_eq hw0 0) _ _ bV0 g0 _ x
  ihave HO0 := (Entails.of_eq (window_at d L (oC0 L) fo (OUT fc fs) _ e0)) $$ HO0
  clear e0
  have e1 : ∀ x, View.read (Elt F) (oC1 L).view (OUT fc fs) x = tile_run.sl.dma1_7 d L fc fs hk1 g1 x := fun x =>
    out_chunk fc fs (wid L) 0 1 1 _ hw (by decide) (by decide) (by decide) (word0_eq d L fc) hw0 _ _ (o3_eq L 1) (off2_eq hw0 1) _ _ bV1 g1 _ x
  ihave HO1 := (Entails.of_eq (window_at d L (oC1 L) fo (OUT fc fs) _ e1)) $$ HO1
  clear e1
  have e2 : ∀ x, View.read (Elt F) (oC2 L).view (OUT fc fs) x = tile_run.sl.dma1_9 d L fc fs hk1 g2 x := fun x =>
    out_chunk fc fs (wid L) 0 2 2 _ hw (by decide) (by decide) (by decide) (word0_eq d L fc) hw0 _ _ (o3_eq L 2) (off2_eq hw0 2) _ _ bV2 g2 _ x
  ihave HO2 := (Entails.of_eq (window_at d L (oC2 L) fo (OUT fc fs) _ e2)) $$ HO2
  clear e2
  have e3 : ∀ x, View.read (Elt F) (oC3 L).view (OUT fc fs) x = tile_run.sl.dma1_11 d L fc fs hk1 g3 x := fun x =>
    out_chunk fc fs (wid L) 0 3 3 _ hw (by decide) (by decide) (by decide) (word0_eq d L fc) hw0 _ _ (o3_eq L 3) (off2_eq hw0 3) _ _ bV3 g3 _ x
  ihave HO3 := (Entails.of_eq (window_at d L (oC3 L) fo (OUT fc fs) _ e3)) $$ HO3
  clear e3
  have e4 : ∀ x, View.read (Elt F) (oC4 L).view (OUT fc fs) x = tile_run.sl.dma1_13 d L fc fs hk1 g4 x := fun x =>
    out_chunk fc fs (wid L) 0 4 4 _ hw (by decide) (by decide) (by decide) (word0_eq d L fc) hw0 _ _ (o3_eq L 4) (off2_eq hw0 4) _ _ bV4 g4 _ x
  ihave HO4 := (Entails.of_eq (window_at d L (oC4 L) fo (OUT fc fs) _ e4)) $$ HO4
  clear e4
  have e5 : ∀ x, View.read (Elt F) (oC5 L).view (OUT fc fs) x = tile_run.sl.dma1_15 d L fc fs hk1 g5 x := fun x =>
    out_chunk fc fs (wid L) 0 5 5 _ hw (by decide) (by decide) (by decide) (word0_eq d L fc) hw0 _ _ (o3_eq L 5) (off2_eq hw0 5) _ _ bV5 g5 _ x
  ihave HO5 := (Entails.of_eq (window_at d L (oC5 L) fo (OUT fc fs) _ e5)) $$ HO5
  clear e5
  have e6 : ∀ x, View.read (Elt F) (oC6 L).view (OUT fc fs) x = tile_run.sl.dma1_17 d L fc fs hk1 g6 x := fun x =>
    out_chunk fc fs (wid L) 0 6 6 _ hw (by decide) (by decide) (by decide) (word0_eq d L fc) hw0 _ _ (o6_eq L 3) (off2_eq hw0 6) _ _ bV6 g6 _ x
  ihave HO6 := (Entails.of_eq (window_at d L (oC6 L) fo (OUT fc fs) _ e6)) $$ HO6
  clear e6
  have e7 : ∀ x, View.read (Elt F) (oC7 L).view (OUT fc fs) x = tile_run.sl.dma1_19 d L fc fs hk1 g7 x := fun x =>
    out_chunk fc fs (wid L) 0 7 7 _ hw (by decide) (by decide) (by decide) (word0_eq d L fc) hw0 _ _ (o6_eq L 4) (off2_eq hw0 7) _ _ bV7 g7 _ x
  ihave HO7 := (Entails.of_eq (window_at d L (oC7 L) fo (OUT fc fs) _ e7)) $$ HO7
  clear e7
  have e8 : ∀ x, View.read (Elt F) (oC8 L).view (OUT fc fs) x = tile_run.sl.dma1_21 d L fc fs hk1 g0 x := fun x =>
    out_chunk fc fs (wid L) 0 8 8 _ hw (by decide) (by decide) (by decide) (word0_eq d L fc) hw0 _ _ (o6_eq L 5) (off2_eq hw0 8) _ _ bV0 g0 _ x
  ihave HO8 := (Entails.of_eq (window_at d L (oC8 L) fo (OUT fc fs) _ e8)) $$ HO8
  clear e8
  have e9 : ∀ x, View.read (Elt F) (oC9 L).view (OUT fc fs) x = tile_run.sl.dma1_23 d L fc fs hk1 g1 x := fun x =>
    out_chunk fc fs (wid L) 0 9 9 _ hw (by decide) (by decide) (by decide) (word0_eq d L fc) hw0 _ _ (o6_eq L 6) (off2_eq hw0 9) _ _ bV1 g1 _ x
  ihave HO9 := (Entails.of_eq (window_at d L (oC9 L) fo (OUT fc fs) _ e9)) $$ HO9
  clear e9
  have e10 : ∀ x, View.read (Elt F) (oC10 L).view (OUT fc fs) x = tile_run.sl.dma1_25 d L fc fs hk1 hk2 g2 x := fun x =>
    out_chunk fc fs (wid L) 1 0 10 _ hw (by decide) (by decide) (by decide) (word1_eq d L fc) hw1 _ _ (o6_eq L 7) (off4_eq hw1 0) _ _ bV2 g2 _ x
  ihave HO10 := (Entails.of_eq (window_at d L (oC10 L) fo (OUT fc fs) _ e10)) $$ HO10
  clear e10
  have e11 : ∀ x, View.read (Elt F) (oC11 L).view (OUT fc fs) x = tile_run.sl.dma1_27 d L fc fs hk1 hk2 g3 x := fun x =>
    out_chunk fc fs (wid L) 1 1 11 _ hw (by decide) (by decide) (by decide) (word1_eq d L fc) hw1 _ _ (o6_eq L 8) (off4_eq hw1 1) _ _ bV3 g3 _ x
  ihave HO11 := (Entails.of_eq (window_at d L (oC11 L) fo (OUT fc fs) _ e11)) $$ HO11
  clear e11
  have e12 : ∀ x, View.read (Elt F) (oC12 L).view (OUT fc fs) x = tile_run.sl.dma1_29 d L fc fs hk1 hk2 g4 x := fun x =>
    out_chunk fc fs (wid L) 1 2 12 _ hw (by decide) (by decide) (by decide) (word1_eq d L fc) hw1 _ _ (o6_eq L 9) (off4_eq hw1 2) _ _ bV4 g4 _ x
  ihave HO12 := (Entails.of_eq (window_at d L (oC12 L) fo (OUT fc fs) _ e12)) $$ HO12
  clear e12
  have e13 : ∀ x, View.read (Elt F) (oC13 L).view (OUT fc fs) x = tile_run.sl.dma1_31 d L fc fs hk1 hk2 g5 x := fun x =>
    out_chunk fc fs (wid L) 1 3 13 _ hw (by decide) (by decide) (by decide) (word1_eq d L fc) hw1 _ _ (o6_eq L 10) (off4_eq hw1 3) _ _ bV5 g5 _ x
  ihave HO13 := (Entails.of_eq (window_at d L (oC13 L) fo (OUT fc fs) _ e13)) $$ HO13
  clear e13
  have e14 : ∀ x, View.read (Elt F) (oC14 L).view (OUT fc fs) x = tile_run.sl.dma1_33 d L fc fs hk1 hk2 g6 x := fun x =>
    out_chunk fc fs (wid L) 1 4 14 _ hw (by decide) (by decide) (by decide) (word1_eq d L fc) hw1 _ _ (o6_eq L 11) (off4_eq hw1 4) _ _ bV6 g6 _ x
  ihave HO14 := (Entails.of_eq (window_at d L (oC14 L) fo (OUT fc fs) _ e14)) $$ HO14
  clear e14
  have e15 : ∀ x, View.read (Elt F) (oC15 L).view (OUT fc fs) x = tile_run.sl.dma1_35 d L fc fs hk1 hk2 g7 x := fun x =>
    out_chunk fc fs (wid L) 1 5 15 _ hw (by decide) (by decide) (by decide) (word1_eq d L fc) hw1 _ _ (o6_eq L 12) (off4_eq hw1 5) _ _ bV7 g7 _ x
  ihave HO15 := (Entails.of_eq (window_at d L (oC15 L) fo (OUT fc fs) _ e15)) $$ HO15
  clear e15
  have e16 : ∀ x, View.read (Elt F) (oC16 L).view (OUT fc fs) x = tile_run.sl.dma1_37 d L fc fs hk1 hk2 g0 x := fun x =>
    out_chunk fc fs (wid L) 1 6 16 _ hw (by decide) (by decide) (by decide) (word1_eq d L fc) hw1 _ _ (o6_eq L 13) (off4_eq hw1 6) _ _ bV0 g0 _ x
  ihave HO16 := (Entails.of_eq (window_at d L (oC16 L) fo (OUT fc fs) _ e16)) $$ HO16
  clear e16
  have e17 : ∀ x, View.read (Elt F) (oC17 L).view (OUT fc fs) x = tile_run.sl.dma1_39 d L fc fs hk1 hk2 g1 x := fun x =>
    out_chunk fc fs (wid L) 1 7 17 _ hw (by decide) (by decide) (by decide) (word1_eq d L fc) hw1 _ _ (o6_eq L 14) (off4_eq hw1 7) _ _ bV1 g1 _ x
  ihave HO17 := (Entails.of_eq (window_at d L (oC17 L) fo (OUT fc fs) _ e17)) $$ HO17
  clear e17
  have e18 : ∀ x, View.read (Elt F) (oC18 L).view (OUT fc fs) x = tile_run.sl.dma1_41 d L fc fs hk1 hk2 g2 x := fun x =>
    out_chunk fc fs (wid L) 1 8 18 _ hw (by decide) (by decide) (by decide) (word1_eq d L fc) hw1 _ _ (o6_eq L 15) (off4_eq hw1 8) _ _ bV2 g2 _ x
  ihave HO18 := (Entails.of_eq (window_at d L (oC18 L) fo (OUT fc fs) _ e18)) $$ HO18
  clear e18
  have e19 : ∀ x, View.read (Elt F) (oC19 L).view (OUT fc fs) x = tile_run.sl.dma1_43 d L fc fs hk1 hk2 g3 x := fun x =>
    out_chunk fc fs (wid L) 1 9 19 _ hw (by decide) (by decide) (by decide) (word1_eq d L fc) hw1 _ _ (o6_eq L 16) (off4_eq hw1 9) _ _ bV3 g3 _ x
  ihave HO19 := (Entails.of_eq (window_at d L (oC19 L) fo (OUT fc fs) _ e19)) $$ HO19
  clear e19
  have e0 : ∀ x, View.read (Elt F) (uC0 L).view ft x = tile_run.sl.dma1_45 d L fc fs ft hk1 hk2 g4 x := fun x =>
    (stage_read bV4 g4 (tile_run.sl.dma1_36 d L ft) _ x).symm
  ihave HU0 := (Entails.of_eq (window_at d L (uC0 L) fu ft _ e0)) $$ HU0
  clear e0
  have e1 : ∀ x, View.read (Elt F) (uC1 L).view ft x = tile_run.sl.dma1_47 d L fc fs ft hk1 hk2 g5 x := fun x =>
    (stage_read bV5 g5 (tile_run.sl.dma1_38 d L ft) _ x).symm
  ihave HU1 := (Entails.of_eq (window_at d L (uC1 L) fu ft _ e1)) $$ HU1
  clear e1
  have e2 : ∀ x, View.read (Elt F) (uC2 L).view ft x = tile_run.sl.dma1_49 d L fc fs ft hk1 hk2 g6 x := fun x =>
    (stage_read bV6 g6 (tile_run.sl.dma1_40 d L ft) _ x).symm
  ihave HU2 := (Entails.of_eq (window_at d L (uC2 L) fu ft _ e2)) $$ HU2
  clear e2
  have e3 : ∀ x, View.read (Elt F) (uC3 L).view ft x = tile_run.sl.dma1_51 d L fc fs ft hk1 hk2 g7 x := fun x =>
    (stage_read bV7 g7 (tile_run.sl.dma1_42 d L ft) _ x).symm
  ihave HU3 := (Entails.of_eq (window_at d L (uC3 L) fu ft _ e3)) $$ HU3
  clear e3
  have e4 : ∀ x, View.read (Elt F) (uC4 L).view ft x = tile_run.sl.dma1_53 d L fc fs ft hk1 hk2 g0 x := fun x =>
    (stage_read bV0 g0 (tile_run.sl.dma1_44 d L ft) _ x).symm
  ihave HU4 := (Entails.of_eq (window_at d L (uC4 L) fu ft _ e4)) $$ HU4
  clear e4
  have e5 : ∀ x, View.read (Elt F) (uC5 L).view ft x = tile_run.sl.dma1_55 d L fc fs ft hk1 hk2 g1 x := fun x =>
    (stage_read bV1 g1 (tile_run.sl.dma1_46 d L ft) _ x).symm
  ihave HU5 := (Entails.of_eq (window_at d L (uC5 L) fu ft _ e5)) $$ HU5
  clear e5
  have e6 : ∀ x, View.read (Elt F) (uC6 L).view ft x = tile_run.sl.dma1_56 d L fc fs ft hk1 hk2 g2 x := fun x =>
    (stage_read bV2 g2 (tile_run.sl.dma1_48 d L ft) _ x).symm
  ihave HU6 := (Entails.of_eq (window_at d L (uC6 L) fu ft _ e6)) $$ HU6
  clear e6
  have e7 : ∀ x, View.read (Elt F) (uC7 L).view ft x = tile_run.sl.dma1_57 d L fc fs ft hk1 hk2 g3 x := fun x =>
    (stage_read bV3 g3 (tile_run.sl.dma1_50 d L ft) _ x).symm
  ihave HU7 := (Entails.of_eq (window_at d L (uC7 L) fu ft _ e7)) $$ HU7
  clear e7
  have e8 : ∀ x, View.read (Elt F) (uC8 L).view ft x = tile_run.sl.dma1_58 d L fc fs ft hk1 hk2 g4 x := fun x =>
    (stage_read bV4 g4 (tile_run.sl.dma1_52 d L ft) _ x).symm
  ihave HU8 := (Entails.of_eq (window_at d L (uC8 L) fu ft _ e8)) $$ HU8
  clear e8
  have e9 : ∀ x, View.read (Elt F) (uC9 L).view ft x = tile_run.sl.dma1_59 d L fc fs ft hk1 hk2 g5 x := fun x =>
    (stage_read bV5 g5 (tile_run.sl.dma1_54 d L ft) _ x).symm
  ihave HU9 := (Entails.of_eq (window_at d L (uC9 L) fu ft _ e9)) $$ HU9
  clear e9
  sl_step
  sl_close

end Run

end Cert.Proof.Tile

end
-- ==== Proof.Task.lean ====
/-
  One task from what the launch deals it to what it hands back, and the launch's obligation for the tasks.
-/
module

public import proofs.«01_k».proof.Proof.Pieces
public import proofs.«01_k».proof.Proof.Run

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem pts_iV (d : Dev nD) (L : grid0.Coords) (f : Buf (Elt F) ((VT d L).loc cc0_scratch0)) :
    ((iV).view.loc (VT d L) ↦[(iV).view.set]{fullShare} f : sProp 𝕄) = (VT d L).loc cc0_scratch0 ↦{fullShare} f := by
  rw [View.set_whole]
theorem pts_bV0 (d : Dev nD) (L : grid0.Coords) (f : Buf (Elt F) ((VT d L).loc cc0_scratch1)) :
    ((bV0).view.loc (VT d L) ↦[(bV0).view.set]{fullShare} f : sProp 𝕄) = (VT d L).loc cc0_scratch1 ↦{fullShare} f := by
  rw [View.set_whole]
theorem pts_bV1 (d : Dev nD) (L : grid0.Coords) (f : Buf (Elt F) ((VT d L).loc cc0_scratch2)) :
    ((bV1).view.loc (VT d L) ↦[(bV1).view.set]{fullShare} f : sProp 𝕄) = (VT d L).loc cc0_scratch2 ↦{fullShare} f := by
  rw [View.set_whole]
theorem pts_bV2 (d : Dev nD) (L : grid0.Coords) (f : Buf (Elt F) ((VT d L).loc cc0_scratch3)) :
    ((bV2).view.loc (VT d L) ↦[(bV2).view.set]{fullShare} f : sProp 𝕄) = (VT d L).loc cc0_scratch3 ↦{fullShare} f := by
  rw [View.set_whole]
theorem pts_bV3 (d : Dev nD) (L : grid0.Coords) (f : Buf (Elt F) ((VT d L).loc cc0_scratch4)) :
    ((bV3).view.loc (VT d L) ↦[(bV3).view.set]{fullShare} f : sProp 𝕄) = (VT d L).loc cc0_scratch4 ↦{fullShare} f := by
  rw [View.set_whole]
theorem pts_bV4 (d : Dev nD) (L : grid0.Coords) (f : Buf (Elt F) ((VT d L).loc cc0_scratch5)) :
    ((bV4).view.loc (VT d L) ↦[(bV4).view.set]{fullShare} f : sProp 𝕄) = (VT d L).loc cc0_scratch5 ↦{fullShare} f := by
  rw [View.set_whole]
theorem pts_bV5 (d : Dev nD) (L : grid0.Coords) (f : Buf (Elt F) ((VT d L).loc cc0_scratch6)) :
    ((bV5).view.loc (VT d L) ↦[(bV5).view.set]{fullShare} f : sProp 𝕄) = (VT d L).loc cc0_scratch6 ↦{fullShare} f := by
  rw [View.set_whole]
theorem pts_bV6 (d : Dev nD) (L : grid0.Coords) (f : Buf (Elt F) ((VT d L).loc cc0_scratch7)) :
    ((bV6).view.loc (VT d L) ↦[(bV6).view.set]{fullShare} f : sProp 𝕄) = (VT d L).loc cc0_scratch7 ↦{fullShare} f := by
  rw [View.set_whole]
theorem pts_bV7 (d : Dev nD) (L : grid0.Coords) (f : Buf (Elt F) ((VT d L).loc cc0_scratch8)) :
    ((bV7).view.loc (VT d L) ↦[(bV7).view.set]{fullShare} f : sProp 𝕄) = (VT d L).loc cc0_scratch8 ↦{fullShare} f := by
  rw [View.set_whole]

set_option maxHeartbeats 2000000 in
/-- The task on vector subcore `(L 0, L 1)` of device `d`: from its pieces, with the table's words below 64, its
    chunks of the first output come back at the source's rows the table names and those of the second at the target. -/
theorem tile_body (hF : (K (F := F)).Facts) (d : Dev nD) (L : grid0.Coords) (fc : Buf (Elt F) (cLoc d)) (fs : Buf (Elt F) (sLoc d)) (ft : Buf (Elt F) (tLoc d))
    (fo : Buf (Elt F) (oLoc d)) (fu : Buf (Elt F) (uLoc d)) (hlt : ∀ i, (fc i).toNat < 64)
    (O : CellTallies nD τ sig (HIx 1)) (W : Waits sig (HIx 1)) (hO : ∀ g, O g none = 0) :
    iprop(levAts (K (F := F)).L (K (F := F)).lev ∗ emp ∗ GO d fc fs ft fo fu (cL L) (jL L)
        ∗ scopedBufs (VT d L) ∗ scopedSems0 (VT d L) ∗ owes (VT d L) O W)
      ⊢ wp frame (wpE (defs₀ (F := F)) 𝒱₀ (VT d L) none) Set.univ
          (cc0__remix_copy L sV (Memref.isWhole_whole _) tV (Memref.isWhole_whole _) cV (Memref.isWhole_whole _) oV (Memref.isWhole_whole _) uV (Memref.isWhole_whole _) iV (Memref.isWhole_whole _) bV0 (Memref.isWhole_whole _) bV1 (Memref.isWhole_whole _) bV2 (Memref.isWhole_whole _) bV3 (Memref.isWhole_whole _) bV4 (Memref.isWhole_whole _) bV5 (Memref.isWhole_whole _) bV6 (Memref.isWhole_whole _) bV7 (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scoped0)
          fun _ => iprop(GO d fc fs ft (OUT fc fs) ft (cL L) (jL L)
            ∗ scopedBufs (VT d L) ∗ scopedSems0 (VT d L)
            ∗ ∃ W', ⌜∀ p ∈ W', p ∈ W ∨ p.2 = none ∨ p.2 = some (0 : Fin 1)⌝ ∗ owes (VT d L) O W') := by
  have hk1 : k0_chk1 (word0 d L fc) := chk1_of_lt (by rw [word0_eq]; exact hlt _)
  have hk2 : k0_chk2 (word1 d L fc) := chk2_of_lt (by rw [word1_eq]; exact hlt _)
  unfold GO
  rw [(K (F := F)).scopedBufs_V hF d (cC L) (jC L), SparseCore.Cfg.scopedSems0_V (Val := Elt F) d (cC L) (jC L), ownSems0_V, ownBufs_V,
    oWins_eq d L fo, oWins_eq d L (OUT fc fs), uWins_eq d L fu, uWins_eq d L ft, toks_eq (shr (cL L) (jL L)) fs, toks_eq (shr (cL L) (jL L)) ft]
  iintro ⟨#Hlv, -, ⟨HC, ⟨HSr, HS0, HS1, HS2, HS3, HS4, HS5, HS6, HS7⟩, ⟨HTr, HT0, HT1, HT2, HT3, HT4, HT5, HT6, HT7⟩, ⟨HO0, HO1, HO2, HO3, HO4, HO5, HO6, HO7, HO8, HO9, HO10, HO11, HO12, HO13, HO14, HO15, HO16, HO17, HO18, HO19⟩, ⟨HU0, HU1, HU2, HU3, HU4, HU5, HU6, HU7, HU8, HU9⟩⟩, ⟨⟨⟨%gi, HI⟩, ⟨%g0, HB0⟩, ⟨%g1, HB1⟩, ⟨%g2, HB2⟩, ⟨%g3, HB3⟩, ⟨%g4, HB4⟩, ⟨%g5, HB5⟩, ⟨%g6, HB6⟩, ⟨%g7, HB7⟩⟩, Hbufs⟩, ⟨⟨Hc0, Hc1, Hc2, Hc3, Hc4, Hc5, Hc6, Hc7, Hc8, Hc9, Hc10, Hc11, Hc12, Hc13, Hc14, Hc15, Hc16⟩, Hsems⟩, HW⟩
  ihave Hmw := (show levAts (K (F := F)).L (K (F := F)).lev ⊢ Transfers.MayWaits (VT d L) (default : HIx 1) O from
    (K (F := F)).mayWaits_none (thr := VT d L) hO) $$ Hlv
  ihave HI := (Entails.of_eq (pts_iV (F := F) d L _).symm) $$ HI
  ihave HB0 := (Entails.of_eq (pts_bV0 (F := F) d L _).symm) $$ HB0
  ihave HB1 := (Entails.of_eq (pts_bV1 (F := F) d L _).symm) $$ HB1
  ihave HB2 := (Entails.of_eq (pts_bV2 (F := F) d L _).symm) $$ HB2
  ihave HB3 := (Entails.of_eq (pts_bV3 (F := F) d L _).symm) $$ HB3
  ihave HB4 := (Entails.of_eq (pts_bV4 (F := F) d L _).symm) $$ HB4
  ihave HB5 := (Entails.of_eq (pts_bV5 (F := F) d L _).symm) $$ HB5
  ihave HB6 := (Entails.of_eq (pts_bV6 (F := F) d L _).symm) $$ HB6
  ihave HB7 := (Entails.of_eq (pts_bV7 (F := F) d L _).symm) $$ HB7
  iapply (wp_wand_r Idealize.ShloMosaic.frame (wpE (defs₀ (F := F)) 𝒱₀ (VT d L) none) Set.univ)
  isplitl [HC HS0 HS1 HS2 HS3 HS4 HS5 HS6 HS7 HT0 HT1 HT2 HT3 HT4 HT5 HT6 HT7 HO0 HO1 HO2 HO3 HO4 HO5 HO6 HO7 HO8 HO9 HO10 HO11 HO12 HO13 HO14 HO15 HO16 HO17 HO18 HO19 HU0 HU1 HU2 HU3 HU4 HU5 HU6 HU7 HU8 HU9 HI HB0 HB1 HB2 HB3 HB4 HB5 HB6 HB7 Hc0 Hc1 Hc2 Hc3 Hc4 Hc5 Hc6 Hc7 Hc8 Hc9 Hc10 Hc11 Hc12 Hc13 Hc14 Hc15 Hc16 HW]
  · iapply (tile_run d L fc fs ft hlt hk1 hk2 (shr (cL L) (jL L)) (shr (cL L) (jL L)) (shr (cL L) (jL L)) O W fo fu gi g0 g1 g2 g3 g4 g5 g6 g7)
    isplitr; · iexact Hmw
    isplitl [HC]; · iexact HC
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    isplitl [HT7]; · iexact HT7
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    isplitl [HO7]; · iexact HO7
    isplitl [HO8]; · iexact HO8
    isplitl [HO9]; · iexact HO9
    isplitl [HO10]; · iexact HO10
    isplitl [HO11]; · iexact HO11
    isplitl [HO12]; · iexact HO12
    isplitl [HO13]; · iexact HO13
    isplitl [HO14]; · iexact HO14
    isplitl [HO15]; · iexact HO15
    isplitl [HO16]; · iexact HO16
    isplitl [HO17]; · iexact HO17
    isplitl [HO18]; · iexact HO18
    isplitl [HO19]; · iexact HO19
    isplitl [HU0]; · iexact HU0
    isplitl [HU1]; · iexact HU1
    isplitl [HU2]; · iexact HU2
    isplitl [HU3]; · iexact HU3
    isplitl [HU4]; · iexact HU4
    isplitl [HU5]; · iexact HU5
    isplitl [HU6]; · iexact HU6
    isplitl [HU7]; · iexact HU7
    isplitl [HU8]; · iexact HU8
    isplitl [HU9]; · iexact HU9
    isplitl [HI]; · iexact HI
    isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    isplitl [HB7]; · iexact HB7
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    iexact HW
  iintro %_ ⟨HC, HS0, HS1, HS2, HS3, HS4, HS5, HS6, HS7, HT0, HT1, HT2, HT3, HT4, HT5, HT6, HT7, HO0, HO1, HO2, HO3, HO4, HO5, HO6, HO7, HO8, HO9, HO10, HO11, HO12, HO13, HO14, HO15, HO16, HO17, HO18, HO19, HU0, HU1, HU2, HU3, HU4, HU5, HU6, HU7, HU8, HU9, ⟨%gi', HI⟩, ⟨%g0', HB0⟩, ⟨%g1', HB1⟩, ⟨%g2', HB2⟩, ⟨%g3', HB3⟩, ⟨%g4', HB4⟩, ⟨%g5', HB5⟩, ⟨%g6', HB6⟩, ⟨%g7', HB7⟩, Hc0, Hc1, Hc2, Hc3, Hc4, Hc5, Hc6, Hc7, Hc8, Hc9, Hc10, Hc11, Hc12, Hc13, Hc14, Hc15, Hc16, ⟨%W', HW⟩⟩
  isplitl [HC HSr HTr HS0 HS1 HS2 HS3 HS4 HS5 HS6 HS7 HT0 HT1 HT2 HT3 HT4 HT5 HT6 HT7 HO0 HO1 HO2 HO3 HO4 HO5 HO6 HO7 HO8 HO9 HO10 HO11 HO12 HO13 HO14 HO15 HO16 HO17 HO18 HO19 HU0 HU1 HU2 HU3 HU4 HU5 HU6 HU7 HU8 HU9]
  · isplitl [HC]; · iexact HC
    isplitl [HSr HS0 HS1 HS2 HS3 HS4 HS5 HS6 HS7]
    · isplitl [HSr]; · iexact HSr
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    isplitl [HTr HT0 HT1 HT2 HT3 HT4 HT5 HT6 HT7]
    · isplitl [HTr]; · iexact HTr
      isplitl [HT0]; · iexact HT0
      isplitl [HT1]; · iexact HT1
      isplitl [HT2]; · iexact HT2
      isplitl [HT3]; · iexact HT3
      isplitl [HT4]; · iexact HT4
      isplitl [HT5]; · iexact HT5
      isplitl [HT6]; · iexact HT6
      iexact HT7
    isplitl [HO0 HO1 HO2 HO3 HO4 HO5 HO6 HO7 HO8 HO9 HO10 HO11 HO12 HO13 HO14 HO15 HO16 HO17 HO18 HO19]
    · isplitl [HO0]; · iexact HO0
      isplitl [HO1]; · iexact HO1
      isplitl [HO2]; · iexact HO2
      isplitl [HO3]; · iexact HO3
      isplitl [HO4]; · iexact HO4
      isplitl [HO5]; · iexact HO5
      isplitl [HO6]; · iexact HO6
      isplitl [HO7]; · iexact HO7
      isplitl [HO8]; · iexact HO8
      isplitl [HO9]; · iexact HO9
      isplitl [HO10]; · iexact HO10
      isplitl [HO11]; · iexact HO11
      isplitl [HO12]; · iexact HO12
      isplitl [HO13]; · iexact HO13
      isplitl [HO14]; · iexact HO14
      isplitl [HO15]; · iexact HO15
      isplitl [HO16]; · iexact HO16
      isplitl [HO17]; · iexact HO17
      isplitl [HO18]; · iexact HO18
      iexact HO19
    isplitl [HU0]; · iexact HU0
    isplitl [HU1]; · iexact HU1
    isplitl [HU2]; · iexact HU2
    isplitl [HU3]; · iexact HU3
    isplitl [HU4]; · iexact HU4
    isplitl [HU5]; · iexact HU5
    isplitl [HU6]; · iexact HU6
    isplitl [HU7]; · iexact HU7
    isplitl [HU8]; · iexact HU8
    iexact HU9
  isplitl [HI HB0 HB1 HB2 HB3 HB4 HB5 HB6 HB7 Hbufs]
  · isplitl [HI HB0 HB1 HB2 HB3 HB4 HB5 HB6 HB7]
    · isplitl [HI]; · iexists _; iapply (Entails.of_eq (pts_iV (F := F) d L _)); iexact HI
      isplitl [HB0]; · iexists _; iapply (Entails.of_eq (pts_bV0 (F := F) d L _)); iexact HB0
      isplitl [HB1]; · iexists _; iapply (Entails.of_eq (pts_bV1 (F := F) d L _)); iexact HB1
      isplitl [HB2]; · iexists _; iapply (Entails.of_eq (pts_bV2 (F := F) d L _)); iexact HB2
      isplitl [HB3]; · iexists _; iapply (Entails.of_eq (pts_bV3 (F := F) d L _)); iexact HB3
      isplitl [HB4]; · iexists _; iapply (Entails.of_eq (pts_bV4 (F := F) d L _)); iexact HB4
      isplitl [HB5]; · iexists _; iapply (Entails.of_eq (pts_bV5 (F := F) d L _)); iexact HB5
      isplitl [HB6]; · iexists _; iapply (Entails.of_eq (pts_bV6 (F := F) d L _)); iexact HB6
      iexists _; iapply (Entails.of_eq (pts_bV7 (F := F) d L _)); iexact HB7
    iexact Hbufs
  isplitl [Hc0 Hc1 Hc2 Hc3 Hc4 Hc5 Hc6 Hc7 Hc8 Hc9 Hc10 Hc11 Hc12 Hc13 Hc14 Hc15 Hc16 Hsems]
  · isplitl [Hc0 Hc1 Hc2 Hc3 Hc4 Hc5 Hc6 Hc7 Hc8 Hc9 Hc10 Hc11 Hc12 Hc13 Hc14 Hc15 Hc16]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      iexact Hc16
    iexact Hsems
  iexists W'; isplitr
  · ipureintro; intro p _
    rcases p.2 with _ | q
    · exact .inr (.inl rfl)
    · exact .inr (.inr (congrArg some (Subsingleton.elim q 0)))
  · iexact HW

end Cert.Proof.Tile

end
-- ==== Proof.Launch.lean ====
/-
  The whole mesh program's run: the table and the two flattenings, the call, the two results' shapes.
-/
module

public import proofs.«01_k».proof.Proof.Task
public import proofs.«01_k».proof.Proof.Gen.Kernel

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays' contents -/

abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v3
abbrev qLoc (d : Dev nD) : Loc nD τ sig := (SparseCore.T d).loc main_v4

/-- The table the program carries. -/
def tab : S32x16.Idx → BitVec 32 := fun i => lit0 (S32x16.rowMajor i)
/-- The sources and the target, flattened. -/
def SRC (d : Dev nD) : Buf (Elt F) (sLoc d) := shapeCast S10240000 (m (aLoc d)) shapeCasts_S2x32x1x160000_S10240000
def TGT (d : Dev nD) : Buf (Elt F) (tLoc d) := shapeCast S5120000 (m (bLoc d)) shapeCasts_S32x1x160000_S5120000
/-- The two results. -/
def RES (d : Dev nD) : Buf (Elt F) (rLoc d) := shapeCast S2x32x1x160000 (OUT tab (SRC m d)) shapeCasts_S10240000_S2x32x1x160000
def RES' (d : Dev nD) : Buf (Elt F) (qLoc d) := shapeCast S32x1x160000 (TGT m d) shapeCasts_S5120000_S32x1x160000

/-- Every word of the table names one of the sixty-four rows of the source. -/
theorem tab_lt (i : S32x16.Idx) : (tab i).toNat < 64 := by
  have h : ∀ n : Fin 512, (lit0 n).toNat < 64 := by
    set_option maxRecDepth 100000 in decide +kernel
  exact h _

/-! ## What the handshakes carry -/

def stc (d : Dev nD) (c : Fin 2) : sProp 𝕄 := bigSep Finset.univ fun i : Fin 16 => GO d tab (SRC m d) (TGT m d) (m (oLoc d)) (m (uLoc d)) c i
def dnc (d : Dev nD) (c : Fin 2) : sProp 𝕄 := bigSep Finset.univ fun i : Fin 16 => GO d tab (SRC m d) (TGT m d) (OUT tab (SRC m d)) (TGT m d) c i
instance stc_storable (d : Dev nD) (c : Fin 2) : BI.Storable (upEmb : UEmb _ 𝕄) (stc m d c) := by unfold stc; infer_instance
instance dnc_storable (d : Dev nD) (c : Fin 2) : BI.Storable (upEmb : UEmb _ 𝕄) (dnc m d c) := by unfold dnc; infer_instance

/-- The one call takes each core's sixteen tasks' pieces to it, each task its own, and back with the two outputs at
    their values. -/
def P : (K (F := F)).Pay (nD := nD) (Val := Elt F) (Name := ℕ) (U := UU) where
  st := fun q d c => match q with | 0 => stc m d c
  dn := fun q d c => match q with | 0 => dnc m d c
  go := fun q d c i => match q with | 0 => GO d tab (SRC m d) (TGT m d) (m (oLoc d)) (m (uLoc d)) c i
  td := fun q d c i => match q with | 0 => GO d tab (SRC m d) (TGT m d) (OUT tab (SRC m d)) (TGT m d) c i
  x := fun _ _ => iprop(emp)

instance P_storable : (P (F := F) m).IsStorable where
  st q d c := match q with | 0 => stc_storable m d c
  dn q d c := match q with | 0 => dnc_storable m d c
  go q d c i := match q with | 0 => GO_storable d tab (SRC m d) (TGT m d) (m (oLoc d)) (m (uLoc d)) c i
  td q d c i := match q with | 0 => GO_storable d tab (SRC m d) (TGT m d) (OUT tab (SRC m d)) (TGT m d) c i

theorem vecSplit : (K (F := F)).VecSplit' (P m) 0 := by
  intro d c
  show stc m d c ⊢ |={Set.univ}=> iprop(stc m d c ∗ (dnc m d c -∗ dnc m d c))
  iintro H; imodintro
  isplitl [H]; · iexact H
  iintro H; iexact H

/-! ## The tasks' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__remix_copy (coordsV c s)
          sV (Memref.isWhole_whole _) tV (Memref.isWhole_whole _) cV (Memref.isWhole_whole _) oV (Memref.isWhole_whole _) uV (Memref.isWhole_whole _) iV (Memref.isWhole_whole _)
          bV0 (Memref.isWhole_whole _) bV1 (Memref.isWhole_whole _) bV2 (Memref.isWhole_whole _) bV3 (Memref.isWhole_whole _) bV4 (Memref.isWhole_whole _) bV5 (Memref.isWhole_whole _) bV6 (Memref.isWhole_whole _) bV7 (Memref.isWhole_whole _)
          cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scoped0) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body hF d (coordsV ⟨_, hci.1⟩ ⟨_, hci.2⟩) tab (SRC m d) (TGT m d) (m (oLoc d)) (m (uLoc d)) tab_lt O W hO
  have hc : cL (coordsV ⟨_, hci.1⟩ ⟨_, hci.2⟩) = c := rfl
  have hj : jL (coordsV ⟨_, hci.1⟩ ⟨_, hci.2⟩) = i := rfl
  rw [hc, hj] at h
  have hgo : (P m).go 0 d c i = GO d tab (SRC m d) (TGT m d) (m (oLoc d)) (m (uLoc d)) c i := rfl
  have htd : (P m).td 0 d c i = GO d tab (SRC m d) (TGT m d) (OUT tab (SRC m d)) (TGT m d) c i := rfl
  rw [hgo, htd]
  refine entails_trans (P := iprop(_)) (Idealize.SL.BI.BIBase.Entails.of_eq ?_) (entails_trans h (Idealize.SL.BI.BIBase.Entails.of_eq ?_))
  · rfl
  · refine congrArg₂ _ ?_ ?_
    · rfl
    · funext x
      refine congrArg₂ BIBase.sep rfl (congrArg₂ BIBase.sep rfl (congrArg₂ BIBase.sep rfl ?_))
      refine congrArg _ ?_
      funext W'
      refine congrArg₂ BIBase.sep ?_ rfl
      rfl

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a0' : DevRef τ sig := Proc.devRef .tc (main_arg0 : Ref sig .tc)
abbrev a1' : DevRef τ sig := Proc.devRef .tc (main_arg1 : Ref sig .tc)
abbrev c' : DevRef τ sig := Proc.devRef .tc (main_c : Ref sig .tc)
abbrev v0' : DevRef τ sig := Proc.devRef .tc (main_v0 : Ref sig .tc)
abbrev v1' : DevRef τ sig := Proc.devRef .tc (main_v1 : Ref sig .tc)
abbrev o' : DevRef τ sig := Proc.devRef .tc (main_v2_0 : Ref sig .tc)
abbrev u' : DevRef τ sig := Proc.devRef .tc (main_v2_1 : Ref sig .tc)
abbrev r3' : DevRef τ sig := Proc.devRef .tc (main_v3 : Ref sig .tc)
abbrev r4' : DevRef τ sig := Proc.devRef .tc (main_v4 : Ref sig .tc)
abbrev opC : HloOp τ sig (Elt F) := StableHlo.nullary main_c (fun i => lit0 (S32x16.rowMajor i))
abbrev opS : HloOp τ sig (Elt F) := StableHlo.reshape main_arg0 main_v0 (rfl : (.f32 : EltTy) = .f32) shapeCasts_S2x32x1x160000_S10240000
abbrev opT : HloOp τ sig (Elt F) := StableHlo.reshape main_arg1 main_v1 (rfl : (.f32 : EltTy) = .f32) shapeCasts_S32x1x160000_S5120000
abbrev opR : HloOp τ sig (Elt F) := StableHlo.reshape main_v2_0 main_v3 (rfl : (.f32 : EltTy) = .f32) shapeCasts_S10240000_S2x32x1x160000
abbrev opQ : HloOp τ sig (Elt F) := StableHlo.reshape main_v2_1 main_v4 (rfl : (.f32 : EltTy) = .f32) shapeCasts_S5120000_S32x1x160000

/-- The TensorCore's arrays. -/
abbrev S9 : Finset (DevRef τ sig) := {a0', a1', c', v0', v1', o', u', r3', r4'}

theorem held_S9 (d : Dev nD) (W : Valuation τ sig (Elt F)) :
    (held (T d) S9 W : sProp 𝕄)
      = iprop((aLoc d ↦{fullShare} W a0') ∗ (bLoc d ↦{fullShare} W a1') ∗ (cLoc d ↦{fullShare} W c') ∗ (sLoc d ↦{fullShare} W v0') ∗ (tLoc d ↦{fullShare} W v1') ∗ (oLoc d ↦{fullShare} W o') ∗ (uLoc d ↦{fullShare} W u') ∗ (rLoc d ↦{fullShare} W r3') ∗ (qLoc d ↦{fullShare} W r4')) := by
  unfold held S9
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (bLoc d ↦{fullShare} W main_arg1) ∗ (cLoc d ↦{fullShare} W main_c) ∗ (sLoc d ↦{fullShare} W main_v0) ∗ (tLoc d ↦{fullShare} W main_v1) ∗ (oLoc d ↦{fullShare} W main_v2_0) ∗ (uLoc d ↦{fullShare} W main_v2_1) ∗ (rLoc d ↦{fullShare} W main_v3) ∗ (qLoc d ↦{fullShare} W main_v4)) := by
  unfold unscopedBufs
  rw [show (Finset.univ.filter fun b : Ref sig .tc => ¬ b.isScoped) = {main_arg0, main_arg1, main_c, main_v0, main_v1, main_v2_0, main_v2_1, main_v3, main_v4} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The launch valuation, and the valuation before the call; -/
def V0 (d : Dev nD) : Valuation τ sig (Elt F) := fun b => m (d, b)
def V1 (d : Dev nD) : Valuation τ sig (Elt F) := (opC (F := F)).result (V0 m d)
def V2 (d : Dev nD) : Valuation τ sig (Elt F) := (opS (F := F)).result (V1 m d)
def V3 (d : Dev nD) : Valuation τ sig (Elt F) := (opT (F := F)).result (V2 m d)
/-- after it, the two outputs at their values; and at the end. -/
def V4 (d : Dev nD) : Valuation τ sig (Elt F) := Function.update (Function.update (V3 m d) o' (OUT tab (SRC m d))) u' (TGT m d)
def V5 (d : Dev nD) : Valuation τ sig (Elt F) := (opR (F := F)).result (V4 m d)
def V6 (d : Dev nD) : Valuation τ sig (Elt F) := (opQ (F := F)).result (V5 m d)

theorem unscoped_held (d : Dev nD) : (unscopedBufs d (fun b => m ((SparseCore.T d).loc b)) : sProp 𝕄) = held (T d) S9 (V0 m d) := by
  rw [unscopedBufs_eq, held_S9]; rfl

theorem opC_ne (W : Valuation τ sig (Elt F)) (b : DevRef τ sig) (h : b ∉ ({c'} : Finset (DevRef τ sig))) : (opC (F := F)).result W b = W b := (opC (F := F)).result_of_not_mem W h
theorem opS_ne (W : Valuation τ sig (Elt F)) (b : DevRef τ sig) (h : b ∉ ({v0'} : Finset (DevRef τ sig))) : (opS (F := F)).result W b = W b := (opS (F := F)).result_of_not_mem W h
theorem opT_ne (W : Valuation τ sig (Elt F)) (b : DevRef τ sig) (h : b ∉ ({v1'} : Finset (DevRef τ sig))) : (opT (F := F)).result W b = W b := (opT (F := F)).result_of_not_mem W h
theorem opR_ne (W : Valuation τ sig (Elt F)) (b : DevRef τ sig) (h : b ∉ ({r3'} : Finset (DevRef τ sig))) : (opR (F := F)).result W b = W b := (opR (F := F)).result_of_not_mem W h
theorem opQ_ne (W : Valuation τ sig (Elt F)) (b : DevRef τ sig) (h : b ∉ ({r4'} : Finset (DevRef τ sig))) : (opQ (F := F)).result W b = W b := (opQ (F := F)).result_of_not_mem W h

theorem V3_a (d : Dev nD) : V3 m d a0' = m (aLoc d) := by
  unfold V3 V2 V1; rw [opT_ne _ _ (by decide), opS_ne _ _ (by decide), opC_ne _ _ (by decide)]; rfl
theorem V3_b (d : Dev nD) : V3 m d a1' = m (bLoc d) := by
  unfold V3 V2 V1; rw [opT_ne _ _ (by decide), opS_ne _ _ (by decide), opC_ne _ _ (by decide)]; rfl
theorem V3_c (d : Dev nD) : V3 m d c' = tab := by
  unfold V3 V2 V1; rw [opT_ne _ _ (by decide), opS_ne _ _ (by decide)]; exact StableHlo.nullary_result _ _ _ _
theorem V3_s (d : Dev nD) : V3 m d v0' = SRC m d := by
  unfold V3 V2 V1; rw [opT_ne _ _ (by decide)]
  refine (StableHlo.reshape_result _ _ _ _ _ _ _).trans ?_
  show shapeCast _ ((opC (F := F)).result (V0 m d) a0') _ = _
  rw [opC_ne _ _ (by decide)]; rfl
theorem V3_t (d : Dev nD) : V3 m d v1' = TGT m d := by
  unfold V3 V2 V1
  refine (StableHlo.reshape_result _ _ _ _ _ _ _).trans ?_
  show shapeCast _ ((opS (F := F)).result ((opC (F := F)).result (V0 m d)) a1') _ = _
  rw [opS_ne _ _ (by decide), opC_ne _ _ (by decide)]; rfl
theorem V3_o (d : Dev nD) : V3 m d o' = m (oLoc d) := by
  unfold V3 V2 V1; rw [opT_ne _ _ (by decide), opS_ne _ _ (by decide), opC_ne _ _ (by decide)]; rfl
theorem V3_u (d : Dev nD) : V3 m d u' = m (uLoc d) := by
  unfold V3 V2 V1; rw [opT_ne _ _ (by decide), opS_ne _ _ (by decide), opC_ne _ _ (by decide)]; rfl
theorem V4_u (d : Dev nD) : V4 m d u' = TGT m d := Function.update_self _ _ _
theorem V4_o (d : Dev nD) : V4 m d o' = OUT tab (SRC m d) :=
  (Function.update_of_ne (show o' ≠ u' by decide) _ _).trans (Function.update_self _ _ _)
theorem V4_ne (d : Dev nD) (b : DevRef τ sig) (h : b ≠ u') (h' : b ≠ o') : V4 m d b = V3 m d b :=
  (Function.update_of_ne h _ _).trans (Function.update_of_ne h' _ _)
theorem V6_a (d : Dev nD) : V6 m d a0' = m (aLoc d) := by
  unfold V6 V5; rw [opQ_ne _ _ (by decide), opR_ne _ _ (by decide), V4_ne m d _ (by decide) (by decide), V3_a]
theorem V6_b (d : Dev nD) : V6 m d a1' = m (bLoc d) := by
  unfold V6 V5; rw [opQ_ne _ _ (by decide), opR_ne _ _ (by decide), V4_ne m d _ (by decide) (by decide), V3_b]
theorem V6_r (d : Dev nD) : V6 m d r3' = RES m d := by
  unfold V6 V5; rw [opQ_ne _ _ (by decide)]
  refine (StableHlo.reshape_result _ _ _ _ _ _ _).trans ?_
  show shapeCast _ (V4 m d o') _ = _
  rw [V4_o]; rfl
theorem V6_q (d : Dev nD) : V6 m d r4' = RES' m d := by
  unfold V6 V5
  refine (StableHlo.reshape_result _ _ _ _ _ _ _).trans ?_
  show shapeCast _ ((opR (F := F)).result (V4 m d) u') _ = _
  rw [opR_ne _ _ (by decide), V4_u]; rfl

theorem st0_eq (d : Dev nD) : (bigSep Finset.univ fun c : Fin ((K (F := F)).nCore 0) => (P m).st 0 d c)
    = iprop((cLoc d ↦{fullShare} tab) ∗ (sLoc d ↦{fullShare} SRC m d) ∗ (tLoc d ↦{fullShare} TGT m d) ∗ (oLoc d ↦{fullShare} m (oLoc d)) ∗ uLoc d ↦{fullShare} m (uLoc d)) :=
  deal_eq d tab (SRC m d) (TGT m d) (m (oLoc d)) (m (uLoc d))
theorem dn0_eq (d : Dev nD) : (bigSep Finset.univ fun c : Fin ((K (F := F)).nCore 0) => (P m).dn 0 d c)
    = iprop((cLoc d ↦{fullShare} tab) ∗ (sLoc d ↦{fullShare} SRC m d) ∗ (tLoc d ↦{fullShare} TGT m d) ∗ (oLoc d ↦{fullShare} OUT tab (SRC m d)) ∗ uLoc d ↦{fullShare} TGT m d) :=
  deal_eq d tab (SRC m d) (TGT m d) (OUT tab (SRC m d)) (TGT m d)

theorem hopC : (opC (F := F)).bufs ⊆ S9 := show ({c'} : Finset (DevRef τ sig)) ⊆ S9 by decide
theorem hopS : (opS (F := F)).bufs ⊆ S9 := show ({a0', v0'} : Finset (DevRef τ sig)) ⊆ S9 by decide
theorem hopT : (opT (F := F)).bufs ⊆ S9 := show ({a1', v1'} : Finset (DevRef τ sig)) ⊆ S9 by decide
theorem hopR : (opR (F := F)).bufs ⊆ S9 := show ({o', r3'} : Finset (DevRef τ sig)) ⊆ S9 by decide
theorem hopQ : (opQ (F := F)).bufs ⊆ S9 := show ({u', r4'} : Finset (DevRef τ sig)) ⊆ S9 by decide

/-- What @main leaves the claims: the arguments at their launch contents, the results at their values. -/
abbrev FIN (d : Dev nD) : sProp 𝕄 := iprop((aLoc d ↦{fullShare} m (aLoc d)) ∗ (bLoc d ↦{fullShare} m (bLoc d)) ∗ (rLoc d ↦{fullShare} RES m d) ∗ qLoc d ↦{fullShare} RES' m d)

theorem held_V3 (d : Dev nD) : (held (T d) S9 (V3 m d) : sProp 𝕄)
    = iprop((aLoc d ↦{fullShare} V3 m d a0') ∗ (bLoc d ↦{fullShare} V3 m d a1') ∗ (cLoc d ↦{fullShare} tab) ∗ (sLoc d ↦{fullShare} SRC m d) ∗ (tLoc d ↦{fullShare} TGT m d)
        ∗ (oLoc d ↦{fullShare} m (oLoc d)) ∗ (uLoc d ↦{fullShare} m (uLoc d)) ∗ (rLoc d ↦{fullShare} V3 m d r3') ∗ (qLoc d ↦{fullShare} V3 m d r4')) := by
  rw [held_S9, V3_c, V3_s, V3_t, V3_o, V3_u]
theorem held_V4 (d : Dev nD) : (held (T d) S9 (V4 m d) : sProp 𝕄)
    = iprop((aLoc d ↦{fullShare} V3 m d a0') ∗ (bLoc d ↦{fullShare} V3 m d a1') ∗ (cLoc d ↦{fullShare} tab) ∗ (sLoc d ↦{fullShare} SRC m d) ∗ (tLoc d ↦{fullShare} TGT m d)
        ∗ (oLoc d ↦{fullShare} OUT tab (SRC m d)) ∗ (uLoc d ↦{fullShare} TGT m d) ∗ (rLoc d ↦{fullShare} V3 m d r3') ∗ (qLoc d ↦{fullShare} V3 m d r4')) := by
  rw [held_S9, V4_o, V4_u, V4_ne m d a0' (by decide) (by decide), V4_ne m d a1' (by decide) (by decide), V4_ne m d c' (by decide) (by decide), V4_ne m d v0' (by decide) (by decide),
    V4_ne m d v1' (by decide) (by decide), V4_ne m d r3' (by decide) (by decide), V4_ne m d r4' (by decide) (by decide), V3_c, V3_s, V3_t]
theorem held_V6 (d : Dev nD) : (held (T d) S9 (V6 m d) : sProp 𝕄)
    = iprop((aLoc d ↦{fullShare} m (aLoc d)) ∗ (bLoc d ↦{fullShare} m (bLoc d)) ∗ (cLoc d ↦{fullShare} V6 m d c') ∗ (sLoc d ↦{fullShare} V6 m d v0') ∗ (tLoc d ↦{fullShare} V6 m d v1')
        ∗ (oLoc d ↦{fullShare} V6 m d o') ∗ (uLoc d ↦{fullShare} V6 m d u') ∗ (rLoc d ↦{fullShare} RES m d) ∗ (qLoc d ↦{fullShare} RES' m d)) := by
  rw [held_S9, V6_a, V6_b, V6_r, V6_q]

/-- @main on device `d`'s TensorCore: the table, the two flattenings, the call, the two results' shapes. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opC) (S := S9) hopC (V := V0 m d)) $$ [Hb Hheld]
  · isplitl [Hb] <;> iassumption
  iintro ⟨Hb, Hheld⟩
  rw [wp_ret]; imodintro
  iapply (wp_hlo_within 𝒱 (SparseCore.T d) none Set.univ (op := opS) (S := S9) hopS (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opT) (S := S9) hopT (V := V2 m d)) $$ [Hb Hheld]
  · isplitl [Hb]; · iexact Hb
    iexact Hheld
  iintro ⟨Hb, Hheld⟩
  rw [wp_ret]; imodintro
  ihave Hh := (show (held (T d) S9 ((opT (F := F)).result (V2 m d)) : sProp 𝕄) ⊢ _ from Entails.of_eq (held_V3 m d)) $$ Hheld
  icases Hh with ⟨Ha, Hb', Hc, Hs, Ht, Ho, Hu, Hr, Hq⟩
  iapply ((K (F := F)).wp_run (D (F := F)) 𝒱 (EH := EH) (P := P m) κ d 0) $$ [Hst Ha Hb' Hc Hs Ht Ho Hu Hr Hq Hb Hts]
  isplitr; · iexact Hctx
  isplitl [Hst]; · iexact Hst
  isplitl [Hc Hs Ht Ho Hu]
  · rw [st0_eq]
    isplitl [Hc]; · iexact Hc
    isplitl [Hs]; · iexact Hs
    isplitl [Ht]; · iexact Ht
    isplitl [Ho]; · iexact Ho
    iexact Hu
  iintro ⟨Hst, Hdn⟩
  ihave Hdn' := (Entails.of_eq (dn0_eq m d)) $$ Hdn
  icases Hdn' with ⟨Hc, Hs, Ht, Ho, Hu⟩
  iapply (wp_hlo_within 𝒱 (SparseCore.T d) none Set.univ (op := opR) (S := S9) hopR (V := V4 m d)) $$ [Hb Ha Hb' Hc Hs Ht Ho Hu Hr Hq]
  · isplitl [Hb]; · iexact Hb
    rw [held_V4]
    isplitl [Ha]; · iexact Ha
    isplitl [Hb']; · iexact Hb'
    isplitl [Hc]; · iexact Hc
    isplitl [Hs]; · iexact Hs
    isplitl [Ht]; · iexact Ht
    isplitl [Ho]; · iexact Ho
    isplitl [Hu]; · iexact Hu
    isplitl [Hr]; · iexact Hr
    iexact Hq
  iintro ⟨Hb, Hheld⟩
  rw [wp_ret]; imodintro
  iapply (wp_hlo_within 𝒱 (SparseCore.T d) none Set.univ (op := opQ) (S := S9) hopQ (V := V5 m d)) $$ [Hb Hheld]
  · isplitl [Hb]; · iexact Hb
    iexact Hheld
  iintro ⟨Hb, Hheld⟩
  ihave Hh := (show (held (T d) S9 ((opQ (F := F)).result (V5 m d)) : sProp 𝕄) ⊢ _ from Entails.of_eq (held_V6 m d)) $$ Hheld
  icases Hh with ⟨Ha, Hb', -, -, -, -, -, Hr, Hq⟩
  rw [wp_ret]; imodintro; imodintro
  isplitl [Hst]; · iexact Hst
  isplitr [Hb Hts]
  · isplitl [Ha]; · iexact Ha
    isplitl [Hb']; · iexact Hb'
    isplitl [Hr]; · iexact Hr
    iexact Hq
  isplitl [Hb] <;> iassumption

/-- What the claims read of device `d`'s final state. -/
def fq (d : Dev nD) (s' : Phys nD τ sig (Elt F)) : Prop :=
  s'.mem.mem (rLoc d) = RES m d ∧ s'.mem.mem (qLoc d) = RES' m d ∧ s'.mem.mem (aLoc d) = m (aLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Ha, Hb, Hr, Hq⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%hb, HSI, -⟩
  ihave H := (persistent_entails_right (SI_pointsTo_agree (st := s') (ℓ := rLoc d) (I := Finset.univ) (q := fullShare) (f := RES m d))) $$ [HSI Hr]
  · isplitl [HSI] <;> iassumption
  icases H with ⟨%hr, HSI, -⟩
  ihave H := (SI_pointsTo_agree (st := s') (ℓ := qLoc d) (I := Finset.univ) (q := fullShare) (f := RES' m d)) $$ [HSI Hq]
  · isplitl [HSI] <;> iassumption
  icases H with %hq
  ipureintro
  exact ⟨funext fun i => hr i (Finset.mem_univ i), funext fun i => hq i (Finset.mem_univ i), funext fun i => ha i (Finset.mem_univ i), funext fun i => hb i (Finset.mem_univ i)⟩

/-! ## The program's run -/

def QC : PUnit × MemSt nD τ sig (Elt F) → Prop := fun r =>
  (∀ c : Dev nD, r.2.mem (rLoc c) = RES m c ∧ r.2.mem (qLoc c) = RES' m c ∧ r.2.mem (aLoc c) = m (aLoc c) ∧ r.2.mem (bLoc c) = m (bLoc c)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- The kernel's frame, as printed and idealized. -/
theorem frame_kernel : Cert.quiescent_Kernel := fun m ρ _ =>
  (θ_run Cert.KernelIdeal.defs _ _).mono (fun _ h => ⟨fun c => (h.1 c).2.2, h.2⟩) (run_main (F := Bits) m ρ)
theorem frame_ideal : Cert.quiescent_KernelIdeal := fun m ρ _ =>
  (θ_run Cert.KernelIdeal.defs _ _).mono (fun _ h => ⟨fun c => (h.1 c).2.2, h.2⟩) (run_main (F := Ideal) m ρ)

end Cert.Proof.Tile

end
-- ==== Proof.RefOps.lean ====
/-
  The reference program as a list of host operations.
-/
module

public import proofs.«01_k».proof.Proof.Gen.ReferenceIdeal
public import proofs.«01_k».proof.Defs
public import Idealize.ShloMosaic.Lib.StableHlo.Run

@[expose] public section

noncomputable section

namespace Cert.Proof.Ref

open Cert.ReferenceIdeal
open Cert.ReferenceIdeal.Facts₀ Cert.ReferenceIdeal.Facts
open Idealize.ShloMosaic Idealize.ShloMosaic.StableHlo Idealize.SL.Sem

/-! ## The typed references of the values of `main` -/

noncomputable abbrev rArg0 : TRef sig ⟨S2x32x1x160000, .f32⟩ := .of main_arg0
noncomputable abbrev rArg1 : TRef sig ⟨S32x1x160000, .f32⟩ := .of main_arg1
noncomputable abbrev rV0 : TRef sig ⟨S1x32x1x160000, .f32⟩ := .of main_v0
noncomputable abbrev rV1 : TRef sig ⟨S32x1x160000, .f32⟩ := .of main_v1
noncomputable abbrev rV2 : TRef sig ⟨S1x32x1x160000, .f32⟩ := .of main_v2
noncomputable abbrev rV3 : TRef sig ⟨S32x1x160000, .f32⟩ := .of main_v3
noncomputable abbrev rC : TRef sig ⟨S_, .i32⟩ := .of main_c
noncomputable abbrev rC_0 : TRef sig ⟨S_, .i32⟩ := .of main_c_0
noncomputable abbrev rV4 : TRef sig ⟨S_, .i32⟩ := .of main_v4
noncomputable abbrev rV5 : TRef sig ⟨S_, .i32⟩ := .of main_v5
noncomputable abbrev rV6 : TRef sig ⟨S1, .i32⟩ := .of main_v6
noncomputable abbrev rC_1 : TRef sig ⟨S_, .i32⟩ := .of main_c_1
noncomputable abbrev rV7 : TRef sig ⟨S_, .i32⟩ := .of main_v7
noncomputable abbrev rV8 : TRef sig ⟨S_, .i32⟩ := .of main_v8
noncomputable abbrev rV9 : TRef sig ⟨S1, .i32⟩ := .of main_v9
noncomputable abbrev rV10 : TRef sig ⟨S2, .i32⟩ := .of main_v10
noncomputable abbrev rCst : TRef sig ⟨S_, .f32⟩ := .of main_cst
noncomputable abbrev rCst_2 : TRef sig ⟨S_, .f32⟩ := .of main_cst_2
noncomputable abbrev rV11 : TRef sig ⟨S32, .f32⟩ := .of main_v11
noncomputable abbrev rV12 : TRef sig ⟨S32, .i32⟩ := .of main_v12
noncomputable abbrev rC_3 : TRef sig ⟨S_, .i32⟩ := .of main_c_3
noncomputable abbrev rV13 : TRef sig ⟨S32, .i32⟩ := .of main_v13
noncomputable abbrev rV14 : TRef sig ⟨S32, .i1⟩ := .of main_v14
noncomputable abbrev rC_4 : TRef sig ⟨S_, .i32⟩ := .of main_c_4
noncomputable abbrev rV15 : TRef sig ⟨S32, .i32⟩ := .of main_v15
noncomputable abbrev rV16 : TRef sig ⟨S32, .i32⟩ := .of main_v16
noncomputable abbrev rV17 : TRef sig ⟨S32, .i32⟩ := .of main_v17
noncomputable abbrev rV18 : TRef sig ⟨S32x1, .i32⟩ := .of main_v18
noncomputable abbrev rV19 : TRef sig ⟨S32x1x160000, .f32⟩ := .of main_v19
noncomputable abbrev rV20 : TRef sig ⟨S1x32x1x160000, .f32⟩ := .of main_v20
noncomputable abbrev rV21 : TRef sig ⟨S1x32x1x160000, .f32⟩ := .of main_v21
noncomputable abbrev rV22 : TRef sig ⟨S2x32x1x160000, .f32⟩ := .of main_v22

local notation "𝕆" => HloOp τ sig (Elt Ideal)

/-! ## The operations -/

/-- Operations of the line, part 0. -/
noncomputable def ops0 : List (HloOp τ sig (Elt Ideal)) := [
  TRef.unary rArg0 rV0 ((extractStridedSlice S1x32x1x160000 ![0, 0, 0, 0] · slices_S2x32x1x160000_S1x32x1x160000_0_0_0_0) : (⟨S2x32x1x160000, .f32⟩ : BufTy).Contents (Elt Ideal) → (⟨S1x32x1x160000, .f32⟩ : BufTy).Contents (Elt Ideal)),
  TRef.reshape rV0 rV1 (rfl : (.f32 : EltTy) = .f32) shapeCasts_S1x32x1x160000_S32x1x160000,
  TRef.unary rArg0 rV2 ((extractStridedSlice S1x32x1x160000 ![1, 0, 0, 0] · slices_S2x32x1x160000_S1x32x1x160000_1_0_0_0) : (⟨S2x32x1x160000, .f32⟩ : BufTy).Contents (Elt Ideal) → (⟨S1x32x1x160000, .f32⟩ : BufTy).Contents (Elt Ideal)),
  TRef.reshape rV2 rV3 (rfl : (.f32 : EltTy) = .f32) shapeCasts_S1x32x1x160000_S32x1x160000,
  TRef.nullary rC (constantI S_ 32 42#32),
  TRef.nullary rC_0 (constantI S_ 32 32#32),
  TRef.binary rC rC_0 rV4 (Host.shrui : (⟨S_, .i32⟩ : BufTy).Contents (Elt Ideal) → (⟨S_, .i32⟩ : BufTy).Contents (Elt Ideal) → (⟨S_, .i32⟩ : BufTy).Contents (Elt Ideal)),
  TRef.unary rV4 rV5 (id : (⟨S_, .i32⟩ : BufTy).Contents (Elt Ideal) → (⟨S_, .i32⟩ : BufTy).Contents (Elt Ideal)),
  TRef.unary rV5 rV6 (broadcastInDim S1 ![] bcast_S_S1 : (⟨S_, .i32⟩ : BufTy).Contents (Elt Ideal) → (⟨S1, .i32⟩ : BufTy).Contents (Elt Ideal)),
  TRef.nullary rC_1 (constantI S_ 32 4294967295#32),
  TRef.binary rC rC_1 rV7 (andi : (⟨S_, .i32⟩ : BufTy).Contents (Elt Ideal) → (⟨S_, .i32⟩ : BufTy).Contents (Elt Ideal) → (⟨S_, .i32⟩ : BufTy).Contents (Elt Ideal)),
  TRef.unary rV7 rV8 (id : (⟨S_, .i32⟩ : BufTy).Contents (Elt Ideal) → (⟨S_, .i32⟩ : BufTy).Contents (Elt Ideal)),
  TRef.unary rV8 rV9 (broadcastInDim S1 ![] bcast_S_S1 : (⟨S_, .i32⟩ : BufTy).Contents (Elt Ideal) → (⟨S1, .i32⟩ : BufTy).Contents (Elt Ideal)),
  TRef.binary rV6 rV9 rV10 ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)),
  TRef.nullary rCst (constant (F := Ideal) S_ .f32 0x00000000#32),
  TRef.nullary rCst_2 (constant (F := Ideal) S_ .f32 0x3F800000#32)]

/-- Operations of the line, part 1. -/
noncomputable def ops1 : List (HloOp τ sig (Elt Ideal)) := [
  TRef.unary rCst main_call0.v0 id,
  TRef.unary rCst_2 main_call0.v1 id,
  TRef.unary main_call0.v0 main_call0.v2 (broadcastInDim S1 ![] bcast_S_S1),
  TRef.unary main_call0.v1 main_call0.v3 (broadcastInDim S1 ![] bcast_S_S1),
  TRef.unary rV10 main_call0.v4 (extractStridedSlice S1 ![0] · slices_S2_S1_0),
  TRef.reshape main_call0.v4 main_call0.v5 (rfl : (.i32 : EltTy) = .i32) shapeCasts_S1_S_,
  TRef.unary rV10 main_call0.v6 (extractStridedSlice S1 ![1] · slices_S2_S1_1),
  TRef.reshape main_call0.v6 main_call0.v7 (rfl : (.i32 : EltTy) = .i32) shapeCasts_S1_S_,
  TRef.nullary main_call0.v8 (iotaInDim S32 64 0),
  TRef.nullary main_call0.c (constantI S_ 64 1#64),
  TRef.unary main_call0.c main_call0.v9 (broadcastInDim S32 ![] bcast_S_S32),
  TRef.binary main_call0.v9 main_call0.v8 main_call0.v10 muli,
  TRef.nullary main_call0.c_0 (constantI S_ 64 32#64),
  TRef.unary main_call0.c_0 main_call0.v11 (broadcastInDim S32 ![] bcast_S_S32),
  TRef.binary main_call0.v10 main_call0.v11 main_call0.v12 Host.shrui,
  TRef.unary main_call0.v10 main_call0.v13 (trunci 32 · natLt_32_64),
  TRef.unary main_call0.v12 main_call0.v14 (trunci 32 · natLt_32_64)]

/-- Operations of the line, part 2. -/
noncomputable def ops2 : List (HloOp τ sig (Elt Ideal)) := [
  TRef.binary main_call0.v5 main_call0.v7 main_call0_call0.v0 xori,
  TRef.nullary main_call0_call0.c (constantI S_ 32 466688986#32),
  TRef.binary main_call0_call0.v0 main_call0_call0.c main_call0_call0.v1 xori,
  TRef.unary main_call0.v5 main_call0_call0.v2 (broadcastInDim S32 ![] bcast_S_S32),
  TRef.binary main_call0.v14 main_call0_call0.v2 main_call0_call0.v3 addi,
  TRef.unary main_call0.v7 main_call0_call0.v4 (broadcastInDim S32 ![] bcast_S_S32),
  TRef.binary main_call0.v13 main_call0_call0.v4 main_call0_call0.v5 addi,
  TRef.binary main_call0_call0.v3 main_call0_call0.v5 main_call0_call0.v6 addi,
  TRef.nullary main_call0_call0.c_0 (constantI S_ 32 13#32),
  TRef.unary main_call0_call0.c_0 main_call0_call0.v7 (broadcastInDim S32 ![] bcast_S_S32),
  TRef.binary main_call0_call0.v5 main_call0_call0.v7 main_call0_call0.v8 Host.shli,
  TRef.nullary main_call0_call0.c_1 (constantI S_ 32 19#32),
  TRef.unary main_call0_call0.c_1 main_call0_call0.v9 (broadcastInDim S32 ![] bcast_S_S32),
  TRef.binary main_call0_call0.v5 main_call0_call0.v9 main_call0_call0.v10 Host.shrui,
  TRef.binary main_call0_call0.v8 main_call0_call0.v10 main_call0_call0.v11 ori,
  TRef.binary main_call0_call0.v6 main_call0_call0.v11 main_call0_call0.v12 xori,
  TRef.binary main_call0_call0.v6 main_call0_call0.v12 main_call0_call0.v13 addi,
  TRef.nullary main_call0_call0.c_2 (constantI S_ 32 15#32),
  TRef.unary main_call0_call0.c_2 main_call0_call0.v14 (broadcastInDim S32 ![] bcast_S_S32),
  TRef.binary main_call0_call0.v12 main_call0_call0.v14 main_call0_call0.v15 Host.shli,
  TRef.nullary main_call0_call0.c_3 (constantI S_ 32 17#32),
  TRef.unary main_call0_call0.c_3 main_call0_call0.v16 (broadcastInDim S32 ![] bcast_S_S32),
  TRef.binary main_call0_call0.v12 main_call0_call0.v16 main_call0_call0.v17 Host.shrui,
  TRef.binary main_call0_call0.v15 main_call0_call0.v17 main_call0_call0.v18 ori,
  TRef.binary main_call0_call0.v13 main_call0_call0.v18 main_call0_call0.v19 xori,
  TRef.binary main_call0_call0.v13 main_call0_call0.v19 main_call0_call0.v20 addi,
  TRef.nullary main_call0_call0.c_4 (constantI S_ 32 26#32),
  TRef.unary main_call0_call0.c_4 main_call0_call0.v21 (broadcastInDim S32 ![] bcast_S_S32),
  TRef.binary main_call0_call0.v19 main_call0_call0.v21 main_call0_call0.v22 Host.shli,
  TRef.nullary main_call0_call0.c_5 (constantI S_ 32 6#32),
  TRef.unary main_call0_call0.c_5 main_call0_call0.v23 (broadcastInDim S32 ![] bcast_S_S32),
  TRef.binary main_call0_call0.v19 main_call0_call0.v23 main_call0_call0.v24 Host.shrui,
  TRef.binary main_call0_call0.v22 main_call0_call0.v24 main_call0_call0.v25 ori,
  TRef.binary main_call0_call0.v20 main_call0_call0.v25 main_call0_call0.v26 xori,
  TRef.binary main_call0_call0.v20 main_call0_call0.v26 main_call0_call0.v27 addi,
  TRef.nullary main_call0_call0.c_6 (constantI S_ 32 6#32),
  TRef.unary main_call0_call0.c_6 main_call0_call0.v28 (broadcastInDim S32 ![] bcast_S_S32),
  TRef.binary main_call0_call0.v26 main_call0_call0.v28 main_call0_call0.v29 Host.shli,
  TRef.nullary main_call0_call0.c_7 (constantI S_ 32 26#32),
  TRef.unary main_call0_call0.c_7 main_call0_call0.v30 (broadcastInDim S32 ![] bcast_S_S32)]

/-- Operations of the line, part 3. -/
noncomputable def ops3 : List (HloOp τ sig (Elt Ideal)) := [
  TRef.binary main_call0_call0.v26 main_call0_call0.v30 main_call0_call0.v31 Host.shrui,
  TRef.binary main_call0_call0.v29 main_call0_call0.v31 main_call0_call0.v32 ori,
  TRef.binary main_call0_call0.v27 main_call0_call0.v32 main_call0_call0.v33 xori,
  TRef.unary main_call0.v7 main_call0_call0.v34 (broadcastInDim S32 ![] bcast_S_S32),
  TRef.binary main_call0_call0.v27 main_call0_call0.v34 main_call0_call0.v35 addi,
  TRef.unary main_call0_call0.v1 main_call0_call0.v36 (broadcastInDim S32 ![] bcast_S_S32),
  TRef.binary main_call0_call0.v33 main_call0_call0.v36 main_call0_call0.v37 addi,
  TRef.nullary main_call0_call0.c_8 (constantI S_ 32 1#32),
  TRef.unary main_call0_call0.c_8 main_call0_call0.v38 (broadcastInDim S32 ![] bcast_S_S32),
  TRef.binary main_call0_call0.v37 main_call0_call0.v38 main_call0_call0.v39 addi,
  TRef.binary main_call0_call0.v35 main_call0_call0.v39 main_call0_call0.v40 addi,
  TRef.nullary main_call0_call0.c_9 (constantI S_ 32 17#32),
  TRef.unary main_call0_call0.c_9 main_call0_call0.v41 (broadcastInDim S32 ![] bcast_S_S32),
  TRef.binary main_call0_call0.v39 main_call0_call0.v41 main_call0_call0.v42 Host.shli,
  TRef.nullary main_call0_call0.c_10 (constantI S_ 32 15#32),
  TRef.unary main_call0_call0.c_10 main_call0_call0.v43 (broadcastInDim S32 ![] bcast_S_S32),
  TRef.binary main_call0_call0.v39 main_call0_call0.v43 main_call0_call0.v44 Host.shrui,
  TRef.binary main_call0_call0.v42 main_call0_call0.v44 main_call0_call0.v45 ori,
  TRef.binary main_call0_call0.v40 main_call0_call0.v45 main_call0_call0.v46 xori,
  TRef.binary main_call0_call0.v40 main_call0_call0.v46 main_call0_call0.v47 addi]

/-- Operations of the line, part 4. -/
noncomputable def ops4 : List (HloOp τ sig (Elt Ideal)) := [
  TRef.nullary main_call0_call0.c_11 (constantI S_ 32 29#32),
  TRef.unary main_call0_call0.c_11 main_call0_call0.v48 (broadcastInDim S32 ![] bcast_S_S32),
  TRef.binary main_call0_call0.v46 main_call0_call0.v48 main_call0_call0.v49 Host.shli,
  TRef.nullary main_call0_call0.c_12 (constantI S_ 32 3#32),
  TRef.unary main_call0_call0.c_12 main_call0_call0.v50 (broadcastInDim S32 ![] bcast_S_S32),
  TRef.binary main_call0_call0.v46 main_call0_call0.v50 main_call0_call0.v51 Host.shrui,
  TRef.binary main_call0_call0.v49 main_call0_call0.v51 main_call0_call0.v52 ori,
  TRef.binary main_call0_call0.v47 main_call0_call0.v52 main_call0_call0.v53 xori,
  TRef.binary main_call0_call0.v47 main_call0_call0.v53 main_call0_call0.v54 addi,
  TRef.nullary main_call0_call0.c_13 (constantI S_ 32 16#32),
  TRef.unary main_call0_call0.c_13 main_call0_call0.v55 (broadcastInDim S32 ![] bcast_S_S32),
  TRef.binary main_call0_call0.v53 main_call0_call0.v55 main_call0_call0.v56 Host.shli,
  TRef.nullary main_call0_call0.c_14 (constantI S_ 32 16#32),
  TRef.unary main_call0_call0.c_14 main_call0_call0.v57 (broadcastInDim S32 ![] bcast_S_S32),
  TRef.binary main_call0_call0.v53 main_call0_call0.v57 main_call0_call0.v58 Host.shrui,
  TRef.binary main_call0_call0.v56 main_call0_call0.v58 main_call0_call0.v59 ori,
  TRef.binary main_call0_call0.v54 main_call0_call0.v59 main_call0_call0.v60 xori,
  TRef.binary main_call0_call0.v54 main_call0_call0.v60 main_call0_call0.v61 addi,
  TRef.nullary main_call0_call0.c_15 (constantI S_ 32 24#32),
  TRef.unary main_call0_call0.c_15 main_call0_call0.v62 (broadcastInDim S32 ![] bcast_S_S32),
  TRef.binary main_call0_call0.v60 main_call0_call0.v62 main_call0_call0.v63 Host.shli,
  TRef.nullary main_call0_call0.c_16 (constantI S_ 32 8#32),
  TRef.unary main_call0_call0.c_16 main_call0_call0.v64 (broadcastInDim S32 ![] bcast_S_S32),
  TRef.binary main_call0_call0.v60 main_call0_call0.v64 main_call0_call0.v65 Host.shrui,
  TRef.binary main_call0_call0.v63 main_call0_call0.v65 main_call0_call0.v66 ori,
  TRef.binary main_call0_call0.v61 main_call0_call0.v66 main_call0_call0.v67 xori,
  TRef.unary main_call0_call0.v1 main_call0_call0.v68 (broadcastInDim S32 ![] bcast_S_S32),
  TRef.binary main_call0_call0.v61 main_call0_call0.v68 main_call0_call0.v69 addi,
  TRef.unary main_call0.v5 main_call0_call0.v70 (broadcastInDim S32 ![] bcast_S_S32),
  TRef.binary main_call0_call0.v67 main_call0_call0.v70 main_call0_call0.v71 addi,
  TRef.nullary main_call0_call0.c_17 (constantI S_ 32 2#32),
  TRef.unary main_call0_call0.c_17 main_call0_call0.v72 (broadcastInDim S32 ![] bcast_S_S32),
  TRef.binary main_call0_call0.v71 main_call0_call0.v72 main_call0_call0.v73 addi,
  TRef.binary main_call0_call0.v69 main_call0_call0.v73 main_call0_call0.v74 addi,
  TRef.nullary main_call0_call0.c_18 (constantI S_ 32 13#32),
  TRef.unary main_call0_call0.c_18 main_call0_call0.v75 (broadcastInDim S32 ![] bcast_S_S32),
  TRef.binary main_call0_call0.v73 main_call0_call0.v75 main_call0_call0.v76 Host.shli,
  TRef.nullary main_call0_call0.c_19 (constantI S_ 32 19#32),
  TRef.unary main_call0_call0.c_19 main_call0_call0.v77 (broadcastInDim S32 ![] bcast_S_S32),
  TRef.binary main_call0_call0.v73 main_call0_call0.v77 main_call0_call0.v78 Host.shrui]

/-- Operations of the line, part 5. -/
noncomputable def ops5 : List (HloOp τ sig (Elt Ideal)) := [
  TRef.binary main_call0_call0.v76 main_call0_call0.v78 main_call0_call0.v79 ori,
  TRef.binary main_call0_call0.v74 main_call0_call0.v79 main_call0_call0.v80 xori,
  TRef.binary main_call0_call0.v74 main_call0_call0.v80 main_call0_call0.v81 addi,
  TRef.nullary main_call0_call0.c_20 (constantI S_ 32 15#32),
  TRef.unary main_call0_call0.c_20 main_call0_call0.v82 (broadcastInDim S32 ![] bcast_S_S32),
  TRef.binary main_call0_call0.v80 main_call0_call0.v82 main_call0_call0.v83 Host.shli,
  TRef.nullary main_call0_call0.c_21 (constantI S_ 32 17#32),
  TRef.unary main_call0_call0.c_21 main_call0_call0.v84 (broadcastInDim S32 ![] bcast_S_S32),
  TRef.binary main_call0_call0.v80 main_call0_call0.v84 main_call0_call0.v85 Host.shrui,
  TRef.binary main_call0_call0.v83 main_call0_call0.v85 main_call0_call0.v86 ori,
  TRef.binary main_call0_call0.v81 main_call0_call0.v86 main_call0_call0.v87 xori,
  TRef.binary main_call0_call0.v81 main_call0_call0.v87 main_call0_call0.v88 addi,
  TRef.nullary main_call0_call0.c_22 (constantI S_ 32 26#32),
  TRef.unary main_call0_call0.c_22 main_call0_call0.v89 (broadcastInDim S32 ![] bcast_S_S32),
  TRef.binary main_call0_call0.v87 main_call0_call0.v89 main_call0_call0.v90 Host.shli,
  TRef.nullary main_call0_call0.c_23 (constantI S_ 32 6#32),
  TRef.unary main_call0_call0.c_23 main_call0_call0.v91 (broadcastInDim S32 ![] bcast_S_S32),
  TRef.binary main_call0_call0.v87 main_call0_call0.v91 main_call0_call0.v92 Host.shrui,
  TRef.binary main_call0_call0.v90 main_call0_call0.v92 main_call0_call0.v93 ori,
  TRef.binary main_call0_call0.v88 main_call0_call0.v93 main_call0_call0.v94 xori]

/-- Operations of the line, part 6. -/
noncomputable def ops6 : List (HloOp τ sig (Elt Ideal)) := [
  TRef.binary main_call0_call0.v88 main_call0_call0.v94 main_call0_call0.v95 addi,
  TRef.nullary main_call0_call0.c_24 (constantI S_ 32 6#32),
  TRef.unary main_call0_call0.c_24 main_call0_call0.v96 (broadcastInDim S32 ![] bcast_S_S32),
  TRef.binary main_call0_call0.v94 main_call0_call0.v96 main_call0_call0.v97 Host.shli,
  TRef.nullary main_call0_call0.c_25 (constantI S_ 32 26#32),
  TRef.unary main_call0_call0.c_25 main_call0_call0.v98 (broadcastInDim S32 ![] bcast_S_S32),
  TRef.binary main_call0_call0.v94 main_call0_call0.v98 main_call0_call0.v99 Host.shrui,
  TRef.binary main_call0_call0.v97 main_call0_call0.v99 main_call0_call0.v100 ori,
  TRef.binary main_call0_call0.v95 main_call0_call0.v100 main_call0_call0.v101 xori,
  TRef.unary main_call0.v5 main_call0_call0.v102 (broadcastInDim S32 ![] bcast_S_S32),
  TRef.binary main_call0_call0.v95 main_call0_call0.v102 main_call0_call0.v103 addi,
  TRef.unary main_call0.v7 main_call0_call0.v104 (broadcastInDim S32 ![] bcast_S_S32),
  TRef.binary main_call0_call0.v101 main_call0_call0.v104 main_call0_call0.v105 addi,
  TRef.nullary main_call0_call0.c_26 (constantI S_ 32 3#32),
  TRef.unary main_call0_call0.c_26 main_call0_call0.v106 (broadcastInDim S32 ![] bcast_S_S32),
  TRef.binary main_call0_call0.v105 main_call0_call0.v106 main_call0_call0.v107 addi,
  TRef.binary main_call0_call0.v103 main_call0_call0.v107 main_call0_call0.v108 addi,
  TRef.nullary main_call0_call0.c_27 (constantI S_ 32 17#32),
  TRef.unary main_call0_call0.c_27 main_call0_call0.v109 (broadcastInDim S32 ![] bcast_S_S32),
  TRef.binary main_call0_call0.v107 main_call0_call0.v109 main_call0_call0.v110 Host.shli,
  TRef.nullary main_call0_call0.c_28 (constantI S_ 32 15#32),
  TRef.unary main_call0_call0.c_28 main_call0_call0.v111 (broadcastInDim S32 ![] bcast_S_S32),
  TRef.binary main_call0_call0.v107 main_call0_call0.v111 main_call0_call0.v112 Host.shrui,
  TRef.binary main_call0_call0.v110 main_call0_call0.v112 main_call0_call0.v113 ori,
  TRef.binary main_call0_call0.v108 main_call0_call0.v113 main_call0_call0.v114 xori,
  TRef.binary main_call0_call0.v108 main_call0_call0.v114 main_call0_call0.v115 addi,
  TRef.nullary main_call0_call0.c_29 (constantI S_ 32 29#32),
  TRef.unary main_call0_call0.c_29 main_call0_call0.v116 (broadcastInDim S32 ![] bcast_S_S32),
  TRef.binary main_call0_call0.v114 main_call0_call0.v116 main_call0_call0.v117 Host.shli,
  TRef.nullary main_call0_call0.c_30 (constantI S_ 32 3#32),
  TRef.unary main_call0_call0.c_30 main_call0_call0.v118 (broadcastInDim S32 ![] bcast_S_S32),
  TRef.binary main_call0_call0.v114 main_call0_call0.v118 main_call0_call0.v119 Host.shrui,
  TRef.binary main_call0_call0.v117 main_call0_call0.v119 main_call0_call0.v120 ori,
  TRef.binary main_call0_call0.v115 main_call0_call0.v120 main_call0_call0.v121 xori,
  TRef.binary main_call0_call0.v115 main_call0_call0.v121 main_call0_call0.v122 addi,
  TRef.nullary main_call0_call0.c_31 (constantI S_ 32 16#32),
  TRef.unary main_call0_call0.c_31 main_call0_call0.v123 (broadcastInDim S32 ![] bcast_S_S32),
  TRef.binary main_call0_call0.v121 main_call0_call0.v123 main_call0_call0.v124 Host.shli,
  TRef.nullary main_call0_call0.c_32 (constantI S_ 32 16#32),
  TRef.unary main_call0_call0.c_32 main_call0_call0.v125 (broadcastInDim S32 ![] bcast_S_S32)]

/-- Operations of the line, part 7. -/
noncomputable def ops7 : List (HloOp τ sig (Elt Ideal)) := [
  TRef.binary main_call0_call0.v121 main_call0_call0.v125 main_call0_call0.v126 Host.shrui,
  TRef.binary main_call0_call0.v124 main_call0_call0.v126 main_call0_call0.v127 ori,
  TRef.binary main_call0_call0.v122 main_call0_call0.v127 main_call0_call0.v128 xori,
  TRef.binary main_call0_call0.v122 main_call0_call0.v128 main_call0_call0.v129 addi,
  TRef.nullary main_call0_call0.c_33 (constantI S_ 32 24#32),
  TRef.unary main_call0_call0.c_33 main_call0_call0.v130 (broadcastInDim S32 ![] bcast_S_S32),
  TRef.binary main_call0_call0.v128 main_call0_call0.v130 main_call0_call0.v131 Host.shli,
  TRef.nullary main_call0_call0.c_34 (constantI S_ 32 8#32),
  TRef.unary main_call0_call0.c_34 main_call0_call0.v132 (broadcastInDim S32 ![] bcast_S_S32),
  TRef.binary main_call0_call0.v128 main_call0_call0.v132 main_call0_call0.v133 Host.shrui,
  TRef.binary main_call0_call0.v131 main_call0_call0.v133 main_call0_call0.v134 ori,
  TRef.binary main_call0_call0.v129 main_call0_call0.v134 main_call0_call0.v135 xori,
  TRef.unary main_call0.v7 main_call0_call0.v136 (broadcastInDim S32 ![] bcast_S_S32),
  TRef.binary main_call0_call0.v129 main_call0_call0.v136 main_call0_call0.v137 addi,
  TRef.unary main_call0_call0.v1 main_call0_call0.v138 (broadcastInDim S32 ![] bcast_S_S32),
  TRef.binary main_call0_call0.v135 main_call0_call0.v138 main_call0_call0.v139 addi,
  TRef.nullary main_call0_call0.c_35 (constantI S_ 32 4#32),
  TRef.unary main_call0_call0.c_35 main_call0_call0.v140 (broadcastInDim S32 ![] bcast_S_S32),
  TRef.binary main_call0_call0.v139 main_call0_call0.v140 main_call0_call0.v141 addi,
  TRef.binary main_call0_call0.v137 main_call0_call0.v141 main_call0_call0.v142 addi]

/-- Operations of the line, part 8. -/
noncomputable def ops8 : List (HloOp τ sig (Elt Ideal)) := [
  TRef.nullary main_call0_call0.c_36 (constantI S_ 32 13#32),
  TRef.unary main_call0_call0.c_36 main_call0_call0.v143 (broadcastInDim S32 ![] bcast_S_S32),
  TRef.binary main_call0_call0.v141 main_call0_call0.v143 main_call0_call0.v144 Host.shli,
  TRef.nullary main_call0_call0.c_37 (constantI S_ 32 19#32),
  TRef.unary main_call0_call0.c_37 main_call0_call0.v145 (broadcastInDim S32 ![] bcast_S_S32),
  TRef.binary main_call0_call0.v141 main_call0_call0.v145 main_call0_call0.v146 Host.shrui,
  TRef.binary main_call0_call0.v144 main_call0_call0.v146 main_call0_call0.v147 ori,
  TRef.binary main_call0_call0.v142 main_call0_call0.v147 main_call0_call0.v148 xori,
  TRef.binary main_call0_call0.v142 main_call0_call0.v148 main_call0_call0.v149 addi,
  TRef.nullary main_call0_call0.c_38 (constantI S_ 32 15#32),
  TRef.unary main_call0_call0.c_38 main_call0_call0.v150 (broadcastInDim S32 ![] bcast_S_S32),
  TRef.binary main_call0_call0.v148 main_call0_call0.v150 main_call0_call0.v151 Host.shli,
  TRef.nullary main_call0_call0.c_39 (constantI S_ 32 17#32),
  TRef.unary main_call0_call0.c_39 main_call0_call0.v152 (broadcastInDim S32 ![] bcast_S_S32),
  TRef.binary main_call0_call0.v148 main_call0_call0.v152 main_call0_call0.v153 Host.shrui,
  TRef.binary main_call0_call0.v151 main_call0_call0.v153 main_call0_call0.v154 ori,
  TRef.binary main_call0_call0.v149 main_call0_call0.v154 main_call0_call0.v155 xori,
  TRef.binary main_call0_call0.v149 main_call0_call0.v155 main_call0_call0.v156 addi,
  TRef.nullary main_call0_call0.c_40 (constantI S_ 32 26#32),
  TRef.unary main_call0_call0.c_40 main_call0_call0.v157 (broadcastInDim S32 ![] bcast_S_S32),
  TRef.binary main_call0_call0.v155 main_call0_call0.v157 main_call0_call0.v158 Host.shli,
  TRef.nullary main_call0_call0.c_41 (constantI S_ 32 6#32),
  TRef.unary main_call0_call0.c_41 main_call0_call0.v159 (broadcastInDim S32 ![] bcast_S_S32),
  TRef.binary main_call0_call0.v155 main_call0_call0.v159 main_call0_call0.v160 Host.shrui,
  TRef.binary main_call0_call0.v158 main_call0_call0.v160 main_call0_call0.v161 ori,
  TRef.binary main_call0_call0.v156 main_call0_call0.v161 main_call0_call0.v162 xori,
  TRef.binary main_call0_call0.v156 main_call0_call0.v162 main_call0_call0.v163 addi,
  TRef.nullary main_call0_call0.c_42 (constantI S_ 32 6#32),
  TRef.unary main_call0_call0.c_42 main_call0_call0.v164 (broadcastInDim S32 ![] bcast_S_S32),
  TRef.binary main_call0_call0.v162 main_call0_call0.v164 main_call0_call0.v165 Host.shli,
  TRef.nullary main_call0_call0.c_43 (constantI S_ 32 26#32),
  TRef.unary main_call0_call0.c_43 main_call0_call0.v166 (broadcastInDim S32 ![] bcast_S_S32),
  TRef.binary main_call0_call0.v162 main_call0_call0.v166 main_call0_call0.v167 Host.shrui,
  TRef.binary main_call0_call0.v165 main_call0_call0.v167 main_call0_call0.v168 ori,
  TRef.binary main_call0_call0.v163 main_call0_call0.v168 main_call0_call0.v169 xori,
  TRef.unary main_call0_call0.v1 main_call0_call0.v170 (broadcastInDim S32 ![] bcast_S_S32),
  TRef.binary main_call0_call0.v163 main_call0_call0.v170 main_call0_call0.v171 addi,
  TRef.unary main_call0.v5 main_call0_call0.v172 (broadcastInDim S32 ![] bcast_S_S32),
  TRef.binary main_call0_call0.v169 main_call0_call0.v172 main_call0_call0.v173 addi,
  TRef.nullary main_call0_call0.c_44 (constantI S_ 32 5#32)]

/-- Operations of the line, part 9. -/
noncomputable def ops9 : List (HloOp τ sig (Elt Ideal)) := [
  TRef.unary main_call0_call0.c_44 main_call0_call0.v174 (broadcastInDim S32 ![] bcast_S_S32),
  TRef.binary main_call0_call0.v173 main_call0_call0.v174 main_call0_call0.v175 addi]

/-- Operations of the line, part 10. -/
noncomputable def ops10 : List (HloOp τ sig (Elt Ideal)) := [
  TRef.binary main_call0_call0.v171 main_call0_call0.v175 main_call0.v16 xori,
  TRef.nullary main_call0.c_1 (constantI S_ 32 9#32),
  TRef.unary main_call0.c_1 main_call0.v17 (broadcastInDim S32 ![] bcast_S_S32),
  TRef.binary main_call0.v16 main_call0.v17 main_call0.v18 Host.shrui,
  TRef.nullary main_call0.c_2 (constantI S_ 32 1065353216#32),
  TRef.unary main_call0.c_2 main_call0.v19 (broadcastInDim S32 ![] bcast_S_S32),
  TRef.binary main_call0.v18 main_call0.v19 main_call0.v20 ori,
  TRef.unary main_call0.v20 main_call0.v21 (bitcastToFloat (F := Ideal) .f32),
  TRef.nullary main_call0.cst (constant (F := Ideal) S_ .f32 0x3F800000#32),
  TRef.unary main_call0.cst main_call0.v22 (broadcastInDim S32 ![] bcast_S_S32),
  TRef.binary main_call0.v21 main_call0.v22 main_call0.v23 (subf (F := Ideal) (φ := .f32)),
  TRef.binary main_call0.v3 main_call0.v2 main_call0.v24 (subf (F := Ideal) (φ := .f32)),
  TRef.unary main_call0.v24 main_call0.v25 (broadcastInDim S32 ![0] bcast_S1_S32_0),
  TRef.binary main_call0.v23 main_call0.v25 main_call0.v26 (mulf (F := Ideal) (φ := .f32)),
  TRef.unary main_call0.v2 main_call0.v27 (broadcastInDim S32 ![0] bcast_S1_S32_0),
  TRef.binary main_call0.v26 main_call0.v27 main_call0.v28 (addf (F := Ideal) (φ := .f32)),
  TRef.unary main_call0.v2 main_call0.v29 (broadcastInDim S32 ![0] bcast_S1_S32_0),
  TRef.binary main_call0.v29 main_call0.v28 rV11 (maximumf (F := Ideal) (φ := .f32))]

/-- Operations of the line, part 11. -/
noncomputable def ops11 : List (HloOp τ sig (Elt Ideal)) := [
  TRef.nullary main_call1.v0 (iotaInDim S32 32 0),
  TRef.binary rV11 main_call1.v0 main_call1.v1_0 (fun x y => (Host.sort2 S32 0 (comparator_f32_i32_d0 (F := Ideal)) x y).1),
  TRef.binary rV11 main_call1.v0 rV12 (fun x y => (Host.sort2 S32 0 (comparator_f32_i32_d0 (F := Ideal)) x y).2)]

/-- Operations of the line, part 12. -/
noncomputable def ops12 : List (HloOp τ sig (Elt Ideal)) := [
  TRef.nullary rC_3 (constantI S_ 32 0#32),
  TRef.unary rC_3 rV13 (broadcastInDim S32 ![] bcast_S_S32 : (⟨S_, .i32⟩ : BufTy).Contents (Elt Ideal) → (⟨S32, .i32⟩ : BufTy).Contents (Elt Ideal)),
  TRef.binary rV12 rV13 rV14 (cmpi .slt : (⟨S32, .i32⟩ : BufTy).Contents (Elt Ideal) → (⟨S32, .i32⟩ : BufTy).Contents (Elt Ideal) → (⟨S32, .i1⟩ : BufTy).Contents (Elt Ideal)),
  TRef.nullary rC_4 (constantI S_ 32 32#32),
  TRef.unary rC_4 rV15 (broadcastInDim S32 ![] bcast_S_S32 : (⟨S_, .i32⟩ : BufTy).Contents (Elt Ideal) → (⟨S32, .i32⟩ : BufTy).Contents (Elt Ideal)),
  TRef.binary rV12 rV15 rV16 (addi : (⟨S32, .i32⟩ : BufTy).Contents (Elt Ideal) → (⟨S32, .i32⟩ : BufTy).Contents (Elt Ideal) → (⟨S32, .i32⟩ : BufTy).Contents (Elt Ideal)),
  TRef.ternary rV14 rV16 rV12 rV17 (select : (⟨S32, .i1⟩ : BufTy).Contents (Elt Ideal) → (⟨S32, .i32⟩ : BufTy).Contents (Elt Ideal) → (⟨S32, .i32⟩ : BufTy).Contents (Elt Ideal) → (⟨S32, .i32⟩ : BufTy).Contents (Elt Ideal)),
  TRef.unary rV17 rV18 (broadcastInDim S32x1 ![0] bcast_S32_S32x1_0 : (⟨S32, .i32⟩ : BufTy).Contents (Elt Ideal) → (⟨S32x1, .i32⟩ : BufTy).Contents (Elt Ideal)),
  TRef.binary rV1 rV18 rV19 ((fun x i => Host.gather gather_S32x1x160000_S32x1_S32x1x160000_12_0_n_n_0_1_11160000 x i) : (⟨S32x1x160000, .f32⟩ : BufTy).Contents (Elt Ideal) → (⟨S32x1, .i32⟩ : BufTy).Contents (Elt Ideal) → (⟨S32x1x160000, .f32⟩ : BufTy).Contents (Elt Ideal)),
  TRef.unary rV19 rV20 (broadcastInDim S1x32x1x160000 ![1, 2, 3] bcast_S32x1x160000_S1x32x1x160000_1_2_3 : (⟨S32x1x160000, .f32⟩ : BufTy).Contents (Elt Ideal) → (⟨S1x32x1x160000, .f32⟩ : BufTy).Contents (Elt Ideal)),
  TRef.unary rV3 rV21 (broadcastInDim S1x32x1x160000 ![1, 2, 3] bcast_S32x1x160000_S1x32x1x160000_1_2_3 : (⟨S32x1x160000, .f32⟩ : BufTy).Contents (Elt Ideal) → (⟨S1x32x1x160000, .f32⟩ : BufTy).Contents (Elt Ideal)),
  TRef.binary rV20 rV21 rV22 ((fun a b => concatenate S2x32x1x160000 0 [⟨S1x32x1x160000, a⟩, ⟨S1x32x1x160000, b⟩] concatenates_S1x32x1x160000_S1x32x1x160000_S2x32x1x160000_d0) : (⟨S1x32x1x160000, .f32⟩ : BufTy).Contents (Elt Ideal) → (⟨S1x32x1x160000, .f32⟩ : BufTy).Contents (Elt Ideal) → (⟨S2x32x1x160000, .f32⟩ : BufTy).Contents (Elt Ideal))]

/-- The reference's operations, in order. -/
noncomputable def refOps : List (HloOp τ sig (Elt Ideal)) := ops0 ++ (ops1 ++ (ops2 ++ (ops3 ++ (ops4 ++ (ops5 ++ (ops6 ++ (ops7 ++ (ops8 ++ (ops9 ++ (ops10 ++ (ops11 ++ (ops12))))))))))))

/-- The references the operations write, in order. -/
noncomputable def refW : List (Ref sig .tc) := [
  main_v0, main_v1, main_v2, main_v3, main_c, main_c_0, main_v4, main_v5, main_v6, main_c_1, main_v7, main_v8, main_v9, main_v10, main_cst, main_cst_2, main_call0_v0, main_call0_v1, main_call0_v2, main_call0_v3, main_call0_v4, main_call0_v5, main_call0_v6, main_call0_v7, main_call0_v8, main_call0_c, main_call0_v9, main_call0_v10, main_call0_c_0, main_call0_v11, main_call0_v12, main_call0_v13, main_call0_v14, main_call0_call0_v0, main_call0_call0_c, main_call0_call0_v1, main_call0_call0_v2, main_call0_call0_v3, main_call0_call0_v4, main_call0_call0_v5, main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3, main_call0_call0_v16, main_call0_call0_v17, main_call0_call0_v18, main_call0_call0_v19, main_call0_call0_v20, main_call0_call0_c_4, main_call0_call0_v21, main_call0_call0_v22, main_call0_call0_c_5, main_call0_call0_v23, main_call0_call0_v24, main_call0_call0_v25, main_call0_call0_v26, main_call0_call0_v27, main_call0_call0_c_6, main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39, main_call0_call0_v40, main_call0_call0_c_9, main_call0_call0_v41, main_call0_call0_v42, main_call0_call0_c_10, main_call0_call0_v43, main_call0_call0_v44, main_call0_call0_v45, main_call0_call0_v46, main_call0_call0_v47, main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63, main_call0_call0_c_16, main_call0_call0_v64, main_call0_call0_v65, main_call0_call0_v66, main_call0_call0_v67, main_call0_call0_v68, main_call0_call0_v69, main_call0_call0_v70, main_call0_call0_v71, main_call0_call0_c_17, main_call0_call0_v72, main_call0_call0_v73, main_call0_call0_v74, main_call0_call0_c_18, main_call0_call0_v75, main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87, main_call0_call0_v88, main_call0_call0_c_22, main_call0_call0_v89, main_call0_call0_v90, main_call0_call0_c_23, main_call0_call0_v91, main_call0_call0_v92, main_call0_call0_v93, main_call0_call0_v94, main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104, main_call0_call0_v105, main_call0_call0_c_26, main_call0_call0_v106, main_call0_call0_v107, main_call0_call0_v108, main_call0_call0_c_27, main_call0_call0_v109, main_call0_call0_v110, main_call0_call0_c_28, main_call0_call0_v111, main_call0_call0_v112, main_call0_call0_v113, main_call0_call0_v114, main_call0_call0_v115, main_call0_call0_c_29, main_call0_call0_v116, main_call0_call0_v117, main_call0_call0_c_30, main_call0_call0_v118, main_call0_call0_v119, main_call0_call0_v120, main_call0_call0_v121, main_call0_call0_v122, main_call0_call0_c_31, main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134, main_call0_call0_v135, main_call0_call0_v136, main_call0_call0_v137, main_call0_call0_v138, main_call0_call0_v139, main_call0_call0_c_35, main_call0_call0_v140, main_call0_call0_v141, main_call0_call0_v142, main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158, main_call0_call0_c_41, main_call0_call0_v159, main_call0_call0_v160, main_call0_call0_v161, main_call0_call0_v162, main_call0_call0_v163, main_call0_call0_c_42, main_call0_call0_v164, main_call0_call0_v165, main_call0_call0_c_43, main_call0_call0_v166, main_call0_call0_v167, main_call0_call0_v168, main_call0_call0_v169, main_call0_call0_v170, main_call0_v15_0, main_call0_call0_v172, main_call0_call0_v173, main_call0_call0_c_44, main_call0_call0_v174, main_call0_v15_1, main_call0_v16, main_call0_c_1, main_call0_v17, main_call0_v18, main_call0_c_2, main_call0_v19, main_call0_v20, main_call0_v21, main_call0_cst, main_call0_v22, main_call0_v23, main_call0_v24, main_call0_v25, main_call0_v26, main_call0_v27, main_call0_v28, main_call0_v29, main_v11, main_call1_v0, main_call1_v1_0, main_v12, main_c_3, main_v13, main_v14, main_c_4, main_v15, main_v16, main_v17, main_v18, main_v19, main_v20, main_v21, main_v22]

end Cert.Proof.Ref

end

end
-- ==== Proof.RefLine.lean ====
/-
  The reference's list of operations is its program; how the whole line reads at one value, and its run.
-/
module

public import proofs.«01_k».proof.Proof.RefOps
public import Idealize.ShloMosaic.Lib.Quiescent

@[expose] public section

noncomputable section

namespace Cert.Proof.Ref

open Cert.ReferenceIdeal
open Cert.ReferenceIdeal.Facts₀ Cert.ReferenceIdeal.Facts
open Idealize.ShloMosaic Idealize.ShloMosaic.StableHlo Idealize.SL.Sem

set_option maxRecDepth 100000 in
set_option maxHeartbeats 4000000 in
theorem refOps_writes : refOps.map HloOp.writes = refW.map fun r => {Proc.devRef (τ := τ) .tc r} := rfl

set_option maxRecDepth 100000 in
set_option maxHeartbeats 4000000 in
theorem refOps_fresh : refOps.map HloOp.fresh = refOps.map fun _ => (∅ : Finset (DevRef τ sig)) := rfl

theorem ops0_sub : ops0.Forall fun op => op.bufs ⊆ tcRefs τ sig :=
  ⟨unary_bufs_sub .., reshape_bufs_sub .., unary_bufs_sub .., reshape_bufs_sub .., nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub ..⟩

theorem ops1_sub : ops1.Forall fun op => op.bufs ⊆ tcRefs τ sig :=
  ⟨unary_bufs_sub .., unary_bufs_sub .., unary_bufs_sub .., unary_bufs_sub .., unary_bufs_sub .., reshape_bufs_sub .., unary_bufs_sub .., reshape_bufs_sub .., nullary_bufs_sub .., nullary_bufs_sub .., unary_bufs_sub .., binary_bufs_sub .., nullary_bufs_sub .., unary_bufs_sub .., binary_bufs_sub .., unary_bufs_sub .., unary_bufs_sub ..⟩

theorem ops2_sub : ops2.Forall fun op => op.bufs ⊆ tcRefs τ sig :=
  ⟨binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩

theorem ops3_sub : ops3.Forall fun op => op.bufs ⊆ tcRefs τ sig :=
  ⟨binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩

theorem ops4_sub : ops4.Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub ..⟩

theorem ops5_sub : ops5.Forall fun op => op.bufs ⊆ tcRefs τ sig :=
  ⟨binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩

theorem ops6_sub : ops6.Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub ..⟩

theorem ops7_sub : ops7.Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩

theorem ops8_sub : ops8.Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub ..⟩

theorem ops9_sub : ops9.Forall fun op => op.bufs ⊆ tcRefs τ sig :=
  ⟨unary_bufs_sub .., binary_bufs_sub ..⟩

theorem ops10_sub : ops10.Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub ..⟩

theorem ops11_sub : ops11.Forall fun op => op.bufs ⊆ tcRefs τ sig :=
  ⟨nullary_bufs_sub .., binary_bufs_sub .., binary_bufs_sub ..⟩

theorem ops12_sub : ops12.Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub ..⟩

theorem refOps_sub : refOps.Forall fun op => op.bufs ⊆ tcRefs τ sig :=
  List.forall_append.mpr ⟨ops0_sub, List.forall_append.mpr ⟨ops1_sub, List.forall_append.mpr ⟨ops2_sub, List.forall_append.mpr ⟨ops3_sub, List.forall_append.mpr ⟨ops4_sub, List.forall_append.mpr ⟨ops5_sub, List.forall_append.mpr ⟨ops6_sub, List.forall_append.mpr ⟨ops7_sub, List.forall_append.mpr ⟨ops8_sub, List.forall_append.mpr ⟨ops9_sub, List.forall_append.mpr ⟨ops10_sub, List.forall_append.mpr ⟨ops11_sub, ops12_sub⟩⟩⟩⟩⟩⟩⟩⟩⟩⟩⟩⟩

set_option maxRecDepth 100000 in
set_option maxHeartbeats 40000000 in
/-- The reference's `main` runs exactly these operations. -/
theorem main_eq (d : Dev nD) : main (F := Ideal) d = seq refOps := rfl

/-! ## Reading the whole line at one value

Every value is written once, and read only after it is written: after the whole line, each value is its operation's
function of the other values after the whole line. -/

/-- The contents of the buffers `A`, at a typed reference. -/
abbrev get {T : BufTy} (A : Valuation τ sig (Elt Ideal)) (t : TRef sig T) : T.Contents (Elt Ideal) :=
  t.ofBuf (A (Proc.devRef .tc t.ref))

theorem after_app (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- A value not written by the operations from position `i` on is already there before them. -/
theorem before_eq {r : Ref sig .tc} (i : ℕ) (hr : r ∉ refW.drop i) (V : Valuation τ sig (Elt Ideal)) :
    after refOps V (Proc.devRef .tc r) = after (refOps.take i) V (Proc.devRef .tc r) := by
  have h := after_app (refOps.take i) (refOps.drop i) V
  rw [List.take_append_drop] at h
  rw [h]
  refine after_of_writes_sub (W := refW.drop i) (refOps.drop i) _ (forall_writes_sub_of_map ?_) hr
  rw [List.map_drop, refOps_writes, ← List.map_drop]

/-- The value an operation at position `i` writes, if nothing writes it later. -/
theorem written_eq {op : HloOp τ sig (Elt Ideal)} {r : Ref sig .tc} (i : ℕ) (hi : refOps[i]? = some op)
    (hr : r ∉ refW.drop (i + 1)) (V : Valuation τ sig (Elt Ideal)) :
    after refOps V (Proc.devRef .tc r) = op.result (after (refOps.take i) V) (Proc.devRef .tc r) := by
  rw [before_eq (i + 1) hr, List.take_add_one, hi, after_app]
  rfl

section Ssa
variable {Ta Tb Tc Ty : BufTy} (i : ℕ) (V : Valuation τ sig (Elt Ideal))

theorem ssa_nullary {y : TRef sig Ty} {f : Ty.Contents (Elt Ideal)}
    (hi : refOps[i]? = some (TRef.nullary y f)) (h : y.ref ∉ refW.drop (i + 1)) :
    get (after refOps V) y = f := by
  obtain ⟨y, rfl, hy, hy'⟩ := y
  exact (written_eq i hi h V).trans (nullary_result _ _ _ _)

theorem ssa_unary {a : TRef sig Ta} {y : TRef sig Ty} {f : Ta.Contents (Elt Ideal) → Ty.Contents (Elt Ideal)}
    (hi : refOps[i]? = some (TRef.unary a y f)) (h : y.ref ∉ refW.drop (i + 1) ∧ a.ref ∉ refW.drop i) :
    get (after refOps V) y = f (get (after refOps V) a) := by
  obtain ⟨y, rfl, hy, hy'⟩ := y
  obtain ⟨a, rfl, ha, ha'⟩ := a
  refine (written_eq i hi h.1 V).trans ((unary_result _ _ _ _ _ _).trans ?_)
  exact congrArg f (before_eq i h.2 V).symm

theorem ssa_binary {a : TRef sig Ta} {b : TRef sig Tb} {y : TRef sig Ty}
    {f : Ta.Contents (Elt Ideal) → Tb.Contents (Elt Ideal) → Ty.Contents (Elt Ideal)}
    (hi : refOps[i]? = some (TRef.binary a b y f))
    (h : y.ref ∉ refW.drop (i + 1) ∧ a.ref ∉ refW.drop i ∧ b.ref ∉ refW.drop i) :
    get (after refOps V) y = f (get (after refOps V) a) (get (after refOps V) b) := by
  obtain ⟨y, rfl, hy, hy'⟩ := y
  obtain ⟨a, rfl, ha, ha'⟩ := a
  obtain ⟨b, rfl, hb, hb'⟩ := b
  refine (written_eq i hi h.1 V).trans ((binary_result _ _ _ _ _ _ _ _).trans ?_)
  exact congrArg₂ f (before_eq i h.2.1 V).symm (before_eq i h.2.2 V).symm

theorem ssa_ternary {c : TRef sig Tc} {a : TRef sig Ta} {b : TRef sig Tb} {y : TRef sig Ty}
    {f : Tc.Contents (Elt Ideal) → Ta.Contents (Elt Ideal) → Tb.Contents (Elt Ideal) → Ty.Contents (Elt Ideal)}
    (hi : refOps[i]? = some (TRef.ternary c a b y f))
    (h : y.ref ∉ refW.drop (i + 1) ∧ c.ref ∉ refW.drop i ∧ a.ref ∉ refW.drop i ∧ b.ref ∉ refW.drop i) :
    get (after refOps V) y = f (get (after refOps V) c) (get (after refOps V) a) (get (after refOps V) b) := by
  obtain ⟨y, rfl, hy, hy'⟩ := y
  obtain ⟨c, rfl, hc, hc'⟩ := c
  obtain ⟨a, rfl, ha, ha'⟩ := a
  obtain ⟨b, rfl, hb, hb'⟩ := b
  refine (written_eq i hi h.1 V).trans ((ternary_result _ _ _ _ _ _ _ _ _ _).trans ?_)
  exact congrArg₂ (fun p q => f p.1 p.2 q)
    (congrArg₂ Prod.mk (before_eq i h.2.1 V).symm (before_eq i h.2.2.1 V).symm) (before_eq i h.2.2.2 V).symm

theorem ssa_reshape {a : TRef sig Ta} {y : TRef sig Ty} {he : Ta.elt = Ty.elt} {hn : Ta.shape.ShapeCasts Ty.shape}
    (hi : refOps[i]? = some (TRef.reshape a y he hn)) (h : y.ref ∉ refW.drop (i + 1) ∧ a.ref ∉ refW.drop i) :
    get (after refOps V) y = fun j => he ▸ shapeCast Ty.shape (get (after refOps V) a) hn j := by
  obtain ⟨y, rfl, hy, hy'⟩ := y
  obtain ⟨a, rfl, ha, ha'⟩ := a
  refine (written_eq i hi h.1 V).trans ((reshape_result _ _ _ _ _ _ _).trans ?_)
  exact congrArg (fun v => fun j => he ▸ shapeCast y.ty.shape v hn j) (before_eq i h.2 V).symm

end Ssa

/-! ## The run -/

theorem scopedRefs_eq : (Finset.univ.filter fun b : Ref sig .tc => b.isScoped) = ∅ := by decide +kernel
theorem scopedSems_eq : (Finset.univ.filter fun sm : SemLoc sig => sm.isScoped .tc) = ∅ := by decide +kernel

/-- From any memory with zero counters the reference terminates, leaving in each buffer what the line leaves there. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread nD τ).loc b) = after refOps (launchContents m d) (Proc.devRef .tc b) :=
  run_seq scopedRefs_eq scopedSems_eq defs main (fun _ => refOps) main_eq (fun _ => refOps_sub) m ρ
    (fun _ => List.forall_iff_forall_mem.mp (forall_fresh_of_map refOps_fresh))

set_option maxRecDepth 100000 in
theorem arg0_not_written : main_arg0 ∉ refW := by decide +kernel
set_option maxRecDepth 100000 in
theorem arg1_not_written : main_arg1 ∉ refW := by decide +kernel

/-- The line leaves the first argument as it was. -/
theorem arg0_eq (V : Valuation τ sig (Elt Ideal)) :
    after refOps V (Proc.devRef .tc main_arg0) = V (Proc.devRef .tc main_arg0) :=
  before_eq 0 arg0_not_written V

/-- The line leaves the second argument as it was. -/
theorem arg1_eq (V : Valuation τ sig (Elt Ideal)) :
    after refOps V (Proc.devRef .tc main_arg1) = V (Proc.devRef .tc main_arg1) :=
  before_eq 0 arg1_not_written V

/-- The reference's frame: it terminates with its arguments unchanged; it has no semaphore. -/
theorem frame_ref : Cert.quiescent_ReferenceIdeal := fun m ρ _ =>
  (θ_run (defs (F := Ideal)) _ _).mono (fun r h => ⟨fun c => ⟨(h c main_arg0).trans (arg0_eq _), (h c main_arg1).trans (arg1_eq _)⟩,
      Idealize.ShloMosaic.sem_eq_zero_of_no_sems (by decide) r.2⟩)
    (run_ref m ρ)

end Cert.Proof.Ref

end

end
-- ==== Proof.RefSeed.lean ====
/-
  The reference's key and counters, as words.
-/
module

public import proofs.«01_k».proof.Proof.RefLine

@[expose] public section

noncomputable section

namespace Cert.Proof.Ref

open Cert.ReferenceIdeal
open Cert.ReferenceIdeal.Facts₀ Cert.ReferenceIdeal.Facts
open Idealize.ShloMosaic Idealize.ShloMosaic.StableHlo Idealize.SL.Sem

/-- Thirty-two words packed into one numeral, word `k` at bit `32 k`. -/
def vec (N : ℕ) : (⟨S32, .i32⟩ : BufTy).Contents (Elt Ideal) := fun i => BitVec.ofNat 32 (N >>> (32 * (i 0).val))

/-- The index of a vector of thirty-two. -/
def ix (k : Fin 32) : S32.Idx := fun a => ⟨k.val, by fin_cases a; exact k.isLt⟩

theorem ix_eq (i : S32.Idx) : ix ⟨(i 0).val, (i 0).isLt⟩ = i := by
  funext a; fin_cases a; rfl

/-- A vector of thirty-two words is a packed numeral if it is so word by word. -/
theorem vec_ext {f : (⟨S32, .i32⟩ : BufTy).Contents (Elt Ideal)} {N : ℕ}
    (h : ∀ k : Fin 32, (show BitVec 32 from f (ix k)) = BitVec.ofNat 32 (N >>> (32 * k.val))) : f = vec N := by
  funext i
  have := h ⟨(i 0).val, (i 0).isLt⟩
  rw [ix_eq] at this
  exact this

/-- A scalar word is known from its one element. -/
theorem sc_ext {f : (⟨S_, .i32⟩ : BufTy).Contents (Elt Ideal)} {N : BitVec 32}
    (h : (show BitVec 32 from f (fun a => a.elim0)) = N) : f = fun _ => N := by
  funext i
  have hi : i = fun a => a.elim0 := funext fun a => a.elim0
  rw [hi]; exact h

section Val
variable {Ta Tb Tc Ty : BufTy} (i : ℕ) (V : Valuation τ sig (Elt Ideal))

theorem val_nullary {y : TRef sig Ty} {f ey : Ty.Contents (Elt Ideal)}
    (hi : refOps[i]? = some (TRef.nullary y f)) (h : y.ref ∉ refW.drop (i + 1)) (he : f = ey) :
    get (after refOps V) y = ey := (ssa_nullary i V hi h).trans he

theorem val_unary {a : TRef sig Ta} {y : TRef sig Ty} {f : Ta.Contents (Elt Ideal) → Ty.Contents (Elt Ideal)}
    {ea : Ta.Contents (Elt Ideal)} {ey : Ty.Contents (Elt Ideal)}
    (hi : refOps[i]? = some (TRef.unary a y f)) (h : y.ref ∉ refW.drop (i + 1) ∧ a.ref ∉ refW.drop i)
    (ha : get (after refOps V) a = ea) (he : f ea = ey) :
    get (after refOps V) y = ey := (ssa_unary i V hi h).trans ((congrArg f ha).trans he)

theorem val_binary {a : TRef sig Ta} {b : TRef sig Tb} {y : TRef sig Ty}
    {f : Ta.Contents (Elt Ideal) → Tb.Contents (Elt Ideal) → Ty.Contents (Elt Ideal)}
    {ea : Ta.Contents (Elt Ideal)} {eb : Tb.Contents (Elt Ideal)} {ey : Ty.Contents (Elt Ideal)}
    (hi : refOps[i]? = some (TRef.binary a b y f))
    (h : y.ref ∉ refW.drop (i + 1) ∧ a.ref ∉ refW.drop i ∧ b.ref ∉ refW.drop i)
    (ha : get (after refOps V) a = ea) (hb : get (after refOps V) b = eb) (he : f ea eb = ey) :
    get (after refOps V) y = ey := (ssa_binary i V hi h).trans ((congrArg₂ f ha hb).trans he)

theorem val_ternary {c : TRef sig Tc} {a : TRef sig Ta} {b : TRef sig Tb} {y : TRef sig Ty}
    {f : Tc.Contents (Elt Ideal) → Ta.Contents (Elt Ideal) → Tb.Contents (Elt Ideal) → Ty.Contents (Elt Ideal)}
    {ec : Tc.Contents (Elt Ideal)} {ea : Ta.Contents (Elt Ideal)} {eb : Tb.Contents (Elt Ideal)} {ey : Ty.Contents (Elt Ideal)}
    (hi : refOps[i]? = some (TRef.ternary c a b y f))
    (h : y.ref ∉ refW.drop (i + 1) ∧ c.ref ∉ refW.drop i ∧ a.ref ∉ refW.drop i ∧ b.ref ∉ refW.drop i)
    (hc : get (after refOps V) c = ec) (ha : get (after refOps V) a = ea) (hb : get (after refOps V) b = eb)
    (he : f ec ea eb = ey) : get (after refOps V) y = ey :=
  (ssa_ternary i V hi h).trans ((congr (congrArg₂ f hc ha) hb).trans he)

theorem val_reshape {a : TRef sig Ta} {y : TRef sig Ty} {he : Ta.elt = Ty.elt} {hn : Ta.shape.ShapeCasts Ty.shape}
    {ea : Ta.Contents (Elt Ideal)} {ey : Ty.Contents (Elt Ideal)}
    (hi : refOps[i]? = some (TRef.reshape a y he hn)) (h : y.ref ∉ refW.drop (i + 1) ∧ a.ref ∉ refW.drop i)
    (ha : get (after refOps V) a = ea) (hy : (fun j => he ▸ shapeCast Ty.shape ea hn j) = ey) :
    get (after refOps V) y = ey :=
  (ssa_reshape i V hi h).trans ((congrArg (fun v => fun j => he ▸ shapeCast Ty.shape v hn j) ha).trans hy)

end Val

set_option maxRecDepth 100000

variable (V : Valuation τ sig (Elt Ideal))

theorem g_rArg0 : get (after refOps V) rArg0
    = (V (Proc.devRef .tc main_arg0) : (⟨S2x32x1x160000, .f32⟩ : BufTy).Contents (Elt Ideal)) := arg0_eq V

theorem g_rV0 : get (after refOps V) rV0
    = ((((extractStridedSlice S1x32x1x160000 ![0, 0, 0, 0] · slices_S2x32x1x160000_S1x32x1x160000_0_0_0_0) : (⟨S2x32x1x160000, .f32⟩ : BufTy).Contents (Elt Ideal) → (⟨S1x32x1x160000, .f32⟩ : BufTy).Contents (Elt Ideal)) (V (Proc.devRef .tc main_arg0) : (⟨S2x32x1x160000, .f32⟩ : BufTy).Contents (Elt Ideal))) : (⟨S1x32x1x160000, .f32⟩ : BufTy).Contents (Elt Ideal)) :=
  val_unary 0 V (a := rArg0) (y := rV0) (f := ((extractStridedSlice S1x32x1x160000 ![0, 0, 0, 0] · slices_S2x32x1x160000_S1x32x1x160000_0_0_0_0) : (⟨S2x32x1x160000, .f32⟩ : BufTy).Contents (Elt Ideal) → (⟨S1x32x1x160000, .f32⟩ : BufTy).Contents (Elt Ideal))) rfl (by decide +kernel) (g_rArg0 V) rfl

theorem g_rV1 : get (after refOps V) rV1
    = ((shapeCast S32x1x160000 (((extractStridedSlice S1x32x1x160000 ![0, 0, 0, 0] · slices_S2x32x1x160000_S1x32x1x160000_0_0_0_0) : (⟨S2x32x1x160000, .f32⟩ : BufTy).Contents (Elt Ideal) → (⟨S1x32x1x160000, .f32⟩ : BufTy).Contents (Elt Ideal)) (V (Proc.devRef .tc main_arg0) : (⟨S2x32x1x160000, .f32⟩ : BufTy).Contents (Elt Ideal))) shapeCasts_S1x32x1x160000_S32x1x160000) : (⟨S32x1x160000, .f32⟩ : BufTy).Contents (Elt Ideal)) :=
  val_reshape 1 V (a := rV0) (y := rV1) rfl (by decide +kernel) (g_rV0 V) rfl

theorem g_rV2 : get (after refOps V) rV2
    = ((((extractStridedSlice S1x32x1x160000 ![1, 0, 0, 0] · slices_S2x32x1x160000_S1x32x1x160000_1_0_0_0) : (⟨S2x32x1x160000, .f32⟩ : BufTy).Contents (Elt Ideal) → (⟨S1x32x1x160000, .f32⟩ : BufTy).Contents (Elt Ideal)) (V (Proc.devRef .tc main_arg0) : (⟨S2x32x1x160000, .f32⟩ : BufTy).Contents (Elt Ideal))) : (⟨S1x32x1x160000, .f32⟩ : BufTy).Contents (Elt Ideal)) :=
  val_unary 2 V (a := rArg0) (y := rV2) (f := ((extractStridedSlice S1x32x1x160000 ![1, 0, 0, 0] · slices_S2x32x1x160000_S1x32x1x160000_1_0_0_0) : (⟨S2x32x1x160000, .f32⟩ : BufTy).Contents (Elt Ideal) → (⟨S1x32x1x160000, .f32⟩ : BufTy).Contents (Elt Ideal))) rfl (by decide +kernel) (g_rArg0 V) rfl

theorem g_rV3 : get (after refOps V) rV3
    = ((shapeCast S32x1x160000 (((extractStridedSlice S1x32x1x160000 ![1, 0, 0, 0] · slices_S2x32x1x160000_S1x32x1x160000_1_0_0_0) : (⟨S2x32x1x160000, .f32⟩ : BufTy).Contents (Elt Ideal) → (⟨S1x32x1x160000, .f32⟩ : BufTy).Contents (Elt Ideal)) (V (Proc.devRef .tc main_arg0) : (⟨S2x32x1x160000, .f32⟩ : BufTy).Contents (Elt Ideal))) shapeCasts_S1x32x1x160000_S32x1x160000) : (⟨S32x1x160000, .f32⟩ : BufTy).Contents (Elt Ideal)) :=
  val_reshape 3 V (a := rV2) (y := rV3) rfl (by decide +kernel) (g_rV2 V) rfl

theorem g_rC : get (after refOps V) rC
    = ((constantI S_ 32 42#32) : (⟨S_, .i32⟩ : BufTy).Contents (Elt Ideal)) :=
  val_nullary 4 V (y := rC) (f := (constantI S_ 32 42#32)) rfl (by decide +kernel) rfl

theorem g_rC_0 : get (after refOps V) rC_0
    = ((constantI S_ 32 32#32) : (⟨S_, .i32⟩ : BufTy).Contents (Elt Ideal)) :=
  val_nullary 5 V (y := rC_0) (f := (constantI S_ 32 32#32)) rfl (by decide +kernel) rfl

theorem g_rV4 : get (after refOps V) rV4
    = (((Host.shrui : (⟨S_, .i32⟩ : BufTy).Contents (Elt Ideal) → (⟨S_, .i32⟩ : BufTy).Contents (Elt Ideal) → (⟨S_, .i32⟩ : BufTy).Contents (Elt Ideal)) (constantI S_ 32 42#32) (constantI S_ 32 32#32)) : (⟨S_, .i32⟩ : BufTy).Contents (Elt Ideal)) :=
  val_binary 6 V (a := rC) (b := rC_0) (y := rV4) (f := (Host.shrui : (⟨S_, .i32⟩ : BufTy).Contents (Elt Ideal) → (⟨S_, .i32⟩ : BufTy).Contents (Elt Ideal) → (⟨S_, .i32⟩ : BufTy).Contents (Elt Ideal))) rfl (by decide +kernel) (g_rC V) (g_rC_0 V) rfl

theorem g_rV5 : get (after refOps V) rV5
    = (((id : (⟨S_, .i32⟩ : BufTy).Contents (Elt Ideal) → (⟨S_, .i32⟩ : BufTy).Contents (Elt Ideal)) ((Host.shrui : (⟨S_, .i32⟩ : BufTy).Contents (Elt Ideal) → (⟨S_, .i32⟩ : BufTy).Contents (Elt Ideal) → (⟨S_, .i32⟩ : BufTy).Contents (Elt Ideal)) (constantI S_ 32 42#32) (constantI S_ 32 32#32))) : (⟨S_, .i32⟩ : BufTy).Contents (Elt Ideal)) :=
  val_unary 7 V (a := rV4) (y := rV5) (f := (id : (⟨S_, .i32⟩ : BufTy).Contents (Elt Ideal) → (⟨S_, .i32⟩ : BufTy).Contents (Elt Ideal))) rfl (by decide +kernel) (g_rV4 V) rfl

theorem g_rV6 : get (after refOps V) rV6
    = (((broadcastInDim S1 ![] bcast_S_S1 : (⟨S_, .i32⟩ : BufTy).Contents (Elt Ideal) → (⟨S1, .i32⟩ : BufTy).Contents (Elt Ideal)) ((id : (⟨S_, .i32⟩ : BufTy).Contents (Elt Ideal) → (⟨S_, .i32⟩ : BufTy).Contents (Elt Ideal)) ((Host.shrui : (⟨S_, .i32⟩ : BufTy).Contents (Elt Ideal) → (⟨S_, .i32⟩ : BufTy).Contents (Elt Ideal) → (⟨S_, .i32⟩ : BufTy).Contents (Elt Ideal)) (constantI S_ 32 42#32) (constantI S_ 32 32#32)))) : (⟨S1, .i32⟩ : BufTy).Contents (Elt Ideal)) :=
  val_unary 8 V (a := rV5) (y := rV6) (f := (broadcastInDim S1 ![] bcast_S_S1 : (⟨S_, .i32⟩ : BufTy).Contents (Elt Ideal) → (⟨S1, .i32⟩ : BufTy).Contents (Elt Ideal))) rfl (by decide +kernel) (g_rV5 V) rfl

theorem g_rC_1 : get (after refOps V) rC_1
    = ((constantI S_ 32 4294967295#32) : (⟨S_, .i32⟩ : BufTy).Contents (Elt Ideal)) :=
  val_nullary 9 V (y := rC_1) (f := (constantI S_ 32 4294967295#32)) rfl (by decide +kernel) rfl

theorem g_rV7 : get (after refOps V) rV7
    = (((andi : (⟨S_, .i32⟩ : BufTy).Contents (Elt Ideal) → (⟨S_, .i32⟩ : BufTy).Contents (Elt Ideal) → (⟨S_, .i32⟩ : BufTy).Contents (Elt Ideal)) (constantI S_ 32 42#32) (constantI S_ 32 4294967295#32)) : (⟨S_, .i32⟩ : BufTy).Contents (Elt Ideal)) :=
  val_binary 10 V (a := rC) (b := rC_1) (y := rV7) (f := (andi : (⟨S_, .i32⟩ : BufTy).Contents (Elt Ideal) → (⟨S_, .i32⟩ : BufTy).Contents (Elt Ideal) → (⟨S_, .i32⟩ : BufTy).Contents (Elt Ideal))) rfl (by decide +kernel) (g_rC V) (g_rC_1 V) rfl

theorem g_rV8 : get (after refOps V) rV8
    = (((id : (⟨S_, .i32⟩ : BufTy).Contents (Elt Ideal) → (⟨S_, .i32⟩ : BufTy).Contents (Elt Ideal)) ((andi : (⟨S_, .i32⟩ : BufTy).Contents (Elt Ideal) → (⟨S_, .i32⟩ : BufTy).Contents (Elt Ideal) → (⟨S_, .i32⟩ : BufTy).Contents (Elt Ideal)) (constantI S_ 32 42#32) (constantI S_ 32 4294967295#32))) : (⟨S_, .i32⟩ : BufTy).Contents (Elt Ideal)) :=
  val_unary 11 V (a := rV7) (y := rV8) (f := (id : (⟨S_, .i32⟩ : BufTy).Contents (Elt Ideal) → (⟨S_, .i32⟩ : BufTy).Contents (Elt Ideal))) rfl (by decide +kernel) (g_rV7 V) rfl

theorem g_rV9 : get (after refOps V) rV9
    = (((broadcastInDim S1 ![] bcast_S_S1 : (⟨S_, .i32⟩ : BufTy).Contents (Elt Ideal) → (⟨S1, .i32⟩ : BufTy).Contents (Elt Ideal)) ((id : (⟨S_, .i32⟩ : BufTy).Contents (Elt Ideal) → (⟨S_, .i32⟩ : BufTy).Contents (Elt Ideal)) ((andi : (⟨S_, .i32⟩ : BufTy).Contents (Elt Ideal) → (⟨S_, .i32⟩ : BufTy).Contents (Elt Ideal) → (⟨S_, .i32⟩ : BufTy).Contents (Elt Ideal)) (constantI S_ 32 42#32) (constantI S_ 32 4294967295#32)))) : (⟨S1, .i32⟩ : BufTy).Contents (Elt Ideal)) :=
  val_unary 12 V (a := rV8) (y := rV9) (f := (broadcastInDim S1 ![] bcast_S_S1 : (⟨S_, .i32⟩ : BufTy).Contents (Elt Ideal) → (⟨S1, .i32⟩ : BufTy).Contents (Elt Ideal))) rfl (by decide +kernel) (g_rV8 V) rfl

theorem g_rV10 : get (after refOps V) rV10
    = ((((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)) ((broadcastInDim S1 ![] bcast_S_S1 : (⟨S_, .i32⟩ : BufTy).Contents (Elt Ideal) → (⟨S1, .i32⟩ : BufTy).Contents (Elt Ideal)) ((id : (⟨S_, .i32⟩ : BufTy).Contents (Elt Ideal) → (⟨S_, .i32⟩ : BufTy).Contents (Elt Ideal)) ((Host.shrui : (⟨S_, .i32⟩ : BufTy).Contents (Elt Ideal) → (⟨S_, .i32⟩ : BufTy).Contents (Elt Ideal) → (⟨S_, .i32⟩ : BufTy).Contents (Elt Ideal)) (constantI S_ 32 42#32) (constantI S_ 32 32#32)))) ((broadcastInDim S1 ![] bcast_S_S1 : (⟨S_, .i32⟩ : BufTy).Contents (Elt Ideal) → (⟨S1, .i32⟩ : BufTy).Contents (Elt Ideal)) ((id : (⟨S_, .i32⟩ : BufTy).Contents (Elt Ideal) → (⟨S_, .i32⟩ : BufTy).Contents (Elt Ideal)) ((andi : (⟨S_, .i32⟩ : BufTy).Contents (Elt Ideal) → (⟨S_, .i32⟩ : BufTy).Contents (Elt Ideal) → (⟨S_, .i32⟩ : BufTy).Contents (Elt Ideal)) (constantI S_ 32 42#32) (constantI S_ 32 4294967295#32))))) : (⟨S2, .i32⟩ : BufTy).Contents (Elt Ideal)) :=
  val_binary 13 V (a := rV6) (b := rV9) (y := rV10) (f := ((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal))) rfl (by decide +kernel) (g_rV6 V) (g_rV9 V) rfl

theorem g_rCst : get (after refOps V) rCst
    = ((constant (F := Ideal) S_ .f32 0x00000000#32) : (⟨S_, .f32⟩ : BufTy).Contents (Elt Ideal)) :=
  val_nullary 14 V (y := rCst) (f := (constant (F := Ideal) S_ .f32 0x00000000#32)) rfl (by decide +kernel) rfl

theorem g_rCst_2 : get (after refOps V) rCst_2
    = ((constant (F := Ideal) S_ .f32 0x3F800000#32) : (⟨S_, .f32⟩ : BufTy).Contents (Elt Ideal)) :=
  val_nullary 15 V (y := rCst_2) (f := (constant (F := Ideal) S_ .f32 0x3F800000#32)) rfl (by decide +kernel) rfl

theorem g_un_v0 : get (after refOps V) main_call0.v0
    = ((id (constant (F := Ideal) S_ .f32 0x00000000#32)) : (⟨S_, .f32⟩ : BufTy).Contents (Elt Ideal)) :=
  val_unary 16 V (a := rCst) (y := main_call0.v0) (f := id) rfl (by decide +kernel) (g_rCst V) rfl

theorem g_un_v1 : get (after refOps V) main_call0.v1
    = ((id (constant (F := Ideal) S_ .f32 0x3F800000#32)) : (⟨S_, .f32⟩ : BufTy).Contents (Elt Ideal)) :=
  val_unary 17 V (a := rCst_2) (y := main_call0.v1) (f := id) rfl (by decide +kernel) (g_rCst_2 V) rfl

theorem g_un_v2 : get (after refOps V) main_call0.v2
    = (((broadcastInDim S1 ![] bcast_S_S1) (id (constant (F := Ideal) S_ .f32 0x00000000#32))) : (⟨S1, .f32⟩ : BufTy).Contents (Elt Ideal)) :=
  val_unary 18 V (a := main_call0.v0) (y := main_call0.v2) (f := (broadcastInDim S1 ![] bcast_S_S1)) rfl (by decide +kernel) (g_un_v0 V) rfl

theorem g_un_v3 : get (after refOps V) main_call0.v3
    = (((broadcastInDim S1 ![] bcast_S_S1) (id (constant (F := Ideal) S_ .f32 0x3F800000#32))) : (⟨S1, .f32⟩ : BufTy).Contents (Elt Ideal)) :=
  val_unary 19 V (a := main_call0.v1) (y := main_call0.v3) (f := (broadcastInDim S1 ![] bcast_S_S1)) rfl (by decide +kernel) (g_un_v1 V) rfl

theorem g_un_v4 : get (after refOps V) main_call0.v4
    = (((extractStridedSlice S1 ![0] · slices_S2_S1_0) (((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)) ((broadcastInDim S1 ![] bcast_S_S1 : (⟨S_, .i32⟩ : BufTy).Contents (Elt Ideal) → (⟨S1, .i32⟩ : BufTy).Contents (Elt Ideal)) ((id : (⟨S_, .i32⟩ : BufTy).Contents (Elt Ideal) → (⟨S_, .i32⟩ : BufTy).Contents (Elt Ideal)) ((Host.shrui : (⟨S_, .i32⟩ : BufTy).Contents (Elt Ideal) → (⟨S_, .i32⟩ : BufTy).Contents (Elt Ideal) → (⟨S_, .i32⟩ : BufTy).Contents (Elt Ideal)) (constantI S_ 32 42#32) (constantI S_ 32 32#32)))) ((broadcastInDim S1 ![] bcast_S_S1 : (⟨S_, .i32⟩ : BufTy).Contents (Elt Ideal) → (⟨S1, .i32⟩ : BufTy).Contents (Elt Ideal)) ((id : (⟨S_, .i32⟩ : BufTy).Contents (Elt Ideal) → (⟨S_, .i32⟩ : BufTy).Contents (Elt Ideal)) ((andi : (⟨S_, .i32⟩ : BufTy).Contents (Elt Ideal) → (⟨S_, .i32⟩ : BufTy).Contents (Elt Ideal) → (⟨S_, .i32⟩ : BufTy).Contents (Elt Ideal)) (constantI S_ 32 42#32) (constantI S_ 32 4294967295#32)))))) : (⟨S1, .i32⟩ : BufTy).Contents (Elt Ideal)) :=
  val_unary 20 V (a := rV10) (y := main_call0.v4) (f := (extractStridedSlice S1 ![0] · slices_S2_S1_0)) rfl (by decide +kernel) (g_rV10 V) rfl

theorem g_un_v5 : get (after refOps V) main_call0.v5
    = ((fun _ => 0#32 : (⟨S_, .i32⟩ : BufTy).Contents (Elt Ideal)) : (⟨S_, .i32⟩ : BufTy).Contents (Elt Ideal)) :=
  val_reshape 21 V (a := main_call0.v4) (y := main_call0.v5) rfl (by decide +kernel) (g_un_v4 V) (sc_ext (by decide +kernel))

theorem g_un_v6 : get (after refOps V) main_call0.v6
    = (((extractStridedSlice S1 ![1] · slices_S2_S1_1) (((fun a b => concatenate S2 0 [⟨S1, a⟩, ⟨S1, b⟩] concatenates_S1_S1_S2_d0) : (⟨S1, .i32⟩ : BufTy).Contents (Elt Ideal) → (⟨S1, .i32⟩ : BufTy).Contents (Elt Ideal) → (⟨S2, .i32⟩ : BufTy).Contents (Elt Ideal)) ((broadcastInDim S1 ![] bcast_S_S1 : (⟨S_, .i32⟩ : BufTy).Contents (Elt Ideal) → (⟨S1, .i32⟩ : BufTy).Contents (Elt Ideal)) ((id : (⟨S_, .i32⟩ : BufTy).Contents (Elt Ideal) → (⟨S_, .i32⟩ : BufTy).Contents (Elt Ideal)) ((Host.shrui : (⟨S_, .i32⟩ : BufTy).Contents (Elt Ideal) → (⟨S_, .i32⟩ : BufTy).Contents (Elt Ideal) → (⟨S_, .i32⟩ : BufTy).Contents (Elt Ideal)) (constantI S_ 32 42#32) (constantI S_ 32 32#32)))) ((broadcastInDim S1 ![] bcast_S_S1 : (⟨S_, .i32⟩ : BufTy).Contents (Elt Ideal) → (⟨S1, .i32⟩ : BufTy).Contents (Elt Ideal)) ((id : (⟨S_, .i32⟩ : BufTy).Contents (Elt Ideal) → (⟨S_, .i32⟩ : BufTy).Contents (Elt Ideal)) ((andi : (⟨S_, .i32⟩ : BufTy).Contents (Elt Ideal) → (⟨S_, .i32⟩ : BufTy).Contents (Elt Ideal) → (⟨S_, .i32⟩ : BufTy).Contents (Elt Ideal)) (constantI S_ 32 42#32) (constantI S_ 32 4294967295#32)))))) : (⟨S1, .i32⟩ : BufTy).Contents (Elt Ideal)) :=
  val_unary 22 V (a := rV10) (y := main_call0.v6) (f := (extractStridedSlice S1 ![1] · slices_S2_S1_1)) rfl (by decide +kernel) (g_rV10 V) rfl

theorem g_un_v7 : get (after refOps V) main_call0.v7
    = ((fun _ => 42#32 : (⟨S_, .i32⟩ : BufTy).Contents (Elt Ideal)) : (⟨S_, .i32⟩ : BufTy).Contents (Elt Ideal)) :=
  val_reshape 23 V (a := main_call0.v6) (y := main_call0.v7) rfl (by decide +kernel) (g_un_v6 V) (sc_ext (by decide +kernel))

theorem g_un_v8 : get (after refOps V) main_call0.v8
    = ((iotaInDim S32 64 0) : (⟨S32, .i64⟩ : BufTy).Contents (Elt Ideal)) :=
  val_nullary 24 V (y := main_call0.v8) (f := (iotaInDim S32 64 0)) rfl (by decide +kernel) rfl

theorem g_un_c : get (after refOps V) main_call0.c
    = ((constantI S_ 64 1#64) : (⟨S_, .i64⟩ : BufTy).Contents (Elt Ideal)) :=
  val_nullary 25 V (y := main_call0.c) (f := (constantI S_ 64 1#64)) rfl (by decide +kernel) rfl

theorem g_un_v9 : get (after refOps V) main_call0.v9
    = (((broadcastInDim S32 ![] bcast_S_S32) (constantI S_ 64 1#64)) : (⟨S32, .i64⟩ : BufTy).Contents (Elt Ideal)) :=
  val_unary 26 V (a := main_call0.c) (y := main_call0.v9) (f := (broadcastInDim S32 ![] bcast_S_S32)) rfl (by decide +kernel) (g_un_c V) rfl

theorem g_un_v10 : get (after refOps V) main_call0.v10
    = ((muli ((broadcastInDim S32 ![] bcast_S_S32) (constantI S_ 64 1#64)) (iotaInDim S32 64 0)) : (⟨S32, .i64⟩ : BufTy).Contents (Elt Ideal)) :=
  val_binary 27 V (a := main_call0.v9) (b := main_call0.v8) (y := main_call0.v10) (f := muli) rfl (by decide +kernel) (g_un_v9 V) (g_un_v8 V) rfl

theorem g_un_c_0 : get (after refOps V) main_call0.c_0
    = ((constantI S_ 64 32#64) : (⟨S_, .i64⟩ : BufTy).Contents (Elt Ideal)) :=
  val_nullary 28 V (y := main_call0.c_0) (f := (constantI S_ 64 32#64)) rfl (by decide +kernel) rfl

theorem g_un_v11 : get (after refOps V) main_call0.v11
    = (((broadcastInDim S32 ![] bcast_S_S32) (constantI S_ 64 32#64)) : (⟨S32, .i64⟩ : BufTy).Contents (Elt Ideal)) :=
  val_unary 29 V (a := main_call0.c_0) (y := main_call0.v11) (f := (broadcastInDim S32 ![] bcast_S_S32)) rfl (by decide +kernel) (g_un_c_0 V) rfl

theorem g_un_v12 : get (after refOps V) main_call0.v12
    = ((Host.shrui (muli ((broadcastInDim S32 ![] bcast_S_S32) (constantI S_ 64 1#64)) (iotaInDim S32 64 0)) ((broadcastInDim S32 ![] bcast_S_S32) (constantI S_ 64 32#64))) : (⟨S32, .i64⟩ : BufTy).Contents (Elt Ideal)) :=
  val_binary 30 V (a := main_call0.v10) (b := main_call0.v11) (y := main_call0.v12) (f := Host.shrui) rfl (by decide +kernel) (g_un_v10 V) (g_un_v11 V) rfl

/-- The word vector `main_call0_v13`. -/
abbrev w_un_v13 : (⟨S32, .i32⟩ : BufTy).Contents (Elt Ideal) := vec 0x1f0000001e0000001d0000001c0000001b0000001a000000190000001800000017000000160000001500000014000000130000001200000011000000100000000f0000000e0000000d0000000c0000000b0000000a00000009000000080000000700000006000000050000000400000003000000020000000100000000
theorem g_un_v13 : get (after refOps V) main_call0.v13
    = (w_un_v13 : (⟨S32, .i32⟩ : BufTy).Contents (Elt Ideal)) :=
  val_unary 31 V (a := main_call0.v10) (y := main_call0.v13) (f := (trunci 32 · natLt_32_64)) rfl (by decide +kernel) (g_un_v10 V) (vec_ext (by decide +kernel))

/-- The word vector `main_call0_v14`. -/
abbrev w_un_v14 : (⟨S32, .i32⟩ : BufTy).Contents (Elt Ideal) := vec 0x0
theorem g_un_v14 : get (after refOps V) main_call0.v14
    = (w_un_v14 : (⟨S32, .i32⟩ : BufTy).Contents (Elt Ideal)) :=
  val_unary 32 V (a := main_call0.v12) (y := main_call0.v14) (f := (trunci 32 · natLt_32_64)) rfl (by decide +kernel) (g_un_v12 V) (vec_ext (by decide +kernel))

end Cert.Proof.Ref

end

end
-- ==== Proof.RefMixA.lean ====
/-
  The first rounds of the generator, as words.
-/
module

public import proofs.«01_k».proof.Proof.RefSeed

@[expose] public section

noncomputable section

namespace Cert.Proof.Ref

open Cert.ReferenceIdeal
open Cert.ReferenceIdeal.Facts₀ Cert.ReferenceIdeal.Facts
open Idealize.ShloMosaic Idealize.ShloMosaic.StableHlo Idealize.SL.Sem

set_option maxRecDepth 100000

variable (V : Valuation τ sig (Elt Ideal))

theorem g_tf_v0 : get (after refOps V) main_call0_call0.v0
    = ((fun _ => 42#32 : (⟨S_, .i32⟩ : BufTy).Contents (Elt Ideal)) : (⟨S_, .i32⟩ : BufTy).Contents (Elt Ideal)) :=
  val_binary 33 V (a := main_call0.v5) (b := main_call0.v7) (y := main_call0_call0.v0) (f := xori) rfl (by decide +kernel) (g_un_v5 V) (g_un_v7 V) (sc_ext (by decide +kernel))

theorem g_tf_c : get (after refOps V) main_call0_call0.c
    = ((constantI S_ 32 466688986#32) : (⟨S_, .i32⟩ : BufTy).Contents (Elt Ideal)) :=
  val_nullary 34 V (y := main_call0_call0.c) (f := (constantI S_ 32 466688986#32)) rfl (by decide +kernel) rfl

theorem g_tf_v1 : get (after refOps V) main_call0_call0.v1
    = ((fun _ => 466689008#32 : (⟨S_, .i32⟩ : BufTy).Contents (Elt Ideal)) : (⟨S_, .i32⟩ : BufTy).Contents (Elt Ideal)) :=
  val_binary 35 V (a := main_call0_call0.v0) (b := main_call0_call0.c) (y := main_call0_call0.v1) (f := xori) rfl (by decide +kernel) (g_tf_v0 V) (g_tf_c V) (sc_ext (by decide +kernel))

theorem g_tf_v2 : get (after refOps V) main_call0_call0.v2
    = (((broadcastInDim S32 ![] bcast_S_S32) (fun _ => 0#32 : (⟨S_, .i32⟩ : BufTy).Contents (Elt Ideal))) : (⟨S32, .i32⟩ : BufTy).Contents (Elt Ideal)) :=
  val_unary 36 V (a := main_call0.v5) (y := main_call0_call0.v2) (f := (broadcastInDim S32 ![] bcast_S_S32)) rfl (by decide +kernel) (g_un_v5 V) rfl

/-- The word vector `main_call0_call0_v3`. -/
abbrev w_tf_v3 : (⟨S32, .i32⟩ : BufTy).Contents (Elt Ideal) := vec 0x0
theorem g_tf_v3 : get (after refOps V) main_call0_call0.v3
    = (w_tf_v3 : (⟨S32, .i32⟩ : BufTy).Contents (Elt Ideal)) :=
  val_binary 37 V (a := main_call0.v14) (b := main_call0_call0.v2) (y := main_call0_call0.v3) (f := addi) rfl (by decide +kernel) (g_un_v14 V) (g_tf_v2 V) (vec_ext (by decide +kernel))

theorem g_tf_v4 : get (after refOps V) main_call0_call0.v4
    = (((broadcastInDim S32 ![] bcast_S_S32) (fun _ => 42#32 : (⟨S_, .i32⟩ : BufTy).Contents (Elt Ideal))) : (⟨S32, .i32⟩ : BufTy).Contents (Elt Ideal)) :=
  val_unary 38 V (a := main_call0.v7) (y := main_call0_call0.v4) (f := (broadcastInDim S32 ![] bcast_S_S32)) rfl (by decide +kernel) (g_un_v7 V) rfl

/-- The word vector `main_call0_call0_v5`. -/
abbrev w_tf_v5 : (⟨S32, .i32⟩ : BufTy).Contents (Elt Ideal) := vec 0x490000004800000047000000460000004500000044000000430000004200000041000000400000003f0000003e0000003d0000003c0000003b0000003a000000390000003800000037000000360000003500000034000000330000003200000031000000300000002f0000002e0000002d0000002c0000002b0000002a
theorem g_tf_v5 : get (after refOps V) main_call0_call0.v5
    = (w_tf_v5 : (⟨S32, .i32⟩ : BufTy).Contents (Elt Ideal)) :=
  val_binary 39 V (a := main_call0.v13) (b := main_call0_call0.v4) (y := main_call0_call0.v5) (f := addi) rfl (by decide +kernel) (g_un_v13 V) (g_tf_v4 V) (vec_ext (by decide +kernel))

/-- The word vector `main_call0_call0_v6`. -/
abbrev w_tf_v6 : (⟨S32, .i32⟩ : BufTy).Contents (Elt Ideal) := vec 0x490000004800000047000000460000004500000044000000430000004200000041000000400000003f0000003e0000003d0000003c0000003b0000003a000000390000003800000037000000360000003500000034000000330000003200000031000000300000002f0000002e0000002d0000002c0000002b0000002a
theorem g_tf_v6 : get (after refOps V) main_call0_call0.v6
    = (w_tf_v6 : (⟨S32, .i32⟩ : BufTy).Contents (Elt Ideal)) :=
  val_binary 40 V (a := main_call0_call0.v3) (b := main_call0_call0.v5) (y := main_call0_call0.v6) (f := addi) rfl (by decide +kernel) (g_tf_v3 V) (g_tf_v5 V) (vec_ext (by decide +kernel))

theorem g_tf_c_0 : get (after refOps V) main_call0_call0.c_0
    = ((constantI S_ 32 13#32) : (⟨S_, .i32⟩ : BufTy).Contents (Elt Ideal)) :=
  val_nullary 41 V (y := main_call0_call0.c_0) (f := (constantI S_ 32 13#32)) rfl (by decide +kernel) rfl

theorem g_tf_v7 : get (after refOps V) main_call0_call0.v7
    = (((broadcastInDim S32 ![] bcast_S_S32) (constantI S_ 32 13#32)) : (⟨S32, .i32⟩ : BufTy).Contents (Elt Ideal)) :=
  val_unary 42 V (a := main_call0_call0.c_0) (y := main_call0_call0.v7) (f := (broadcastInDim S32 ![] bcast_S_S32)) rfl (by decide +kernel) (g_tf_c_0 V) rfl

theorem g_tf_v8 : get (after refOps V) main_call0_call0.v8
    = ((Host.shli w_tf_v5 ((broadcastInDim S32 ![] bcast_S_S32) (constantI S_ 32 13#32))) : (⟨S32, .i32⟩ : BufTy).Contents (Elt Ideal)) :=
  val_binary 43 V (a := main_call0_call0.v5) (b := main_call0_call0.v7) (y := main_call0_call0.v8) (f := Host.shli) rfl (by decide +kernel) (g_tf_v5 V) (g_tf_v7 V) rfl

theorem g_tf_c_1 : get (after refOps V) main_call0_call0.c_1
    = ((constantI S_ 32 19#32) : (⟨S_, .i32⟩ : BufTy).Contents (Elt Ideal)) :=
  val_nullary 44 V (y := main_call0_call0.c_1) (f := (constantI S_ 32 19#32)) rfl (by decide +kernel) rfl

theorem g_tf_v9 : get (after refOps V) main_call0_call0.v9
    = (((broadcastInDim S32 ![] bcast_S_S32) (constantI S_ 32 19#32)) : (⟨S32, .i32⟩ : BufTy).Contents (Elt Ideal)) :=
  val_unary 45 V (a := main_call0_call0.c_1) (y := main_call0_call0.v9) (f := (broadcastInDim S32 ![] bcast_S_S32)) rfl (by decide +kernel) (g_tf_c_1 V) rfl

theorem g_tf_v10 : get (after refOps V) main_call0_call0.v10
    = ((Host.shrui w_tf_v5 ((broadcastInDim S32 ![] bcast_S_S32) (constantI S_ 32 19#32))) : (⟨S32, .i32⟩ : BufTy).Contents (Elt Ideal)) :=
  val_binary 46 V (a := main_call0_call0.v5) (b := main_call0_call0.v9) (y := main_call0_call0.v10) (f := Host.shrui) rfl (by decide +kernel) (g_tf_v5 V) (g_tf_v9 V) rfl

theorem g_tf_v11 : get (after refOps V) main_call0_call0.v11
    = ((ori (Host.shli w_tf_v5 ((broadcastInDim S32 ![] bcast_S_S32) (constantI S_ 32 13#32))) (Host.shrui w_tf_v5 ((broadcastInDim S32 ![] bcast_S_S32) (constantI S_ 32 19#32)))) : (⟨S32, .i32⟩ : BufTy).Contents (Elt Ideal)) :=
  val_binary 47 V (a := main_call0_call0.v8) (b := main_call0_call0.v10) (y := main_call0_call0.v11) (f := ori) rfl (by decide +kernel) (g_tf_v8 V) (g_tf_v10 V) rfl

/-- The word vector `main_call0_call0_v12`. -/
abbrev w_tf_v12 : (⟨S32, .i32⟩ : BufTy).Contents (Elt Ideal) := vec 0x92049000900480008e0470008c0460008a04500088044000860430008404200082041000800400007e03f0007c03e0007a03d0007803c0007603b0007403a00072039000700380006e0370006c0360006a03500068034000660330006403200062031000600300005e02f0005c02e0005a02d0005802c0005602b0005402a
theorem g_tf_v12 : get (after refOps V) main_call0_call0.v12
    = (w_tf_v12 : (⟨S32, .i32⟩ : BufTy).Contents (Elt Ideal)) :=
  val_binary 48 V (a := main_call0_call0.v6) (b := main_call0_call0.v11) (y := main_call0_call0.v12) (f := xori) rfl (by decide +kernel) (g_tf_v6 V) (g_tf_v11 V) (vec_ext (by decide +kernel))

/-- The word vector `main_call0_call0_v13`. -/
abbrev w_tf_v13 : (⟨S32, .i32⟩ : BufTy).Contents (Elt Ideal) := vec 0x92092000900900008e08e0008c08c0008a08a00088088000860860008408400082082000800800007e07e0007c07c0007a07a00078078000760760007407400072072000700700006e06e0006c06c0006a06a00068068000660660006406400062062000600600005e05e0005c05c0005a05a000580580005605600054054
theorem g_tf_v13 : get (after refOps V) main_call0_call0.v13
    = (w_tf_v13 : (⟨S32, .i32⟩ : BufTy).Contents (Elt Ideal)) :=
  val_binary 49 V (a := main_call0_call0.v6) (b := main_call0_call0.v12) (y := main_call0_call0.v13) (f := addi) rfl (by decide +kernel) (g_tf_v6 V) (g_tf_v12 V) (vec_ext (by decide +kernel))

theorem g_tf_c_2 : get (after refOps V) main_call0_call0.c_2
    = ((constantI S_ 32 15#32) : (⟨S_, .i32⟩ : BufTy).Contents (Elt Ideal)) :=
  val_nullary 50 V (y := main_call0_call0.c_2) (f := (constantI S_ 32 15#32)) rfl (by decide +kernel) rfl

theorem g_tf_v14 : get (after refOps V) main_call0_call0.v14
    = (((broadcastInDim S32 ![] bcast_S_S32) (constantI S_ 32 15#32)) : (⟨S32, .i32⟩ : BufTy).Contents (Elt Ideal)) :=
  val_unary 51 V (a := main_call0_call0.c_2) (y := main_call0_call0.v14) (f := (broadcastInDim S32 ![] bcast_S_S32)) rfl (by decide +kernel) (g_tf_c_2 V) rfl

theorem g_tf_v15 : get (after refOps V) main_call0_call0.v15
    = ((Host.shli w_tf_v12 ((broadcastInDim S32 ![] bcast_S_S32) (constantI S_ 32 15#32))) : (⟨S32, .i32⟩ : BufTy).Contents (Elt Ideal)) :=
  val_binary 52 V (a := main_call0_call0.v12) (b := main_call0_call0.v14) (y := main_call0_call0.v15) (f := Host.shli) rfl (by decide +kernel) (g_tf_v12 V) (g_tf_v14 V) rfl

theorem g_tf_c_3 : get (after refOps V) main_call0_call0.c_3
    = ((constantI S_ 32 17#32) : (⟨S_, .i32⟩ : BufTy).Contents (Elt Ideal)) :=
  val_nullary 53 V (y := main_call0_call0.c_3) (f := (constantI S_ 32 17#32)) rfl (by decide +kernel) rfl

theorem g_tf_v16 : get (after refOps V) main_call0_call0.v16
    = (((broadcastInDim S32 ![] bcast_S_S32) (constantI S_ 32 17#32)) : (⟨S32, .i32⟩ : BufTy).Contents (Elt Ideal)) :=
  val_unary 54 V (a := main_call0_call0.c_3) (y := main_call0_call0.v16) (f := (broadcastInDim S32 ![] bcast_S_S32)) rfl (by decide +kernel) (g_tf_c_3 V) rfl

theorem g_tf_v17 : get (after refOps V) main_call0_call0.v17
    = ((Host.shrui w_tf_v12 ((broadcastInDim S32 ![] bcast_S_S32) (constantI S_ 32 17#32))) : (⟨S32, .i32⟩ : BufTy).Contents (Elt Ideal)) :=
  val_binary 55 V (a := main_call0_call0.v12) (b := main_call0_call0.v16) (y := main_call0_call0.v17) (f := Host.shrui) rfl (by decide +kernel) (g_tf_v12 V) (g_tf_v16 V) rfl

theorem g_tf_v18 : get (after refOps V) main_call0_call0.v18
    = ((ori (Host.shli w_tf_v12 ((broadcastInDim S32 ![] bcast_S_S32) (constantI S_ 32 15#32))) (Host.shrui w_tf_v12 ((broadcastInDim S32 ![] bcast_S_S32) (constantI S_ 32 17#32)))) : (⟨S32, .i32⟩ : BufTy).Contents (Elt Ideal)) :=
  val_binary 56 V (a := main_call0_call0.v15) (b := main_call0_call0.v17) (y := main_call0_call0.v18) (f := ori) rfl (by decide +kernel) (g_tf_v15 V) (g_tf_v17 V) rfl

/-- The word vector `main_call0_call0_v19`. -/
abbrev w_tf_v19 : (⟨S32, .i32⟩ : BufTy).Contents (Elt Ideal) := vec 0x902da096802d0094702b608a602bc088502a208e402a808c3029e082202940801028a08600280084f018607de018c07fd0192079c019807bb01ae075a01a4077901ba071801b0073701d606d601dc06f501c2069401c806b301fe065201f4067101ea061001e0063f012605ce012c05ed0132058c013805ab010e054a0104056
theorem g_tf_v19 : get (after refOps V) main_call0_call0.v19
    = (w_tf_v19 : (⟨S32, .i32⟩ : BufTy).Contents (Elt Ideal)) :=
  val_binary 57 V (a := main_call0_call0.v13) (b := main_call0_call0.v18) (y := main_call0_call0.v19) (f := xori) rfl (by decide +kernel) (g_tf_v13 V) (g_tf_v18 V) (vec_ext (by decide +kernel))

/-- The word vector `main_call0_call0_v20`. -/
abbrev w_tf_v20 : (⟨S32, .i32⟩ : BufTy).Contents (Elt Ideal) := vec 0x9036c1288036012470344118603481145032c1184033011430324108203181041030c10800300104f02040fbe02080fbd020c0f3c02100f3b02240eba02180eb9022c0e3802200e3702440db602480db5022c0d3402300d3302640cb202580cb1024c0c3002400c3f01840bae01880bad018c0b2c01900b2b01640aaa01580aa
theorem g_tf_v20 : get (after refOps V) main_call0_call0.v20
    = (w_tf_v20 : (⟨S32, .i32⟩ : BufTy).Contents (Elt Ideal)) :=
  val_binary 58 V (a := main_call0_call0.v13) (b := main_call0_call0.v19) (y := main_call0_call0.v20) (f := addi) rfl (by decide +kernel) (g_tf_v13 V) (g_tf_v19 V) (vec_ext (by decide +kernel))

theorem g_tf_c_4 : get (after refOps V) main_call0_call0.c_4
    = ((constantI S_ 32 26#32) : (⟨S_, .i32⟩ : BufTy).Contents (Elt Ideal)) :=
  val_nullary 59 V (y := main_call0_call0.c_4) (f := (constantI S_ 32 26#32)) rfl (by decide +kernel) rfl

theorem g_tf_v21 : get (after refOps V) main_call0_call0.v21
    = (((broadcastInDim S32 ![] bcast_S_S32) (constantI S_ 32 26#32)) : (⟨S32, .i32⟩ : BufTy).Contents (Elt Ideal)) :=
  val_unary 60 V (a := main_call0_call0.c_4) (y := main_call0_call0.v21) (f := (broadcastInDim S32 ![] bcast_S_S32)) rfl (by decide +kernel) (g_tf_c_4 V) rfl

theorem g_tf_v22 : get (after refOps V) main_call0_call0.v22
    = ((Host.shli w_tf_v19 ((broadcastInDim S32 ![] bcast_S_S32) (constantI S_ 32 26#32))) : (⟨S32, .i32⟩ : BufTy).Contents (Elt Ideal)) :=
  val_binary 61 V (a := main_call0_call0.v19) (b := main_call0_call0.v21) (y := main_call0_call0.v22) (f := Host.shli) rfl (by decide +kernel) (g_tf_v19 V) (g_tf_v21 V) rfl

theorem g_tf_c_5 : get (after refOps V) main_call0_call0.c_5
    = ((constantI S_ 32 6#32) : (⟨S_, .i32⟩ : BufTy).Contents (Elt Ideal)) :=
  val_nullary 62 V (y := main_call0_call0.c_5) (f := (constantI S_ 32 6#32)) rfl (by decide +kernel) rfl

theorem g_tf_v23 : get (after refOps V) main_call0_call0.v23
    = (((broadcastInDim S32 ![] bcast_S_S32) (constantI S_ 32 6#32)) : (⟨S32, .i32⟩ : BufTy).Contents (Elt Ideal)) :=
  val_unary 63 V (a := main_call0_call0.c_5) (y := main_call0_call0.v23) (f := (broadcastInDim S32 ![] bcast_S_S32)) rfl (by decide +kernel) (g_tf_c_5 V) rfl

theorem g_tf_v24 : get (after refOps V) main_call0_call0.v24
    = ((Host.shrui w_tf_v19 ((broadcastInDim S32 ![] bcast_S_S32) (constantI S_ 32 6#32))) : (⟨S32, .i32⟩ : BufTy).Contents (Elt Ideal)) :=
  val_binary 64 V (a := main_call0_call0.v19) (b := main_call0_call0.v23) (y := main_call0_call0.v24) (f := Host.shrui) rfl (by decide +kernel) (g_tf_v19 V) (g_tf_v23 V) rfl

theorem g_tf_v25 : get (after refOps V) main_call0_call0.v25
    = ((ori (Host.shli w_tf_v19 ((broadcastInDim S32 ![] bcast_S_S32) (constantI S_ 32 26#32))) (Host.shrui w_tf_v19 ((broadcastInDim S32 ![] bcast_S_S32) (constantI S_ 32 6#32)))) : (⟨S32, .i32⟩ : BufTy).Contents (Elt Ideal)) :=
  val_binary 65 V (a := main_call0_call0.v22) (b := main_call0_call0.v24) (y := main_call0_call0.v25) (f := ori) rfl (by decide +kernel) (g_tf_v22 V) (g_tf_v24 V) rfl

/-- The word vector `main_call0_call0_v26`. -/
abbrev w_tf_v26 : (⟨S32, .i32⟩ : BufTy).Contents (Elt Ideal) := vec 0xca7677aad236b52659f4ec9a41b42e166972699a7133ab1638f2e68a20b124060870638a1030a10607e0217a1fa0e3fa3760a4722f2166f266e22b6a7ea1e9ea5662ae624e226ce2c5e4355adda4f7daf562b052ed2372d2a4e63f4abca5fdca9464ba428c2478c283d8093b9b98cbbbb3588c33ab194eb3e2d6032bfa95c1ab
theorem g_tf_v26 : get (after refOps V) main_call0_call0.v26
    = (w_tf_v26 : (⟨S32, .i32⟩ : BufTy).Contents (Elt Ideal)) :=
  val_binary 66 V (a := main_call0_call0.v20) (b := main_call0_call0.v25) (y := main_call0_call0.v26) (f := xori) rfl (by decide +kernel) (g_tf_v20 V) (g_tf_v25 V) (vec_ext (by decide +kernel))

/-- The word vector `main_call0_call0_v27`. -/
abbrev w_tf_v27 : (⟨S32, .i32⟩ : BufTy).Contents (Elt Ideal) := vec 0x5aad38d2526cb64aca292db2a1e8af2ab9a52ab2b166ac2a6925279240e2a50a18a124921060a20af8006275ffc164f507816565ef4267e517046c551ec36ad5e6856f45ce446dc5360876353dc978b5458571252d4673a5d50c8015dccb7e95a4897b058c48798573f049f57bb14c7583714ce56b324f6592ec43d59aab4255
theorem g_tf_v27 : get (after refOps V) main_call0_call0.v27
    = (w_tf_v27 : (⟨S32, .i32⟩ : BufTy).Contents (Elt Ideal)) :=
  val_binary 67 V (a := main_call0_call0.v20) (b := main_call0_call0.v26) (y := main_call0_call0.v27) (f := addi) rfl (by decide +kernel) (g_tf_v20 V) (g_tf_v26 V) (vec_ext (by decide +kernel))

theorem g_tf_c_6 : get (after refOps V) main_call0_call0.c_6
    = ((constantI S_ 32 6#32) : (⟨S_, .i32⟩ : BufTy).Contents (Elt Ideal)) :=
  val_nullary 68 V (y := main_call0_call0.c_6) (f := (constantI S_ 32 6#32)) rfl (by decide +kernel) rfl

theorem g_tf_v28 : get (after refOps V) main_call0_call0.v28
    = (((broadcastInDim S32 ![] bcast_S_S32) (constantI S_ 32 6#32)) : (⟨S32, .i32⟩ : BufTy).Contents (Elt Ideal)) :=
  val_unary 69 V (a := main_call0_call0.c_6) (y := main_call0_call0.v28) (f := (broadcastInDim S32 ![] bcast_S_S32)) rfl (by decide +kernel) (g_tf_c_6 V) rfl

theorem g_tf_v29 : get (after refOps V) main_call0_call0.v29
    = ((Host.shli w_tf_v26 ((broadcastInDim S32 ![] bcast_S_S32) (constantI S_ 32 6#32))) : (⟨S32, .i32⟩ : BufTy).Contents (Elt Ideal)) :=
  val_binary 70 V (a := main_call0_call0.v26) (b := main_call0_call0.v28) (y := main_call0_call0.v29) (f := Host.shli) rfl (by decide +kernel) (g_tf_v26 V) (g_tf_v28 V) rfl

theorem g_tf_c_7 : get (after refOps V) main_call0_call0.c_7
    = ((constantI S_ 32 26#32) : (⟨S_, .i32⟩ : BufTy).Contents (Elt Ideal)) :=
  val_nullary 71 V (y := main_call0_call0.c_7) (f := (constantI S_ 32 26#32)) rfl (by decide +kernel) rfl

theorem g_tf_v30 : get (after refOps V) main_call0_call0.v30
    = (((broadcastInDim S32 ![] bcast_S_S32) (constantI S_ 32 26#32)) : (⟨S32, .i32⟩ : BufTy).Contents (Elt Ideal)) :=
  val_unary 72 V (a := main_call0_call0.c_7) (y := main_call0_call0.v30) (f := (broadcastInDim S32 ![] bcast_S_S32)) rfl (by decide +kernel) (g_tf_c_7 V) rfl

theorem g_tf_v31 : get (after refOps V) main_call0_call0.v31
    = ((Host.shrui w_tf_v26 ((broadcastInDim S32 ![] bcast_S_S32) (constantI S_ 32 26#32))) : (⟨S32, .i32⟩ : BufTy).Contents (Elt Ideal)) :=
  val_binary 73 V (a := main_call0_call0.v26) (b := main_call0_call0.v30) (y := main_call0_call0.v31) (f := Host.shrui) rfl (by decide +kernel) (g_tf_v26 V) (g_tf_v30 V) rfl

theorem g_tf_v32 : get (after refOps V) main_call0_call0.v32
    = ((ori (Host.shli w_tf_v26 ((broadcastInDim S32 ![] bcast_S_S32) (constantI S_ 32 6#32))) (Host.shrui w_tf_v26 ((broadcastInDim S32 ![] bcast_S_S32) (constantI S_ 32 26#32)))) : (⟨S32, .i32⟩ : BufTy).Contents (Elt Ideal)) :=
  val_binary 74 V (a := main_call0_call0.v29) (b := main_call0_call0.v31) (y := main_call0_call0.v32) (f := ori) rfl (by decide +kernel) (g_tf_v29 V) (g_tf_v31 V) rfl

/-- The word vector `main_call0_call0_v33`. -/
abbrev w_tf_v33 : (⟨S32, .i32⟩ : BufTy).Contents (Elt Ideal) := vec 0xc730d260dfc1fffeb7120b24cce32abae53f4c28fd8c69b6559c851c6caba48204b9c6101c48e38e00083cf417f99a72dfa879e8271bdb6eaf8eb6ccb6b9104a7e2ef7d046df55564f05208454f48e021d296598659ac71eec8352bcf5b40c3abda7eba08556492685f207159d83a29355524009ad61e38f276c892d3fdb28ab
theorem g_tf_v33 : get (after refOps V) main_call0_call0.v33
    = (w_tf_v33 : (⟨S32, .i32⟩ : BufTy).Contents (Elt Ideal)) :=
  val_binary 75 V (a := main_call0_call0.v27) (b := main_call0_call0.v32) (y := main_call0_call0.v33) (f := xori) rfl (by decide +kernel) (g_tf_v27 V) (g_tf_v32 V) (vec_ext (by decide +kernel))

theorem g_tf_v34 : get (after refOps V) main_call0_call0.v34
    = (((broadcastInDim S32 ![] bcast_S_S32) (fun _ => 42#32 : (⟨S_, .i32⟩ : BufTy).Contents (Elt Ideal))) : (⟨S32, .i32⟩ : BufTy).Contents (Elt Ideal)) :=
  val_unary 76 V (a := main_call0.v7) (y := main_call0_call0.v34) (f := (broadcastInDim S32 ![] bcast_S_S32)) rfl (by decide +kernel) (g_un_v7 V) rfl

/-- The word vector `main_call0_call0_v35`. -/
abbrev w_tf_v35 : (⟨S32, .i32⟩ : BufTy).Contents (Elt Ideal) := vec 0x5aad38fc526cb674ca292ddca1e8af54b9a52adcb166ac54692527bc40e2a53418a124bc1060a234f800629fffc1651f0781658fef42680f17046c7f1ec36affe6856f6fce446def3608765f3dc978df4585714f2d4673cfd50c803fdccb7ebfa4897b2f8c4879af73f04a1f7bb14c9f83714d0f6b324f8f92ec43ff9aab427f
theorem g_tf_v35 : get (after refOps V) main_call0_call0.v35
    = (w_tf_v35 : (⟨S32, .i32⟩ : BufTy).Contents (Elt Ideal)) :=
  val_binary 77 V (a := main_call0_call0.v27) (b := main_call0_call0.v34) (y := main_call0_call0.v35) (f := addi) rfl (by decide +kernel) (g_tf_v27 V) (g_tf_v34 V) (vec_ext (by decide +kernel))

theorem g_tf_v36 : get (after refOps V) main_call0_call0.v36
    = (((broadcastInDim S32 ![] bcast_S_S32) (fun _ => 466689008#32 : (⟨S_, .i32⟩ : BufTy).Contents (Elt Ideal))) : (⟨S32, .i32⟩ : BufTy).Contents (Elt Ideal)) :=
  val_unary 78 V (a := main_call0_call0.v1) (y := main_call0_call0.v36) (f := (broadcastInDim S32 ![] bcast_S_S32)) rfl (by decide +kernel) (g_tf_v1 V) rfl

/-- The word vector `main_call0_call0_v37`. -/
abbrev w_tf_v37 : (⟨S32, .i32⟩ : BufTy).Contents (Elt Ideal) := vec 0xe301ee50fb931beed2e32714e8b446aa01106818195d85a6716da10c887cc072208ae2003819ff7e1bd958e433cab662fb7995d842ecf75ecb5fd2bcd28a2c3a9a0013c062b071466ad63c7470c5a9f238fa8188816be30e08546eac1185282ad9790790a1276516a1c32305b954be8371235bf9c932ff7f433da51d5bac449b
theorem g_tf_v37 : get (after refOps V) main_call0_call0.v37
    = (w_tf_v37 : (⟨S32, .i32⟩ : BufTy).Contents (Elt Ideal)) :=
  val_binary 79 V (a := main_call0_call0.v33) (b := main_call0_call0.v36) (y := main_call0_call0.v37) (f := addi) rfl (by decide +kernel) (g_tf_v33 V) (g_tf_v36 V) (vec_ext (by decide +kernel))

theorem g_tf_c_8 : get (after refOps V) main_call0_call0.c_8
    = ((constantI S_ 32 1#32) : (⟨S_, .i32⟩ : BufTy).Contents (Elt Ideal)) :=
  val_nullary 80 V (y := main_call0_call0.c_8) (f := (constantI S_ 32 1#32)) rfl (by decide +kernel) rfl

theorem g_tf_v38 : get (after refOps V) main_call0_call0.v38
    = (((broadcastInDim S32 ![] bcast_S_S32) (constantI S_ 32 1#32)) : (⟨S32, .i32⟩ : BufTy).Contents (Elt Ideal)) :=
  val_unary 81 V (a := main_call0_call0.c_8) (y := main_call0_call0.v38) (f := (broadcastInDim S32 ![] bcast_S_S32)) rfl (by decide +kernel) (g_tf_c_8 V) rfl

/-- The word vector `main_call0_call0_v39`. -/
abbrev w_tf_v39 : (⟨S32, .i32⟩ : BufTy).Contents (Elt Ideal) := vec 0xe301ee51fb931befd2e32715e8b446ab01106819195d85a7716da10d887cc073208ae2013819ff7f1bd958e533cab663fb7995d942ecf75fcb5fd2bdd28a2c3b9a0013c162b071476ad63c7570c5a9f338fa8189816be30f08546ead1185282bd9790791a1276517a1c32306b954be8471235bfac932ff80433da51e5bac449c
theorem g_tf_v39 : get (after refOps V) main_call0_call0.v39
    = (w_tf_v39 : (⟨S32, .i32⟩ : BufTy).Contents (Elt Ideal)) :=
  val_binary 82 V (a := main_call0_call0.v37) (b := main_call0_call0.v38) (y := main_call0_call0.v39) (f := addi) rfl (by decide +kernel) (g_tf_v37 V) (g_tf_v38 V) (vec_ext (by decide +kernel))

/-- The word vector `main_call0_call0_v40`. -/
abbrev w_tf_v40 : (⟨S32, .i32⟩ : BufTy).Contents (Elt Ideal) := vec 0x3daf274d4dffd2639d0c54f18a9cf5ffbab592f5cac431fbda92c8c9c95f65a7392c06bd487aa1b313d9bb84338c1b8202fafb68322f5f6ee2643f3cf14d973a8085833030f4df36a0deb2d4ae8f22d27e7ff2d8aeb256dedd60eeecee50a6ea7e0282c02d6fdec615b36d2535060b23f494a90934654f0fd629e91df657871b
theorem g_tf_v40 : get (after refOps V) main_call0_call0.v40
    = (w_tf_v40 : (⟨S32, .i32⟩ : BufTy).Contents (Elt Ideal)) :=
  val_binary 83 V (a := main_call0_call0.v35) (b := main_call0_call0.v39) (y := main_call0_call0.v40) (f := addi) rfl (by decide +kernel) (g_tf_v35 V) (g_tf_v39 V) (vec_ext (by decide +kernel))

theorem g_tf_c_9 : get (after refOps V) main_call0_call0.c_9
    = ((constantI S_ 32 17#32) : (⟨S_, .i32⟩ : BufTy).Contents (Elt Ideal)) :=
  val_nullary 84 V (y := main_call0_call0.c_9) (f := (constantI S_ 32 17#32)) rfl (by decide +kernel) rfl

theorem g_tf_v41 : get (after refOps V) main_call0_call0.v41
    = (((broadcastInDim S32 ![] bcast_S_S32) (constantI S_ 32 17#32)) : (⟨S32, .i32⟩ : BufTy).Contents (Elt Ideal)) :=
  val_unary 85 V (a := main_call0_call0.c_9) (y := main_call0_call0.v41) (f := (broadcastInDim S32 ![] bcast_S_S32)) rfl (by decide +kernel) (g_tf_c_9 V) rfl

theorem g_tf_v42 : get (after refOps V) main_call0_call0.v42
    = ((Host.shli w_tf_v39 ((broadcastInDim S32 ![] bcast_S_S32) (constantI S_ 32 17#32))) : (⟨S32, .i32⟩ : BufTy).Contents (Elt Ideal)) :=
  val_binary 86 V (a := main_call0_call0.v39) (b := main_call0_call0.v41) (y := main_call0_call0.v42) (f := Host.shli) rfl (by decide +kernel) (g_tf_v39 V) (g_tf_v41 V) rfl

theorem g_tf_c_10 : get (after refOps V) main_call0_call0.c_10
    = ((constantI S_ 32 15#32) : (⟨S_, .i32⟩ : BufTy).Contents (Elt Ideal)) :=
  val_nullary 87 V (y := main_call0_call0.c_10) (f := (constantI S_ 32 15#32)) rfl (by decide +kernel) rfl

theorem g_tf_v43 : get (after refOps V) main_call0_call0.v43
    = (((broadcastInDim S32 ![] bcast_S_S32) (constantI S_ 32 15#32)) : (⟨S32, .i32⟩ : BufTy).Contents (Elt Ideal)) :=
  val_unary 88 V (a := main_call0_call0.c_10) (y := main_call0_call0.v43) (f := (broadcastInDim S32 ![] bcast_S_S32)) rfl (by decide +kernel) (g_tf_c_10 V) rfl

theorem g_tf_v44 : get (after refOps V) main_call0_call0.v44
    = ((Host.shrui w_tf_v39 ((broadcastInDim S32 ![] bcast_S_S32) (constantI S_ 32 15#32))) : (⟨S32, .i32⟩ : BufTy).Contents (Elt Ideal)) :=
  val_binary 89 V (a := main_call0_call0.v39) (b := main_call0_call0.v43) (y := main_call0_call0.v44) (f := Host.shrui) rfl (by decide +kernel) (g_tf_v39 V) (g_tf_v43 V) rfl

theorem g_tf_v45 : get (after refOps V) main_call0_call0.v45
    = ((ori (Host.shli w_tf_v39 ((broadcastInDim S32 ![] bcast_S_S32) (constantI S_ 32 17#32))) (Host.shrui w_tf_v39 ((broadcastInDim S32 ![] bcast_S_S32) (constantI S_ 32 15#32)))) : (⟨S32, .i32⟩ : BufTy).Contents (Elt Ideal)) :=
  val_binary 90 V (a := main_call0_call0.v42) (b := main_call0_call0.v44) (y := main_call0_call0.v45) (f := ori) rfl (by decide +kernel) (g_tf_v42 V) (g_tf_v44 V) rfl

/-- The word vector `main_call0_call0_v46`. -/
abbrev w_tf_v46 : (⟨S32, .i32⟩ : BufTy).Contents (Elt Ideal) := vec 0xe10ce14e7a202545d327f13707cb24976a8790d5c18a034098882a1249b8755efd2e47a8b684d180a2138c365f4a7c1729490d9bdc91dab7471fa983a93a322ea706b730d27a1a56d8346778fd69c3597d6d832d68ad5409003afe44be0685e071213032e7409c8853be2ea3480f798a43604b4fcb64dd6a9c156f667f6f3043
theorem g_tf_v46 : get (after refOps V) main_call0_call0.v46
    = (w_tf_v46 : (⟨S32, .i32⟩ : BufTy).Contents (Elt Ideal)) :=
  val_binary 91 V (a := main_call0_call0.v40) (b := main_call0_call0.v45) (y := main_call0_call0.v46) (f := xori) rfl (by decide +kernel) (g_tf_v40 V) (g_tf_v45 V) (vec_ext (by decide +kernel))

/-- The word vector `main_call0_call0_v47`. -/
abbrev w_tf_v47 : (⟨S32, .i32⟩ : BufTy).Contents (Elt Ideal) := vec 0x1ebc089bc81ff7a87034462892681a96253d23ca8c4e353b731af2db1317db05365a4e65feff7333b5ed47ba92d697992c4409030ec13a252983e8bf9a87c968278c3a60036ef98c79131a4cabf8e62bfbed7605175faae7dd9bed30ac572ccaef23b2f214b07b4e69719bc87d1584ad37f4f458ffca2c79723f588375c6b75e
theorem g_tf_v47 : get (after refOps V) main_call0_call0.v47
    = (w_tf_v47 : (⟨S32, .i32⟩ : BufTy).Contents (Elt Ideal)) :=
  val_binary 92 V (a := main_call0_call0.v40) (b := main_call0_call0.v46) (y := main_call0_call0.v47) (f := addi) rfl (by decide +kernel) (g_tf_v40 V) (g_tf_v46 V) (vec_ext (by decide +kernel))

end Cert.Proof.Ref

end

end
-- ==== Proof.RefMixB.lean ====
/-
  The next rounds of the generator, as words.
-/
module

public import proofs.«01_k».proof.Proof.RefMixA

@[expose] public section

noncomputable section

namespace Cert.Proof.Ref

open Cert.ReferenceIdeal
open Cert.ReferenceIdeal.Facts₀ Cert.ReferenceIdeal.Facts
open Idealize.ShloMosaic Idealize.ShloMosaic.StableHlo Idealize.SL.Sem

set_option maxRecDepth 100000

variable (V : Valuation τ sig (Elt Ideal))

theorem g_tf_c_11 : get (after refOps V) main_call0_call0.c_11
    = ((constantI S_ 32 29#32) : (⟨S_, .i32⟩ : BufTy).Contents (Elt Ideal)) :=
  val_nullary 93 V (y := main_call0_call0.c_11) (f := (constantI S_ 32 29#32)) rfl (by decide +kernel) rfl

theorem g_tf_v48 : get (after refOps V) main_call0_call0.v48
    = (((broadcastInDim S32 ![] bcast_S_S32) (constantI S_ 32 29#32)) : (⟨S32, .i32⟩ : BufTy).Contents (Elt Ideal)) :=
  val_unary 94 V (a := main_call0_call0.c_11) (y := main_call0_call0.v48) (f := (broadcastInDim S32 ![] bcast_S_S32)) rfl (by decide +kernel) (g_tf_c_11 V) rfl

theorem g_tf_v49 : get (after refOps V) main_call0_call0.v49
    = ((Host.shli w_tf_v46 ((broadcastInDim S32 ![] bcast_S_S32) (constantI S_ 32 29#32))) : (⟨S32, .i32⟩ : BufTy).Contents (Elt Ideal)) :=
  val_binary 95 V (a := main_call0_call0.v46) (b := main_call0_call0.v48) (y := main_call0_call0.v49) (f := Host.shli) rfl (by decide +kernel) (g_tf_v46 V) (g_tf_v48 V) rfl

theorem g_tf_c_12 : get (after refOps V) main_call0_call0.c_12
    = ((constantI S_ 32 3#32) : (⟨S_, .i32⟩ : BufTy).Contents (Elt Ideal)) :=
  val_nullary 96 V (y := main_call0_call0.c_12) (f := (constantI S_ 32 3#32)) rfl (by decide +kernel) rfl

theorem g_tf_v50 : get (after refOps V) main_call0_call0.v50
    = (((broadcastInDim S32 ![] bcast_S_S32) (constantI S_ 32 3#32)) : (⟨S32, .i32⟩ : BufTy).Contents (Elt Ideal)) :=
  val_unary 97 V (a := main_call0_call0.c_12) (y := main_call0_call0.v50) (f := (broadcastInDim S32 ![] bcast_S_S32)) rfl (by decide +kernel) (g_tf_c_12 V) rfl

theorem g_tf_v51 : get (after refOps V) main_call0_call0.v51
    = ((Host.shrui w_tf_v46 ((broadcastInDim S32 ![] bcast_S_S32) (constantI S_ 32 3#32))) : (⟨S32, .i32⟩ : BufTy).Contents (Elt Ideal)) :=
  val_binary 98 V (a := main_call0_call0.v46) (b := main_call0_call0.v50) (y := main_call0_call0.v51) (f := Host.shrui) rfl (by decide +kernel) (g_tf_v46 V) (g_tf_v50 V) rfl

theorem g_tf_v52 : get (after refOps V) main_call0_call0.v52
    = ((ori (Host.shli w_tf_v46 ((broadcastInDim S32 ![] bcast_S_S32) (constantI S_ 32 29#32))) (Host.shrui w_tf_v46 ((broadcastInDim S32 ![] bcast_S_S32) (constantI S_ 32 3#32)))) : (⟨S32, .i32⟩ : BufTy).Contents (Elt Ideal)) :=
  val_binary 99 V (a := main_call0_call0.v49) (b := main_call0_call0.v51) (y := main_call0_call0.v52) (f := ori) rfl (by decide +kernel) (g_tf_v49 V) (g_tf_v51 V) rfl

/-- The word vector `main_call0_call0_v53`. -/
abbrev w_tf_v53 : (⟨S32, .i32⟩ : BufTy).Contents (Elt Ideal) := vec 0xc29d94b2675bf3008a50b80e72917e04886dd1d0947f7553200bf799da20d5ae29ff8690e82fe90361af363c793fd81b496d28b0f553017341601d8f4fa08f2d336cec86d921bac6621596a39455de405440c6603a4a00665d9cb2f8bb97fc76a10794f4085868df03065e1c34146b9cdf98fd31a6a6b7d4a1bdf56f1a2b5156
theorem g_tf_v53 : get (after refOps V) main_call0_call0.v53
    = (w_tf_v53 : (⟨S32, .i32⟩ : BufTy).Contents (Elt Ideal)) :=
  val_binary 100 V (a := main_call0_call0.v47) (b := main_call0_call0.v52) (y := main_call0_call0.v53) (f := xori) rfl (by decide +kernel) (g_tf_v47 V) (g_tf_v52 V) (vec_ext (by decide +kernel))

/-- The word vector `main_call0_call0_v54`. -/
abbrev w_tf_v54 : (⟨S32, .i32⟩ : BufTy).Contents (Elt Ideal) := vec 0xe1599d4d2f7beaa8fa84fe3604f9989aadaaf59a20cdaa8e9326ea74ed38b0b36059d4f5e72f5c36179c7df60c166fb475b131b304143b986ae4064eea2858955af926e6dc90b452db28b0ef404ec46b502e3c6551a9ab4d3b38a02867ef2940902b47e61d08e42d6c77f9e4b129f049178df189a670e44d13fd4df28ff208b4
theorem g_tf_v54 : get (after refOps V) main_call0_call0.v54
    = (w_tf_v54 : (⟨S32, .i32⟩ : BufTy).Contents (Elt Ideal)) :=
  val_binary 101 V (a := main_call0_call0.v47) (b := main_call0_call0.v53) (y := main_call0_call0.v54) (f := addi) rfl (by decide +kernel) (g_tf_v47 V) (g_tf_v53 V) (vec_ext (by decide +kernel))

theorem g_tf_c_13 : get (after refOps V) main_call0_call0.c_13
    = ((constantI S_ 32 16#32) : (⟨S_, .i32⟩ : BufTy).Contents (Elt Ideal)) :=
  val_nullary 102 V (y := main_call0_call0.c_13) (f := (constantI S_ 32 16#32)) rfl (by decide +kernel) rfl

theorem g_tf_v55 : get (after refOps V) main_call0_call0.v55
    = (((broadcastInDim S32 ![] bcast_S_S32) (constantI S_ 32 16#32)) : (⟨S32, .i32⟩ : BufTy).Contents (Elt Ideal)) :=
  val_unary 103 V (a := main_call0_call0.c_13) (y := main_call0_call0.v55) (f := (broadcastInDim S32 ![] bcast_S_S32)) rfl (by decide +kernel) (g_tf_c_13 V) rfl

theorem g_tf_v56 : get (after refOps V) main_call0_call0.v56
    = ((Host.shli w_tf_v53 ((broadcastInDim S32 ![] bcast_S_S32) (constantI S_ 32 16#32))) : (⟨S32, .i32⟩ : BufTy).Contents (Elt Ideal)) :=
  val_binary 104 V (a := main_call0_call0.v53) (b := main_call0_call0.v55) (y := main_call0_call0.v56) (f := Host.shli) rfl (by decide +kernel) (g_tf_v53 V) (g_tf_v55 V) rfl

theorem g_tf_c_14 : get (after refOps V) main_call0_call0.c_14
    = ((constantI S_ 32 16#32) : (⟨S_, .i32⟩ : BufTy).Contents (Elt Ideal)) :=
  val_nullary 105 V (y := main_call0_call0.c_14) (f := (constantI S_ 32 16#32)) rfl (by decide +kernel) rfl

theorem g_tf_v57 : get (after refOps V) main_call0_call0.v57
    = (((broadcastInDim S32 ![] bcast_S_S32) (constantI S_ 32 16#32)) : (⟨S32, .i32⟩ : BufTy).Contents (Elt Ideal)) :=
  val_unary 106 V (a := main_call0_call0.c_14) (y := main_call0_call0.v57) (f := (broadcastInDim S32 ![] bcast_S_S32)) rfl (by decide +kernel) (g_tf_c_14 V) rfl

theorem g_tf_v58 : get (after refOps V) main_call0_call0.v58
    = ((Host.shrui w_tf_v53 ((broadcastInDim S32 ![] bcast_S_S32) (constantI S_ 32 16#32))) : (⟨S32, .i32⟩ : BufTy).Contents (Elt Ideal)) :=
  val_binary 107 V (a := main_call0_call0.v53) (b := main_call0_call0.v57) (y := main_call0_call0.v58) (f := Host.shrui) rfl (by decide +kernel) (g_tf_v53 V) (g_tf_v57 V) rfl

theorem g_tf_v59 : get (after refOps V) main_call0_call0.v59
    = ((ori (Host.shli w_tf_v53 ((broadcastInDim S32 ![] bcast_S_S32) (constantI S_ 32 16#32))) (Host.shrui w_tf_v53 ((broadcastInDim S32 ![] bcast_S_S32) (constantI S_ 32 16#32)))) : (⟨S32, .i32⟩ : BufTy).Contents (Elt Ideal)) :=
  val_binary 108 V (a := main_call0_call0.v56) (b := main_call0_call0.v58) (y := main_call0_call0.v59) (f := ori) rfl (by decide +kernel) (g_tf_v56 V) (g_tf_v58 V) rfl

/-- The word vector `main_call0_call0_v60`. -/
abbrev w_tf_v60 : (⟨S32, .i32⟩ : BufTy).Contents (Elt Ideal) := vec 0x75eb5fd0dc7b8df3428a74667afdea0b7c7a7df7559e3ef164bfca7f38966a93e6c9fd0a0e2cb41921a01c59d40d168b5d0178de0567cecb776b472e65051735b67f158a66566d734d8bd2fa9e0e503e964e682551cf910789c0fdb49b9992d704dfe6e175d7ec75326bfae2dab5c45deabc2e1111a442ebe692ec4fdea4129f
theorem g_tf_v60 : get (after refOps V) main_call0_call0.v60
    = (w_tf_v60 : (⟨S32, .i32⟩ : BufTy).Contents (Elt Ideal)) :=
  val_binary 109 V (a := main_call0_call0.v54) (b := main_call0_call0.v59) (y := main_call0_call0.v60) (f := xori) rfl (by decide +kernel) (g_tf_v54 V) (g_tf_v59 V) (vec_ext (by decide +kernel))

/-- The word vector `main_call0_call0_v61`. -/
abbrev w_tf_v61 : (⟨S32, .i32⟩ : BufTy).Contents (Elt Ideal) := vec 0x5744fd1d0bf7789b3d0f729c7ff782a52a257391766be97ff7e6b4f325cf1b464723d1fff55c104f393c9a4fe023863fd2b2aa91097c0a63e24f4d7c4f2d6fca11783c7042e721c528b483e9de5d14a9e67ca48aa3793c54c4f99ddc0388bc17950b2ec792e0d0a29ee3f4c68bdfb4a6024a1f9ab8152738fa903a416e961b53
theorem g_tf_v61 : get (after refOps V) main_call0_call0.v61
    = (w_tf_v61 : (⟨S32, .i32⟩ : BufTy).Contents (Elt Ideal)) :=
  val_binary 110 V (a := main_call0_call0.v54) (b := main_call0_call0.v60) (y := main_call0_call0.v61) (f := addi) rfl (by decide +kernel) (g_tf_v54 V) (g_tf_v60 V) (vec_ext (by decide +kernel))

theorem g_tf_c_15 : get (after refOps V) main_call0_call0.c_15
    = ((constantI S_ 32 24#32) : (⟨S_, .i32⟩ : BufTy).Contents (Elt Ideal)) :=
  val_nullary 111 V (y := main_call0_call0.c_15) (f := (constantI S_ 32 24#32)) rfl (by decide +kernel) rfl

theorem g_tf_v62 : get (after refOps V) main_call0_call0.v62
    = (((broadcastInDim S32 ![] bcast_S_S32) (constantI S_ 32 24#32)) : (⟨S32, .i32⟩ : BufTy).Contents (Elt Ideal)) :=
  val_unary 112 V (a := main_call0_call0.c_15) (y := main_call0_call0.v62) (f := (broadcastInDim S32 ![] bcast_S_S32)) rfl (by decide +kernel) (g_tf_c_15 V) rfl

theorem g_tf_v63 : get (after refOps V) main_call0_call0.v63
    = ((Host.shli w_tf_v60 ((broadcastInDim S32 ![] bcast_S_S32) (constantI S_ 32 24#32))) : (⟨S32, .i32⟩ : BufTy).Contents (Elt Ideal)) :=
  val_binary 113 V (a := main_call0_call0.v60) (b := main_call0_call0.v62) (y := main_call0_call0.v63) (f := Host.shli) rfl (by decide +kernel) (g_tf_v60 V) (g_tf_v62 V) rfl

theorem g_tf_c_16 : get (after refOps V) main_call0_call0.c_16
    = ((constantI S_ 32 8#32) : (⟨S_, .i32⟩ : BufTy).Contents (Elt Ideal)) :=
  val_nullary 114 V (y := main_call0_call0.c_16) (f := (constantI S_ 32 8#32)) rfl (by decide +kernel) rfl

theorem g_tf_v64 : get (after refOps V) main_call0_call0.v64
    = (((broadcastInDim S32 ![] bcast_S_S32) (constantI S_ 32 8#32)) : (⟨S32, .i32⟩ : BufTy).Contents (Elt Ideal)) :=
  val_unary 115 V (a := main_call0_call0.c_16) (y := main_call0_call0.v64) (f := (broadcastInDim S32 ![] bcast_S_S32)) rfl (by decide +kernel) (g_tf_c_16 V) rfl

theorem g_tf_v65 : get (after refOps V) main_call0_call0.v65
    = ((Host.shrui w_tf_v60 ((broadcastInDim S32 ![] bcast_S_S32) (constantI S_ 32 8#32))) : (⟨S32, .i32⟩ : BufTy).Contents (Elt Ideal)) :=
  val_binary 116 V (a := main_call0_call0.v60) (b := main_call0_call0.v64) (y := main_call0_call0.v65) (f := Host.shrui) rfl (by decide +kernel) (g_tf_v60 V) (g_tf_v64 V) rfl

theorem g_tf_v66 : get (after refOps V) main_call0_call0.v66
    = ((ori (Host.shli w_tf_v60 ((broadcastInDim S32 ![] bcast_S_S32) (constantI S_ 32 24#32))) (Host.shrui w_tf_v60 ((broadcastInDim S32 ![] bcast_S_S32) (constantI S_ 32 8#32)))) : (⟨S32, .i32⟩ : BufTy).Contents (Elt Ideal)) :=
  val_binary 117 V (a := main_call0_call0.v63) (b := main_call0_call0.v65) (y := main_call0_call0.v66) (f := ori) rfl (by decide +kernel) (g_tf_v63 V) (g_tf_v65 V) rfl

/-- The word vector `main_call0_call0_v67`. -/
abbrev w_tf_v67 : (⟨S32, .i32⟩ : BufTy).Contents (Elt Ideal) := vec 0x87311642f82b03165b4df8e8748d7f4fdd5909ec873e774188820b39b6f78d2c4dc51802ec523cfb601d3a536bf78b290cefabe9c2796dadcc38263b7a486add9bce4365318177a8d2f9083be0c31af9c3eaeae2a428f3c570705d21d4132585740ff121e795074e7cd19f3cd605016213a0a3b45304837ab576a8adf148bf41
theorem g_tf_v67 : get (after refOps V) main_call0_call0.v67
    = (w_tf_v67 : (⟨S32, .i32⟩ : BufTy).Contents (Elt Ideal)) :=
  val_binary 118 V (a := main_call0_call0.v61) (b := main_call0_call0.v66) (y := main_call0_call0.v67) (f := xori) rfl (by decide +kernel) (g_tf_v61 V) (g_tf_v66 V) (vec_ext (by decide +kernel))

theorem g_tf_v68 : get (after refOps V) main_call0_call0.v68
    = (((broadcastInDim S32 ![] bcast_S_S32) (fun _ => 466689008#32 : (⟨S_, .i32⟩ : BufTy).Contents (Elt Ideal))) : (⟨S32, .i32⟩ : BufTy).Contents (Elt Ideal)) :=
  val_unary 119 V (a := main_call0_call0.v1) (y := main_call0_call0.v68) (f := (broadcastInDim S32 ![] bcast_S_S32)) rfl (by decide +kernel) (g_tf_v1 V) rfl

/-- The word vector `main_call0_call0_v69`. -/
abbrev w_tf_v69 : (⟨S32, .i32⟩ : BufTy).Contents (Elt Ideal) := vec 0x7316190d27c8948b58e08e8c9bc89e9545f68f81923d056f13b7d0e341a0373662f4edef112d2c3f550db63ffbf4a22fee83c681254d2653fe20696c6afe8bba2d4958605eb83db544859fd9fa2e3099024dc07abf4a5844e0cab9cc1f59d807b0dc4ab7aeb1ec92bab510b6a7b0d0961e1b3b8ad3e64328166156318a673743
theorem g_tf_v69 : get (after refOps V) main_call0_call0.v69
    = (w_tf_v69 : (⟨S32, .i32⟩ : BufTy).Contents (Elt Ideal)) :=
  val_binary 120 V (a := main_call0_call0.v61) (b := main_call0_call0.v68) (y := main_call0_call0.v69) (f := addi) rfl (by decide +kernel) (g_tf_v61 V) (g_tf_v68 V) (vec_ext (by decide +kernel))

theorem g_tf_v70 : get (after refOps V) main_call0_call0.v70
    = (((broadcastInDim S32 ![] bcast_S_S32) (fun _ => 0#32 : (⟨S_, .i32⟩ : BufTy).Contents (Elt Ideal))) : (⟨S32, .i32⟩ : BufTy).Contents (Elt Ideal)) :=
  val_unary 121 V (a := main_call0.v5) (y := main_call0_call0.v70) (f := (broadcastInDim S32 ![] bcast_S_S32)) rfl (by decide +kernel) (g_un_v5 V) rfl

/-- The word vector `main_call0_call0_v71`. -/
abbrev w_tf_v71 : (⟨S32, .i32⟩ : BufTy).Contents (Elt Ideal) := vec 0x87311642f82b03165b4df8e8748d7f4fdd5909ec873e774188820b39b6f78d2c4dc51802ec523cfb601d3a536bf78b290cefabe9c2796dadcc38263b7a486add9bce4365318177a8d2f9083be0c31af9c3eaeae2a428f3c570705d21d4132585740ff121e795074e7cd19f3cd605016213a0a3b45304837ab576a8adf148bf41
theorem g_tf_v71 : get (after refOps V) main_call0_call0.v71
    = (w_tf_v71 : (⟨S32, .i32⟩ : BufTy).Contents (Elt Ideal)) :=
  val_binary 122 V (a := main_call0_call0.v67) (b := main_call0_call0.v70) (y := main_call0_call0.v71) (f := addi) rfl (by decide +kernel) (g_tf_v67 V) (g_tf_v70 V) (vec_ext (by decide +kernel))

theorem g_tf_c_17 : get (after refOps V) main_call0_call0.c_17
    = ((constantI S_ 32 2#32) : (⟨S_, .i32⟩ : BufTy).Contents (Elt Ideal)) :=
  val_nullary 123 V (y := main_call0_call0.c_17) (f := (constantI S_ 32 2#32)) rfl (by decide +kernel) rfl

theorem g_tf_v72 : get (after refOps V) main_call0_call0.v72
    = (((broadcastInDim S32 ![] bcast_S_S32) (constantI S_ 32 2#32)) : (⟨S32, .i32⟩ : BufTy).Contents (Elt Ideal)) :=
  val_unary 124 V (a := main_call0_call0.c_17) (y := main_call0_call0.v72) (f := (broadcastInDim S32 ![] bcast_S_S32)) rfl (by decide +kernel) (g_tf_c_17 V) rfl

/-- The word vector `main_call0_call0_v73`. -/
abbrev w_tf_v73 : (⟨S32, .i32⟩ : BufTy).Contents (Elt Ideal) := vec 0x87311644f82b03185b4df8ea748d7f51dd5909ee873e774388820b3bb6f78d2e4dc51804ec523cfd601d3a556bf78b2b0cefabebc2796dafcc38263d7a486adf9bce4367318177aad2f9083de0c31afbc3eaeae4a428f3c770705d23d4132587740ff123e79507507cd19f3ed605016413a0a3b65304837cb576a8aff148bf43
theorem g_tf_v73 : get (after refOps V) main_call0_call0.v73
    = (w_tf_v73 : (⟨S32, .i32⟩ : BufTy).Contents (Elt Ideal)) :=
  val_binary 125 V (a := main_call0_call0.v71) (b := main_call0_call0.v72) (y := main_call0_call0.v73) (f := addi) rfl (by decide +kernel) (g_tf_v71 V) (g_tf_v72 V) (vec_ext (by decide +kernel))

/-- The word vector `main_call0_call0_v74`. -/
abbrev w_tf_v74 : (⟨S32, .i32⟩ : BufTy).Contents (Elt Ideal) := vec 0xfa472f511ff397a3b42e877610561de6234f996f197b7cb29c39dc1ef897c464b0ba05f3fd7f693cb52af09467ec2d5afb73726ce7c69402ca588fa9e546f699c9179bc79039b55f177ea816daf14b94c638ab5e63734c0b513b16eff36cfd8e24ec3bda9646f3e23786aff47db5d1fa31bbdf4026eac6a4cbd7fee07baff686
theorem g_tf_v74 : get (after refOps V) main_call0_call0.v74
    = (w_tf_v74 : (⟨S32, .i32⟩ : BufTy).Contents (Elt Ideal)) :=
  val_binary 126 V (a := main_call0_call0.v69) (b := main_call0_call0.v73) (y := main_call0_call0.v74) (f := addi) rfl (by decide +kernel) (g_tf_v69 V) (g_tf_v73 V) (vec_ext (by decide +kernel))

theorem g_tf_c_18 : get (after refOps V) main_call0_call0.c_18
    = ((constantI S_ 32 13#32) : (⟨S_, .i32⟩ : BufTy).Contents (Elt Ideal)) :=
  val_nullary 127 V (y := main_call0_call0.c_18) (f := (constantI S_ 32 13#32)) rfl (by decide +kernel) rfl

theorem g_tf_v75 : get (after refOps V) main_call0_call0.v75
    = (((broadcastInDim S32 ![] bcast_S_S32) (constantI S_ 32 13#32)) : (⟨S32, .i32⟩ : BufTy).Contents (Elt Ideal)) :=
  val_unary 128 V (a := main_call0_call0.c_18) (y := main_call0_call0.v75) (f := (broadcastInDim S32 ![] bcast_S_S32)) rfl (by decide +kernel) (g_tf_c_18 V) rfl

theorem g_tf_v76 : get (after refOps V) main_call0_call0.v76
    = ((Host.shli w_tf_v73 ((broadcastInDim S32 ![] bcast_S_S32) (constantI S_ 32 13#32))) : (⟨S32, .i32⟩ : BufTy).Contents (Elt Ideal)) :=
  val_binary 129 V (a := main_call0_call0.v73) (b := main_call0_call0.v75) (y := main_call0_call0.v76) (f := Host.shli) rfl (by decide +kernel) (g_tf_v73 V) (g_tf_v75 V) rfl

theorem g_tf_c_19 : get (after refOps V) main_call0_call0.c_19
    = ((constantI S_ 32 19#32) : (⟨S_, .i32⟩ : BufTy).Contents (Elt Ideal)) :=
  val_nullary 130 V (y := main_call0_call0.c_19) (f := (constantI S_ 32 19#32)) rfl (by decide +kernel) rfl

theorem g_tf_v77 : get (after refOps V) main_call0_call0.v77
    = (((broadcastInDim S32 ![] bcast_S_S32) (constantI S_ 32 19#32)) : (⟨S32, .i32⟩ : BufTy).Contents (Elt Ideal)) :=
  val_unary 131 V (a := main_call0_call0.c_19) (y := main_call0_call0.v77) (f := (broadcastInDim S32 ![] bcast_S_S32)) rfl (by decide +kernel) (g_tf_c_19 V) rfl

theorem g_tf_v78 : get (after refOps V) main_call0_call0.v78
    = ((Host.shrui w_tf_v73 ((broadcastInDim S32 ![] bcast_S_S32) (constantI S_ 32 19#32))) : (⟨S32, .i32⟩ : BufTy).Contents (Elt Ideal)) :=
  val_binary 132 V (a := main_call0_call0.v73) (b := main_call0_call0.v77) (y := main_call0_call0.v78) (f := Host.shrui) rfl (by decide +kernel) (g_tf_v73 V) (g_tf_v77 V) rfl

theorem g_tf_v79 : get (after refOps V) main_call0_call0.v79
    = ((ori (Host.shli w_tf_v73 ((broadcastInDim S32 ![] bcast_S_S32) (constantI S_ 32 13#32))) (Host.shrui w_tf_v73 ((broadcastInDim S32 ![] bcast_S_S32) (constantI S_ 32 19#32)))) : (⟨S32, .i32⟩ : BufTy).Contents (Elt Ideal)) :=
  val_binary 133 V (a := main_call0_call0.v76) (b := main_call0_call0.v78) (y := main_call0_call0.v79) (f := ori) rfl (by decide +kernel) (g_tf_v76 V) (g_tf_v78 V) rfl

/-- The word vector `main_call0_call0_v80`. -/
abbrev w_tf_v80 : (⟨S32, .i32⟩ : BufTy).Contents (Elt Ideal) := vec 0xd88fbfb77f9088a60b33cc1fbfbc3377027242c4d7930c55dd5ead0e093212ba13ba8c4bbae0d4b612605c97968940240e0e13f1ca736c4dce9f362ee81d19d0017b68bebeccf36f36791249b9ae378c9b6433237d0bb88e5a9f78e197dc070cdac8555b36acef100461606edd994b3a25cd1d34b6854cc41ec2084e6c4788af
theorem g_tf_v80 : get (after refOps V) main_call0_call0.v80
    = (w_tf_v80 : (⟨S32, .i32⟩ : BufTy).Contents (Elt Ideal)) :=
  val_binary 134 V (a := main_call0_call0.v74) (b := main_call0_call0.v79) (y := main_call0_call0.v80) (f := xori) rfl (by decide +kernel) (g_tf_v74 V) (g_tf_v79 V) (vec_ext (by decide +kernel))

/-- The word vector `main_call0_call0_v81`. -/
abbrev w_tf_v81 : (⟨S32, .i32⟩ : BufTy).Contents (Elt Ideal) := vec 0xd2d6ef089f842049bf625395d012515d25c1dc33f10e89077998892c01c9d71ec474923eb8603df2c78b4d2bfe756d7e0981865db23a004f98f7c5d7cd641069ca9304854f06a8ce4df7ba5f949f8320619cde81e07f0499abda8fd08b49049affb49135ccf3e2f23be810625b4f1d345788fc74dd701368ea9a072ee7f77f35
theorem g_tf_v81 : get (after refOps V) main_call0_call0.v81
    = (w_tf_v81 : (⟨S32, .i32⟩ : BufTy).Contents (Elt Ideal)) :=
  val_binary 135 V (a := main_call0_call0.v74) (b := main_call0_call0.v80) (y := main_call0_call0.v81) (f := addi) rfl (by decide +kernel) (g_tf_v74 V) (g_tf_v80 V) (vec_ext (by decide +kernel))

theorem g_tf_c_20 : get (after refOps V) main_call0_call0.c_20
    = ((constantI S_ 32 15#32) : (⟨S_, .i32⟩ : BufTy).Contents (Elt Ideal)) :=
  val_nullary 136 V (y := main_call0_call0.c_20) (f := (constantI S_ 32 15#32)) rfl (by decide +kernel) rfl

theorem g_tf_v82 : get (after refOps V) main_call0_call0.v82
    = (((broadcastInDim S32 ![] bcast_S_S32) (constantI S_ 32 15#32)) : (⟨S32, .i32⟩ : BufTy).Contents (Elt Ideal)) :=
  val_unary 137 V (a := main_call0_call0.c_20) (y := main_call0_call0.v82) (f := (broadcastInDim S32 ![] bcast_S_S32)) rfl (by decide +kernel) (g_tf_c_20 V) rfl

theorem g_tf_v83 : get (after refOps V) main_call0_call0.v83
    = ((Host.shli w_tf_v80 ((broadcastInDim S32 ![] bcast_S_S32) (constantI S_ 32 15#32))) : (⟨S32, .i32⟩ : BufTy).Contents (Elt Ideal)) :=
  val_binary 138 V (a := main_call0_call0.v80) (b := main_call0_call0.v82) (y := main_call0_call0.v83) (f := Host.shli) rfl (by decide +kernel) (g_tf_v80 V) (g_tf_v82 V) rfl

theorem g_tf_c_21 : get (after refOps V) main_call0_call0.c_21
    = ((constantI S_ 32 17#32) : (⟨S_, .i32⟩ : BufTy).Contents (Elt Ideal)) :=
  val_nullary 139 V (y := main_call0_call0.c_21) (f := (constantI S_ 32 17#32)) rfl (by decide +kernel) rfl

theorem g_tf_v84 : get (after refOps V) main_call0_call0.v84
    = (((broadcastInDim S32 ![] bcast_S_S32) (constantI S_ 32 17#32)) : (⟨S32, .i32⟩ : BufTy).Contents (Elt Ideal)) :=
  val_unary 140 V (a := main_call0_call0.c_21) (y := main_call0_call0.v84) (f := (broadcastInDim S32 ![] bcast_S_S32)) rfl (by decide +kernel) (g_tf_c_21 V) rfl

theorem g_tf_v85 : get (after refOps V) main_call0_call0.v85
    = ((Host.shrui w_tf_v80 ((broadcastInDim S32 ![] bcast_S_S32) (constantI S_ 32 17#32))) : (⟨S32, .i32⟩ : BufTy).Contents (Elt Ideal)) :=
  val_binary 141 V (a := main_call0_call0.v80) (b := main_call0_call0.v84) (y := main_call0_call0.v85) (f := Host.shrui) rfl (by decide +kernel) (g_tf_v80 V) (g_tf_v84 V) rfl

theorem g_tf_v86 : get (after refOps V) main_call0_call0.v86
    = ((ori (Host.shli w_tf_v80 ((broadcastInDim S32 ![] bcast_S_S32) (constantI S_ 32 15#32))) (Host.shrui w_tf_v80 ((broadcastInDim S32 ![] bcast_S_S32) (constantI S_ 32 17#32)))) : (⟨S32, .i32⟩ : BufTy).Contents (Elt Ideal)) :=
  val_binary 142 V (a := main_call0_call0.v83) (b := main_call0_call0.v85) (y := main_call0_call0.v86) (f := ori) rfl (by decide +kernel) (g_tf_v83 V) (g_tf_v85 V) rfl

/-- The word vector `main_call0_call0_v87`. -/
abbrev w_tf_v87 : (⟨S32, .i32⟩ : BufTy).Contents (Elt Ideal) := vec 0xd0d034fdbd71f81596dd60cc9a98e8304a3dd0a772462ce2f1fe7830894d38782511be3d23b6082e9c0c41b5e67263a0079015a041ce57603e0a298418c64677ecc043836b177a8c4d321638f59dff7780d13333c383a1c17aa229f88cf4f74d5197c51bb7bf9a48bdf1252fed273f8d912ee927b12482aeebd084f23a0c916
theorem g_tf_v87 : get (after refOps V) main_call0_call0.v87
    = (w_tf_v87 : (⟨S32, .i32⟩ : BufTy).Contents (Elt Ideal)) :=
  val_binary 143 V (a := main_call0_call0.v81) (b := main_call0_call0.v86) (y := main_call0_call0.v87) (f := xori) rfl (by decide +kernel) (g_tf_v81 V) (g_tf_v86 V) (vec_ext (by decide +kernel))

/-- The word vector `main_call0_call0_v88`. -/
abbrev w_tf_v88 : (⟨S32, .i32⟩ : BufTy).Contents (Elt Ideal) := vec 0xdfe3f2577b5b3fca18d029a199bbdfe02a65b93d6832ebd5a8b870af0a5eaaa546c5ae218a9b9e74b14c11465cdc93b809fa87b7b656e5c59cd8686f0ef074d0495f08bd85b8207612cadbc223f96317d9a9f1b41cb73eb5c384b26f1418540ed4ce0d86886fdc96c7c722b45a21912c309beb0658825b92d9570f7d0b98484b
theorem g_tf_v88 : get (after refOps V) main_call0_call0.v88
    = (w_tf_v88 : (⟨S32, .i32⟩ : BufTy).Contents (Elt Ideal)) :=
  val_binary 144 V (a := main_call0_call0.v81) (b := main_call0_call0.v87) (y := main_call0_call0.v88) (f := addi) rfl (by decide +kernel) (g_tf_v81 V) (g_tf_v87 V) (vec_ext (by decide +kernel))

theorem g_tf_c_22 : get (after refOps V) main_call0_call0.c_22
    = ((constantI S_ 32 26#32) : (⟨S_, .i32⟩ : BufTy).Contents (Elt Ideal)) :=
  val_nullary 145 V (y := main_call0_call0.c_22) (f := (constantI S_ 32 26#32)) rfl (by decide +kernel) rfl

theorem g_tf_v89 : get (after refOps V) main_call0_call0.v89
    = (((broadcastInDim S32 ![] bcast_S_S32) (constantI S_ 32 26#32)) : (⟨S32, .i32⟩ : BufTy).Contents (Elt Ideal)) :=
  val_unary 146 V (a := main_call0_call0.c_22) (y := main_call0_call0.v89) (f := (broadcastInDim S32 ![] bcast_S_S32)) rfl (by decide +kernel) (g_tf_c_22 V) rfl

theorem g_tf_v90 : get (after refOps V) main_call0_call0.v90
    = ((Host.shli w_tf_v87 ((broadcastInDim S32 ![] bcast_S_S32) (constantI S_ 32 26#32))) : (⟨S32, .i32⟩ : BufTy).Contents (Elt Ideal)) :=
  val_binary 147 V (a := main_call0_call0.v87) (b := main_call0_call0.v89) (y := main_call0_call0.v90) (f := Host.shli) rfl (by decide +kernel) (g_tf_v87 V) (g_tf_v89 V) rfl

theorem g_tf_c_23 : get (after refOps V) main_call0_call0.c_23
    = ((constantI S_ 32 6#32) : (⟨S_, .i32⟩ : BufTy).Contents (Elt Ideal)) :=
  val_nullary 148 V (y := main_call0_call0.c_23) (f := (constantI S_ 32 6#32)) rfl (by decide +kernel) rfl

theorem g_tf_v91 : get (after refOps V) main_call0_call0.v91
    = (((broadcastInDim S32 ![] bcast_S_S32) (constantI S_ 32 6#32)) : (⟨S32, .i32⟩ : BufTy).Contents (Elt Ideal)) :=
  val_unary 149 V (a := main_call0_call0.c_23) (y := main_call0_call0.v91) (f := (broadcastInDim S32 ![] bcast_S_S32)) rfl (by decide +kernel) (g_tf_c_23 V) rfl

theorem g_tf_v92 : get (after refOps V) main_call0_call0.v92
    = ((Host.shrui w_tf_v87 ((broadcastInDim S32 ![] bcast_S_S32) (constantI S_ 32 6#32))) : (⟨S32, .i32⟩ : BufTy).Contents (Elt Ideal)) :=
  val_binary 150 V (a := main_call0_call0.v87) (b := main_call0_call0.v91) (y := main_call0_call0.v92) (f := Host.shrui) rfl (by decide +kernel) (g_tf_v87 V) (g_tf_v91 V) rfl

theorem g_tf_v93 : get (after refOps V) main_call0_call0.v93
    = ((ori (Host.shli w_tf_v87 ((broadcastInDim S32 ![] bcast_S_S32) (constantI S_ 32 26#32))) (Host.shrui w_tf_v87 ((broadcastInDim S32 ![] bcast_S_S32) (constantI S_ 32 6#32)))) : (⟨S32, .i32⟩ : BufTy).Contents (Elt Ideal)) :=
  val_binary 151 V (a := main_call0_call0.v90) (b := main_call0_call0.v92) (y := main_call0_call0.v93) (f := ori) rfl (by decide +kernel) (g_tf_v90 V) (g_tf_v92 V) rfl

/-- The word vector `main_call0_call0_v94`. -/
abbrev w_tf_v94 : (⟨S32, .i32⟩ : BufTy).Contents (Elt Ideal) := vec 0xe3d7c65a7c3463b429b59ef9969d79da0277364951ee7a5ea4040f31167cf9ebc8ccea4e81d373f6deeb1256b5a50f2061fb63b26e469650fcd7eae593f64541a8a438ad2562e5a89dd99747fdc404681449c5f86c47de5dbfda1ae5c63b6933939a68771a8233708de85efdb9dad8e37bffa0bcf16e12b2e6edfb5c5316cb6f
theorem g_tf_v94 : get (after refOps V) main_call0_call0.v94
    = (w_tf_v94 : (⟨S32, .i32⟩ : BufTy).Contents (Elt Ideal)) :=
  val_binary 152 V (a := main_call0_call0.v88) (b := main_call0_call0.v93) (y := main_call0_call0.v94) (f := xori) rfl (by decide +kernel) (g_tf_v88 V) (g_tf_v93 V) (vec_ext (by decide +kernel))

end Cert.Proof.Ref

end

end
-- ==== Proof.RefMixC.lean ====
/-
  Further rounds of the generator, as words.
-/
module

public import proofs.«01_k».proof.Proof.RefMixB

@[expose] public section

noncomputable section

namespace Cert.Proof.Ref

open Cert.ReferenceIdeal
open Cert.ReferenceIdeal.Facts₀ Cert.ReferenceIdeal.Facts
open Idealize.ShloMosaic Idealize.ShloMosaic.StableHlo Idealize.SL.Sem

set_option maxRecDepth 100000

variable (V : Valuation τ sig (Elt Ideal))

/-- The word vector `main_call0_call0_v95`. -/
abbrev w_tf_v95 : (⟨S32, .i32⟩ : BufTy).Contents (Elt Ideal) := vec 0xc3bbb8b1f78fa37e4285c89a305959ba2cdcef86ba2166334cbc7fe020dba4900f92986f0c6f126a9037239c1281a2d86bf5eb69249d7c1599b05354a2e6ba11f203416aab1b061eb0a4730921bd677fedf3b7ac88ff1d12835ecd54da53bd41686875fda2f2100655af81b113fc6a0fac9b8bc249f06e44c0450ad95eaf13ba
theorem g_tf_v95 : get (after refOps V) main_call0_call0.v95
    = (w_tf_v95 : (⟨S32, .i32⟩ : BufTy).Contents (Elt Ideal)) :=
  val_binary 153 V (a := main_call0_call0.v88) (b := main_call0_call0.v94) (y := main_call0_call0.v95) (f := addi) rfl (by decide +kernel) (g_tf_v88 V) (g_tf_v94 V) (vec_ext (by decide +kernel))

theorem g_tf_c_24 : get (after refOps V) main_call0_call0.c_24
    = ((constantI S_ 32 6#32) : (⟨S_, .i32⟩ : BufTy).Contents (Elt Ideal)) :=
  val_nullary 154 V (y := main_call0_call0.c_24) (f := (constantI S_ 32 6#32)) rfl (by decide +kernel) rfl

theorem g_tf_v96 : get (after refOps V) main_call0_call0.v96
    = (((broadcastInDim S32 ![] bcast_S_S32) (constantI S_ 32 6#32)) : (⟨S32, .i32⟩ : BufTy).Contents (Elt Ideal)) :=
  val_unary 155 V (a := main_call0_call0.c_24) (y := main_call0_call0.v96) (f := (broadcastInDim S32 ![] bcast_S_S32)) rfl (by decide +kernel) (g_tf_c_24 V) rfl

theorem g_tf_v97 : get (after refOps V) main_call0_call0.v97
    = ((Host.shli w_tf_v94 ((broadcastInDim S32 ![] bcast_S_S32) (constantI S_ 32 6#32))) : (⟨S32, .i32⟩ : BufTy).Contents (Elt Ideal)) :=
  val_binary 156 V (a := main_call0_call0.v94) (b := main_call0_call0.v96) (y := main_call0_call0.v97) (f := Host.shli) rfl (by decide +kernel) (g_tf_v94 V) (g_tf_v96 V) rfl

theorem g_tf_c_25 : get (after refOps V) main_call0_call0.c_25
    = ((constantI S_ 32 26#32) : (⟨S_, .i32⟩ : BufTy).Contents (Elt Ideal)) :=
  val_nullary 157 V (y := main_call0_call0.c_25) (f := (constantI S_ 32 26#32)) rfl (by decide +kernel) rfl

theorem g_tf_v98 : get (after refOps V) main_call0_call0.v98
    = (((broadcastInDim S32 ![] bcast_S_S32) (constantI S_ 32 26#32)) : (⟨S32, .i32⟩ : BufTy).Contents (Elt Ideal)) :=
  val_unary 158 V (a := main_call0_call0.c_25) (y := main_call0_call0.v98) (f := (broadcastInDim S32 ![] bcast_S_S32)) rfl (by decide +kernel) (g_tf_c_25 V) rfl

theorem g_tf_v99 : get (after refOps V) main_call0_call0.v99
    = ((Host.shrui w_tf_v94 ((broadcastInDim S32 ![] bcast_S_S32) (constantI S_ 32 26#32))) : (⟨S32, .i32⟩ : BufTy).Contents (Elt Ideal)) :=
  val_binary 159 V (a := main_call0_call0.v94) (b := main_call0_call0.v98) (y := main_call0_call0.v99) (f := Host.shrui) rfl (by decide +kernel) (g_tf_v94 V) (g_tf_v98 V) rfl

theorem g_tf_v100 : get (after refOps V) main_call0_call0.v100
    = ((ori (Host.shli w_tf_v94 ((broadcastInDim S32 ![] bcast_S_S32) (constantI S_ 32 6#32))) (Host.shrui w_tf_v94 ((broadcastInDim S32 ![] bcast_S_S32) (constantI S_ 32 26#32)))) : (⟨S32, .i32⟩ : BufTy).Contents (Elt Ideal)) :=
  val_binary 160 V (a := main_call0_call0.v97) (b := main_call0_call0.v99) (y := main_call0_call0.v100) (f := ori) rfl (by decide +kernel) (g_tf_v97 V) (g_tf_v99 V) rfl

/-- The word vector `main_call0_call0_v101`. -/
abbrev w_tf_v101 : (⟨S32, .i32⟩ : BufTy).Contents (Elt Ideal) := vec 0x364a2e09fa974e612fe276d097072f1fb1117dc6c1bff1a74dbfb389bfe5de553ca80bdd78b3efca2af3b62b7bc26af5152d07f1b538e80eac4aea2b5f77ea75db0d6a00f3a26c17c6c1a2ee50bc7d40ff82c9a999088a4975d8743b5489f1b08ef26819027ecc002fb83ed2654a52e15373a4dc1274c2f87b3bdde09b1dc86e
theorem g_tf_v101 : get (after refOps V) main_call0_call0.v101
    = (w_tf_v101 : (⟨S32, .i32⟩ : BufTy).Contents (Elt Ideal)) :=
  val_binary 161 V (a := main_call0_call0.v95) (b := main_call0_call0.v100) (y := main_call0_call0.v101) (f := xori) rfl (by decide +kernel) (g_tf_v95 V) (g_tf_v100 V) (vec_ext (by decide +kernel))

theorem g_tf_v102 : get (after refOps V) main_call0_call0.v102
    = (((broadcastInDim S32 ![] bcast_S_S32) (fun _ => 0#32 : (⟨S_, .i32⟩ : BufTy).Contents (Elt Ideal))) : (⟨S32, .i32⟩ : BufTy).Contents (Elt Ideal)) :=
  val_unary 162 V (a := main_call0.v5) (y := main_call0_call0.v102) (f := (broadcastInDim S32 ![] bcast_S_S32)) rfl (by decide +kernel) (g_un_v5 V) rfl

/-- The word vector `main_call0_call0_v103`. -/
abbrev w_tf_v103 : (⟨S32, .i32⟩ : BufTy).Contents (Elt Ideal) := vec 0xc3bbb8b1f78fa37e4285c89a305959ba2cdcef86ba2166334cbc7fe020dba4900f92986f0c6f126a9037239c1281a2d86bf5eb69249d7c1599b05354a2e6ba11f203416aab1b061eb0a4730921bd677fedf3b7ac88ff1d12835ecd54da53bd41686875fda2f2100655af81b113fc6a0fac9b8bc249f06e44c0450ad95eaf13ba
theorem g_tf_v103 : get (after refOps V) main_call0_call0.v103
    = (w_tf_v103 : (⟨S32, .i32⟩ : BufTy).Contents (Elt Ideal)) :=
  val_binary 163 V (a := main_call0_call0.v95) (b := main_call0_call0.v102) (y := main_call0_call0.v103) (f := addi) rfl (by decide +kernel) (g_tf_v95 V) (g_tf_v102 V) (vec_ext (by decide +kernel))

theorem g_tf_v104 : get (after refOps V) main_call0_call0.v104
    = (((broadcastInDim S32 ![] bcast_S_S32) (fun _ => 42#32 : (⟨S_, .i32⟩ : BufTy).Contents (Elt Ideal))) : (⟨S32, .i32⟩ : BufTy).Contents (Elt Ideal)) :=
  val_unary 164 V (a := main_call0.v7) (y := main_call0_call0.v104) (f := (broadcastInDim S32 ![] bcast_S_S32)) rfl (by decide +kernel) (g_un_v7 V) rfl

/-- The word vector `main_call0_call0_v105`. -/
abbrev w_tf_v105 : (⟨S32, .i32⟩ : BufTy).Contents (Elt Ideal) := vec 0x364a2e33fa974e8b2fe276fa97072f49b1117df0c1bff1d14dbfb3b3bfe5de7f3ca80c0778b3eff42af3b6557bc26b1f152d081bb538e838ac4aea555f77ea9fdb0d6a2af3a26c41c6c1a31850bc7d6aff82c9d399088a7375d874655489f1da8ef26843027ecc2a2fb83efc654a530b5373a5061274c3227b3bde0a9b1dc898
theorem g_tf_v105 : get (after refOps V) main_call0_call0.v105
    = (w_tf_v105 : (⟨S32, .i32⟩ : BufTy).Contents (Elt Ideal)) :=
  val_binary 165 V (a := main_call0_call0.v101) (b := main_call0_call0.v104) (y := main_call0_call0.v105) (f := addi) rfl (by decide +kernel) (g_tf_v101 V) (g_tf_v104 V) (vec_ext (by decide +kernel))

theorem g_tf_c_26 : get (after refOps V) main_call0_call0.c_26
    = ((constantI S_ 32 3#32) : (⟨S_, .i32⟩ : BufTy).Contents (Elt Ideal)) :=
  val_nullary 166 V (y := main_call0_call0.c_26) (f := (constantI S_ 32 3#32)) rfl (by decide +kernel) rfl

theorem g_tf_v106 : get (after refOps V) main_call0_call0.v106
    = (((broadcastInDim S32 ![] bcast_S_S32) (constantI S_ 32 3#32)) : (⟨S32, .i32⟩ : BufTy).Contents (Elt Ideal)) :=
  val_unary 167 V (a := main_call0_call0.c_26) (y := main_call0_call0.v106) (f := (broadcastInDim S32 ![] bcast_S_S32)) rfl (by decide +kernel) (g_tf_c_26 V) rfl

/-- The word vector `main_call0_call0_v107`. -/
abbrev w_tf_v107 : (⟨S32, .i32⟩ : BufTy).Contents (Elt Ideal) := vec 0x364a2e36fa974e8e2fe276fd97072f4cb1117df3c1bff1d44dbfb3b6bfe5de823ca80c0a78b3eff72af3b6587bc26b22152d081eb538e83bac4aea585f77eaa2db0d6a2df3a26c44c6c1a31b50bc7d6dff82c9d699088a7675d874685489f1dd8ef26846027ecc2d2fb83eff654a530e5373a5091274c3257b3bde0d9b1dc89b
theorem g_tf_v107 : get (after refOps V) main_call0_call0.v107
    = (w_tf_v107 : (⟨S32, .i32⟩ : BufTy).Contents (Elt Ideal)) :=
  val_binary 168 V (a := main_call0_call0.v105) (b := main_call0_call0.v106) (y := main_call0_call0.v107) (f := addi) rfl (by decide +kernel) (g_tf_v105 V) (g_tf_v106 V) (vec_ext (by decide +kernel))

/-- The word vector `main_call0_call0_v108`. -/
abbrev w_tf_v108 : (⟨S32, .i32⟩ : BufTy).Contents (Elt Ideal) := vec 0xfa05e6e7f226f20c72683f97c7608906ddee6d797be158079a7c3396e0c183124c3aa47985230261bb2ad9f48e440dfa8122f387d9d6645045fb3dac025ea4b3cd10ab979ebd7262776616247279e4eced7681822207a788f93741bc2eddaf1ef75ade43a570dc338567c0b07946bd1d000f30cb5c6531693b80e8e6f9ccdc55
theorem g_tf_v108 : get (after refOps V) main_call0_call0.v108
    = (w_tf_v108 : (⟨S32, .i32⟩ : BufTy).Contents (Elt Ideal)) :=
  val_binary 169 V (a := main_call0_call0.v103) (b := main_call0_call0.v107) (y := main_call0_call0.v108) (f := addi) rfl (by decide +kernel) (g_tf_v103 V) (g_tf_v107 V) (vec_ext (by decide +kernel))

theorem g_tf_c_27 : get (after refOps V) main_call0_call0.c_27
    = ((constantI S_ 32 17#32) : (⟨S_, .i32⟩ : BufTy).Contents (Elt Ideal)) :=
  val_nullary 170 V (y := main_call0_call0.c_27) (f := (constantI S_ 32 17#32)) rfl (by decide +kernel) rfl

theorem g_tf_v109 : get (after refOps V) main_call0_call0.v109
    = (((broadcastInDim S32 ![] bcast_S_S32) (constantI S_ 32 17#32)) : (⟨S32, .i32⟩ : BufTy).Contents (Elt Ideal)) :=
  val_unary 171 V (a := main_call0_call0.c_27) (y := main_call0_call0.v109) (f := (broadcastInDim S32 ![] bcast_S_S32)) rfl (by decide +kernel) (g_tf_c_27 V) rfl

theorem g_tf_v110 : get (after refOps V) main_call0_call0.v110
    = ((Host.shli w_tf_v107 ((broadcastInDim S32 ![] bcast_S_S32) (constantI S_ 32 17#32))) : (⟨S32, .i32⟩ : BufTy).Contents (Elt Ideal)) :=
  val_binary 172 V (a := main_call0_call0.v107) (b := main_call0_call0.v109) (y := main_call0_call0.v110) (f := Host.shli) rfl (by decide +kernel) (g_tf_v107 V) (g_tf_v109 V) rfl

theorem g_tf_c_28 : get (after refOps V) main_call0_call0.c_28
    = ((constantI S_ 32 15#32) : (⟨S_, .i32⟩ : BufTy).Contents (Elt Ideal)) :=
  val_nullary 173 V (y := main_call0_call0.c_28) (f := (constantI S_ 32 15#32)) rfl (by decide +kernel) rfl

theorem g_tf_v111 : get (after refOps V) main_call0_call0.v111
    = (((broadcastInDim S32 ![] bcast_S_S32) (constantI S_ 32 15#32)) : (⟨S32, .i32⟩ : BufTy).Contents (Elt Ideal)) :=
  val_unary 174 V (a := main_call0_call0.c_28) (y := main_call0_call0.v111) (f := (broadcastInDim S32 ![] bcast_S_S32)) rfl (by decide +kernel) (g_tf_c_28 V) rfl

theorem g_tf_v112 : get (after refOps V) main_call0_call0.v112
    = ((Host.shrui w_tf_v107 ((broadcastInDim S32 ![] bcast_S_S32) (constantI S_ 32 15#32))) : (⟨S32, .i32⟩ : BufTy).Contents (Elt Ideal)) :=
  val_binary 175 V (a := main_call0_call0.v107) (b := main_call0_call0.v111) (y := main_call0_call0.v112) (f := Host.shrui) rfl (by decide +kernel) (g_tf_v107 V) (g_tf_v111 V) rfl

theorem g_tf_v113 : get (after refOps V) main_call0_call0.v113
    = ((ori (Host.shli w_tf_v107 ((broadcastInDim S32 ![] bcast_S_S32) (constantI S_ 32 17#32))) (Host.shrui w_tf_v107 ((broadcastInDim S32 ![] bcast_S_S32) (constantI S_ 32 15#32)))) : (⟨S32, .i32⟩ : BufTy).Contents (Elt Ideal)) :=
  val_binary 176 V (a := main_call0_call0.v110) (b := main_call0_call0.v112) (y := main_call0_call0.v113) (f := ori) rfl (by decide +kernel) (g_tf_v110 V) (g_tf_v112 V) rfl

/-- The word vector `main_call0_call0_v114`. -/
abbrev w_tf_v114 : (⟨S32, .i32⟩ : BufTy).Contents (Elt Ideal) := vec 0xa6698a736f3b07229f92605399f9a70826090f5b9848db78fd10a8e95dc4fcd9542edd295acdf306d79a8c135800fa7e911ed9dd09a10e21914a6539d71a1a5c194b1d8d4634952631519ba788a345947edb7e8736ea959911e7aa0ccd67060d27d7c3a73d2ad8cef8999fc0df5a77894a1d962cda2f1580879a1e9168fbea6e
theorem g_tf_v114 : get (after refOps V) main_call0_call0.v114
    = (w_tf_v114 : (⟨S32, .i32⟩ : BufTy).Contents (Elt Ideal)) :=
  val_binary 177 V (a := main_call0_call0.v108) (b := main_call0_call0.v113) (y := main_call0_call0.v114) (f := xori) rfl (by decide +kernel) (g_tf_v108 V) (g_tf_v113 V) (vec_ext (by decide +kernel))

/-- The word vector `main_call0_call0_v115`. -/
abbrev w_tf_v115 : (⟨S32, .i32⟩ : BufTy).Contents (Elt Ideal) := vec 0xa06f715a6161f92e11fa9fea615a300e03f77cd4142a337f978cdc7f3e867feba06981a2dff0f56792c56607e64508781241cd64e3777271d745a2e5d978bf0fe65bc924e4f20788a8b7b1cbfb1d2a806c52000958f23d210b1eebc8fc44b52b1f32a1eae29bb5017e01607058a134a64a2cc6f7369446e9c31b077762c8c6c3
theorem g_tf_v115 : get (after refOps V) main_call0_call0.v115
    = (w_tf_v115 : (⟨S32, .i32⟩ : BufTy).Contents (Elt Ideal)) :=
  val_binary 178 V (a := main_call0_call0.v108) (b := main_call0_call0.v114) (y := main_call0_call0.v115) (f := addi) rfl (by decide +kernel) (g_tf_v108 V) (g_tf_v114 V) (vec_ext (by decide +kernel))

theorem g_tf_c_29 : get (after refOps V) main_call0_call0.c_29
    = ((constantI S_ 32 29#32) : (⟨S_, .i32⟩ : BufTy).Contents (Elt Ideal)) :=
  val_nullary 179 V (y := main_call0_call0.c_29) (f := (constantI S_ 32 29#32)) rfl (by decide +kernel) rfl

theorem g_tf_v116 : get (after refOps V) main_call0_call0.v116
    = (((broadcastInDim S32 ![] bcast_S_S32) (constantI S_ 32 29#32)) : (⟨S32, .i32⟩ : BufTy).Contents (Elt Ideal)) :=
  val_unary 180 V (a := main_call0_call0.c_29) (y := main_call0_call0.v116) (f := (broadcastInDim S32 ![] bcast_S_S32)) rfl (by decide +kernel) (g_tf_c_29 V) rfl

theorem g_tf_v117 : get (after refOps V) main_call0_call0.v117
    = ((Host.shli w_tf_v114 ((broadcastInDim S32 ![] bcast_S_S32) (constantI S_ 32 29#32))) : (⟨S32, .i32⟩ : BufTy).Contents (Elt Ideal)) :=
  val_binary 181 V (a := main_call0_call0.v114) (b := main_call0_call0.v116) (y := main_call0_call0.v117) (f := Host.shli) rfl (by decide +kernel) (g_tf_v114 V) (g_tf_v116 V) rfl

theorem g_tf_c_30 : get (after refOps V) main_call0_call0.c_30
    = ((constantI S_ 32 3#32) : (⟨S_, .i32⟩ : BufTy).Contents (Elt Ideal)) :=
  val_nullary 182 V (y := main_call0_call0.c_30) (f := (constantI S_ 32 3#32)) rfl (by decide +kernel) rfl

theorem g_tf_v118 : get (after refOps V) main_call0_call0.v118
    = (((broadcastInDim S32 ![] bcast_S_S32) (constantI S_ 32 3#32)) : (⟨S32, .i32⟩ : BufTy).Contents (Elt Ideal)) :=
  val_unary 183 V (a := main_call0_call0.c_30) (y := main_call0_call0.v118) (f := (broadcastInDim S32 ![] bcast_S_S32)) rfl (by decide +kernel) (g_tf_c_30 V) rfl

theorem g_tf_v119 : get (after refOps V) main_call0_call0.v119
    = ((Host.shrui w_tf_v114 ((broadcastInDim S32 ![] bcast_S_S32) (constantI S_ 32 3#32))) : (⟨S32, .i32⟩ : BufTy).Contents (Elt Ideal)) :=
  val_binary 184 V (a := main_call0_call0.v114) (b := main_call0_call0.v118) (y := main_call0_call0.v119) (f := Host.shrui) rfl (by decide +kernel) (g_tf_v114 V) (g_tf_v118 V) rfl

theorem g_tf_v120 : get (after refOps V) main_call0_call0.v120
    = ((ori (Host.shli w_tf_v114 ((broadcastInDim S32 ![] bcast_S_S32) (constantI S_ 32 29#32))) (Host.shrui w_tf_v114 ((broadcastInDim S32 ![] bcast_S_S32) (constantI S_ 32 3#32)))) : (⟨S32, .i32⟩ : BufTy).Contents (Elt Ideal)) :=
  val_binary 185 V (a := main_call0_call0.v117) (b := main_call0_call0.v119) (y := main_call0_call0.v120) (f := ori) rfl (by decide +kernel) (g_tf_v117 V) (g_tf_v119 V) rfl

/-- The word vector `main_call0_call0_v121`. -/
abbrev w_tf_v121 : (⟨S32, .i32⟩ : BufTy).Contents (Elt Ideal) := vec 0xd4a240142c8699ca6208d3e0726504ef67365d3f07232810a82ec962153ee0708aec5a0714a94b07e83637852d451737a062165fc24353b5e56cee42439bfc444572aa952c34952c4e9d82bf6a09423283896fd97e2f6f9289221e8945e855eafbc8599e253eee1861125388634a7a57c36f74322dd1a459f3e844a5afd7bb8e
theorem g_tf_v121 : get (after refOps V) main_call0_call0.v121
    = (w_tf_v121 : (⟨S32, .i32⟩ : BufTy).Contents (Elt Ideal)) :=
  val_binary 186 V (a := main_call0_call0.v115) (b := main_call0_call0.v120) (y := main_call0_call0.v121) (f := xori) rfl (by decide +kernel) (g_tf_v115 V) (g_tf_v120 V) (vec_ext (by decide +kernel))

/-- The word vector `main_call0_call0_v122`. -/
abbrev w_tf_v122 : (⟨S32, .i32⟩ : BufTy).Contents (Elt Ideal) := vec 0x7511b16e8de892f8740373cad3bf34fd6b2dda131b4d5b8f3fbba5e153c5605b2b55dba9f49a406e7afb9d8c138a1fafb2a3e3c3a5bac626bcb291271d14bb532bce73b911269cb4f755348a65266cb2efdb6fe2d721acb394410a51422d0b151afafb8807daa319df13b3f8bbebaefd0d9c3b296465eb42b7034c1c12a08251
theorem g_tf_v122 : get (after refOps V) main_call0_call0.v122
    = (w_tf_v122 : (⟨S32, .i32⟩ : BufTy).Contents (Elt Ideal)) :=
  val_binary 187 V (a := main_call0_call0.v115) (b := main_call0_call0.v121) (y := main_call0_call0.v122) (f := addi) rfl (by decide +kernel) (g_tf_v115 V) (g_tf_v121 V) (vec_ext (by decide +kernel))

theorem g_tf_c_31 : get (after refOps V) main_call0_call0.c_31
    = ((constantI S_ 32 16#32) : (⟨S_, .i32⟩ : BufTy).Contents (Elt Ideal)) :=
  val_nullary 188 V (y := main_call0_call0.c_31) (f := (constantI S_ 32 16#32)) rfl (by decide +kernel) rfl

theorem g_tf_v123 : get (after refOps V) main_call0_call0.v123
    = (((broadcastInDim S32 ![] bcast_S_S32) (constantI S_ 32 16#32)) : (⟨S32, .i32⟩ : BufTy).Contents (Elt Ideal)) :=
  val_unary 189 V (a := main_call0_call0.c_31) (y := main_call0_call0.v123) (f := (broadcastInDim S32 ![] bcast_S_S32)) rfl (by decide +kernel) (g_tf_c_31 V) rfl

theorem g_tf_v124 : get (after refOps V) main_call0_call0.v124
    = ((Host.shli w_tf_v121 ((broadcastInDim S32 ![] bcast_S_S32) (constantI S_ 32 16#32))) : (⟨S32, .i32⟩ : BufTy).Contents (Elt Ideal)) :=
  val_binary 190 V (a := main_call0_call0.v121) (b := main_call0_call0.v123) (y := main_call0_call0.v124) (f := Host.shli) rfl (by decide +kernel) (g_tf_v121 V) (g_tf_v123 V) rfl

theorem g_tf_c_32 : get (after refOps V) main_call0_call0.c_32
    = ((constantI S_ 32 16#32) : (⟨S_, .i32⟩ : BufTy).Contents (Elt Ideal)) :=
  val_nullary 191 V (y := main_call0_call0.c_32) (f := (constantI S_ 32 16#32)) rfl (by decide +kernel) rfl

theorem g_tf_v125 : get (after refOps V) main_call0_call0.v125
    = (((broadcastInDim S32 ![] bcast_S_S32) (constantI S_ 32 16#32)) : (⟨S32, .i32⟩ : BufTy).Contents (Elt Ideal)) :=
  val_unary 192 V (a := main_call0_call0.c_32) (y := main_call0_call0.v125) (f := (broadcastInDim S32 ![] bcast_S_S32)) rfl (by decide +kernel) (g_tf_c_32 V) rfl

theorem g_tf_v126 : get (after refOps V) main_call0_call0.v126
    = ((Host.shrui w_tf_v121 ((broadcastInDim S32 ![] bcast_S_S32) (constantI S_ 32 16#32))) : (⟨S32, .i32⟩ : BufTy).Contents (Elt Ideal)) :=
  val_binary 193 V (a := main_call0_call0.v121) (b := main_call0_call0.v125) (y := main_call0_call0.v126) (f := Host.shrui) rfl (by decide +kernel) (g_tf_v121 V) (g_tf_v125 V) rfl

theorem g_tf_v127 : get (after refOps V) main_call0_call0.v127
    = ((ori (Host.shli w_tf_v121 ((broadcastInDim S32 ![] bcast_S_S32) (constantI S_ 32 16#32))) (Host.shrui w_tf_v121 ((broadcastInDim S32 ![] bcast_S_S32) (constantI S_ 32 16#32)))) : (⟨S32, .i32⟩ : BufTy).Contents (Elt Ideal)) :=
  val_binary 194 V (a := main_call0_call0.v124) (b := main_call0_call0.v126) (y := main_call0_call0.v127) (f := ori) rfl (by decide +kernel) (g_tf_v124 V) (g_tf_v126 V) rfl

/-- The word vector `main_call0_call0_v128`. -/
abbrev w_tf_v128 : (⟨S32, .i32⟩ : BufTy).Contents (Elt Ideal) := vec 0x350565cc1422be7ea7e311c2d75046983612bd25335d5cacf6d90dcfb3b5756571525145bf9d54c74d7e75ba04bd32eaa4fc43a1f60f046552f0744be150f8c8815b36cb840ab08075ea7a17271406bb8002ec6bb8b3d29c8ac8837317c74efd43640040e9c286278c9bd2eac1bccdb779aef846c03cc693f3a6bff4a92e2d86
theorem g_tf_v128 : get (after refOps V) main_call0_call0.v128
    = (w_tf_v128 : (⟨S32, .i32⟩ : BufTy).Contents (Elt Ideal)) :=
  val_binary 195 V (a := main_call0_call0.v122) (b := main_call0_call0.v127) (y := main_call0_call0.v128) (f := xori) rfl (by decide +kernel) (g_tf_v122 V) (g_tf_v127 V) (vec_ext (by decide +kernel))

/-- The word vector `main_call0_call0_v129`. -/
abbrev w_tf_v129 : (⟨S32, .i32⟩ : BufTy).Contents (Elt Ideal) := vec 0xaa17173aa20b51761be6858cab0f7b95a14097384eaab83b3694b3b0077ad5c09ca82ceeb4379535c87a13461847529957a027649bc9ca8b0fa30572fe65b41bad29aa8495314d346d3faea18c3a736d6fde5c4d8fd57f4f1f098dc459f45a125e5efbc8f19d29406baf86e27da87cb4874b336f24a2b1d5aaaa0c10bbceafd7
theorem g_tf_v129 : get (after refOps V) main_call0_call0.v129
    = (w_tf_v129 : (⟨S32, .i32⟩ : BufTy).Contents (Elt Ideal)) :=
  val_binary 196 V (a := main_call0_call0.v122) (b := main_call0_call0.v128) (y := main_call0_call0.v129) (f := addi) rfl (by decide +kernel) (g_tf_v122 V) (g_tf_v128 V) (vec_ext (by decide +kernel))

theorem g_tf_c_33 : get (after refOps V) main_call0_call0.c_33
    = ((constantI S_ 32 24#32) : (⟨S_, .i32⟩ : BufTy).Contents (Elt Ideal)) :=
  val_nullary 197 V (y := main_call0_call0.c_33) (f := (constantI S_ 32 24#32)) rfl (by decide +kernel) rfl

theorem g_tf_v130 : get (after refOps V) main_call0_call0.v130
    = (((broadcastInDim S32 ![] bcast_S_S32) (constantI S_ 32 24#32)) : (⟨S32, .i32⟩ : BufTy).Contents (Elt Ideal)) :=
  val_unary 198 V (a := main_call0_call0.c_33) (y := main_call0_call0.v130) (f := (broadcastInDim S32 ![] bcast_S_S32)) rfl (by decide +kernel) (g_tf_c_33 V) rfl

theorem g_tf_v131 : get (after refOps V) main_call0_call0.v131
    = ((Host.shli w_tf_v128 ((broadcastInDim S32 ![] bcast_S_S32) (constantI S_ 32 24#32))) : (⟨S32, .i32⟩ : BufTy).Contents (Elt Ideal)) :=
  val_binary 199 V (a := main_call0_call0.v128) (b := main_call0_call0.v130) (y := main_call0_call0.v131) (f := Host.shli) rfl (by decide +kernel) (g_tf_v128 V) (g_tf_v130 V) rfl

theorem g_tf_c_34 : get (after refOps V) main_call0_call0.c_34
    = ((constantI S_ 32 8#32) : (⟨S_, .i32⟩ : BufTy).Contents (Elt Ideal)) :=
  val_nullary 200 V (y := main_call0_call0.c_34) (f := (constantI S_ 32 8#32)) rfl (by decide +kernel) rfl

theorem g_tf_v132 : get (after refOps V) main_call0_call0.v132
    = (((broadcastInDim S32 ![] bcast_S_S32) (constantI S_ 32 8#32)) : (⟨S32, .i32⟩ : BufTy).Contents (Elt Ideal)) :=
  val_unary 201 V (a := main_call0_call0.c_34) (y := main_call0_call0.v132) (f := (broadcastInDim S32 ![] bcast_S_S32)) rfl (by decide +kernel) (g_tf_c_34 V) rfl

theorem g_tf_v133 : get (after refOps V) main_call0_call0.v133
    = ((Host.shrui w_tf_v128 ((broadcastInDim S32 ![] bcast_S_S32) (constantI S_ 32 8#32))) : (⟨S32, .i32⟩ : BufTy).Contents (Elt Ideal)) :=
  val_binary 202 V (a := main_call0_call0.v128) (b := main_call0_call0.v132) (y := main_call0_call0.v133) (f := Host.shrui) rfl (by decide +kernel) (g_tf_v128 V) (g_tf_v132 V) rfl

theorem g_tf_v134 : get (after refOps V) main_call0_call0.v134
    = ((ori (Host.shli w_tf_v128 ((broadcastInDim S32 ![] bcast_S_S32) (constantI S_ 32 24#32))) (Host.shrui w_tf_v128 ((broadcastInDim S32 ![] bcast_S_S32) (constantI S_ 32 8#32)))) : (⟨S32, .i32⟩ : BufTy).Contents (Elt Ideal)) :=
  val_binary 203 V (a := main_call0_call0.v131) (b := main_call0_call0.v133) (y := main_call0_call0.v134) (f := ori) rfl (by decide +kernel) (g_tf_v131 V) (g_tf_v133 V) rfl

/-- The word vector `main_call0_call0_v135`. -/
abbrev w_tf_v135 : (⟨S32, .i32⟩ : BufTy).Contents (Elt Ideal) := vec 0x6622125fdc1f73c8d941669d33d82bd384768585e299e567f9626abd62c960b5d9d97ebf7388086172376d33f243efabf604db27fe3fc58f44f1f5063684e4e366a8f1b215b547847a4a44db371d676b045e5ea1136dcc9d6c834547a4e39d5c1e1d9fc8d674ebc681231d30ca69c079c1329d97b7628d135e59aaaf3d6781fa
theorem g_tf_v135 : get (after refOps V) main_call0_call0.v135
    = (w_tf_v135 : (⟨S32, .i32⟩ : BufTy).Contents (Elt Ideal)) :=
  val_binary 204 V (a := main_call0_call0.v129) (b := main_call0_call0.v134) (y := main_call0_call0.v135) (f := xori) rfl (by decide +kernel) (g_tf_v129 V) (g_tf_v134 V) (vec_ext (by decide +kernel))

theorem g_tf_v136 : get (after refOps V) main_call0_call0.v136
    = (((broadcastInDim S32 ![] bcast_S_S32) (fun _ => 42#32 : (⟨S_, .i32⟩ : BufTy).Contents (Elt Ideal))) : (⟨S32, .i32⟩ : BufTy).Contents (Elt Ideal)) :=
  val_unary 205 V (a := main_call0.v7) (y := main_call0_call0.v136) (f := (broadcastInDim S32 ![] bcast_S_S32)) rfl (by decide +kernel) (g_un_v7 V) rfl

/-- The word vector `main_call0_call0_v137`. -/
abbrev w_tf_v137 : (⟨S32, .i32⟩ : BufTy).Contents (Elt Ideal) := vec 0xaa171764a20b51a01be685b6ab0f7bbfa14097624eaab8653694b3da077ad5ea9ca82d18b437955fc87a1370184752c357a0278e9bc9cab50fa3059cfe65b445ad29aaae95314d5e6d3faecb8c3a73976fde5c778fd57f791f098dee59f45a3c5e5efbf2f19d296a6baf870c7da87cde874b339924a2b1ffaaaa0c3abbceb001
theorem g_tf_v137 : get (after refOps V) main_call0_call0.v137
    = (w_tf_v137 : (⟨S32, .i32⟩ : BufTy).Contents (Elt Ideal)) :=
  val_binary 206 V (a := main_call0_call0.v129) (b := main_call0_call0.v136) (y := main_call0_call0.v137) (f := addi) rfl (by decide +kernel) (g_tf_v129 V) (g_tf_v136 V) (vec_ext (by decide +kernel))

theorem g_tf_v138 : get (after refOps V) main_call0_call0.v138
    = (((broadcastInDim S32 ![] bcast_S_S32) (fun _ => 466689008#32 : (⟨S_, .i32⟩ : BufTy).Contents (Elt Ideal))) : (⟨S32, .i32⟩ : BufTy).Contents (Elt Ideal)) :=
  val_unary 207 V (a := main_call0_call0.v1) (y := main_call0_call0.v138) (f := (broadcastInDim S32 ![] bcast_S_S32)) rfl (by decide +kernel) (g_tf_v1 V) rfl

/-- The word vector `main_call0_call0_v139`. -/
abbrev w_tf_v139 : (⟨S32, .i32⟩ : BufTy).Contents (Elt Ideal) := vec 0x81f32e4ff7f08fb8f512828d4fa947c3a047a175fe6b0157153386ad7e9a7ca5f5aa9aaf8f5924518e0889230e150b9b11d5f7171a10e17f60c310f6525600d3827a0da231866374961b60cb52ee835b202f7a912f3ee88d88546137c0b4b94c39eebbb8f24607b69cf43920e63adc69dd03b987d333a9037a2ac69f59389dea
theorem g_tf_v139 : get (after refOps V) main_call0_call0.v139
    = (w_tf_v139 : (⟨S32, .i32⟩ : BufTy).Contents (Elt Ideal)) :=
  val_binary 208 V (a := main_call0_call0.v135) (b := main_call0_call0.v138) (y := main_call0_call0.v139) (f := addi) rfl (by decide +kernel) (g_tf_v135 V) (g_tf_v138 V) (vec_ext (by decide +kernel))

theorem g_tf_c_35 : get (after refOps V) main_call0_call0.c_35
    = ((constantI S_ 32 4#32) : (⟨S_, .i32⟩ : BufTy).Contents (Elt Ideal)) :=
  val_nullary 209 V (y := main_call0_call0.c_35) (f := (constantI S_ 32 4#32)) rfl (by decide +kernel) rfl

theorem g_tf_v140 : get (after refOps V) main_call0_call0.v140
    = (((broadcastInDim S32 ![] bcast_S_S32) (constantI S_ 32 4#32)) : (⟨S32, .i32⟩ : BufTy).Contents (Elt Ideal)) :=
  val_unary 210 V (a := main_call0_call0.c_35) (y := main_call0_call0.v140) (f := (broadcastInDim S32 ![] bcast_S_S32)) rfl (by decide +kernel) (g_tf_c_35 V) rfl

/-- The word vector `main_call0_call0_v141`. -/
abbrev w_tf_v141 : (⟨S32, .i32⟩ : BufTy).Contents (Elt Ideal) := vec 0x81f32e53f7f08fbcf51282914fa947c7a047a179fe6b015b153386b17e9a7ca9f5aa9ab38f5924558e0889270e150b9f11d5f71b1a10e18360c310fa525600d7827a0da631866378961b60cf52ee835f202f7a952f3ee8918854613bc0b4b95039eebbbcf24607ba9cf43924e63adc6ddd03b98bd333a9077a2ac6a359389dee
theorem g_tf_v141 : get (after refOps V) main_call0_call0.v141
    = (w_tf_v141 : (⟨S32, .i32⟩ : BufTy).Contents (Elt Ideal)) :=
  val_binary 211 V (a := main_call0_call0.v139) (b := main_call0_call0.v140) (y := main_call0_call0.v141) (f := addi) rfl (by decide +kernel) (g_tf_v139 V) (g_tf_v140 V) (vec_ext (by decide +kernel))

/-- The word vector `main_call0_call0_v142`. -/
abbrev w_tf_v142 : (⟨S32, .i32⟩ : BufTy).Contents (Elt Ideal) := vec 0x2c0a45b799fbe15c10f90847fab8c386418838db4d15b9c04bc83a8b861552939252c7cb4390b9b456829c97265c5e6269761ea9b5daac387066169650bbb51c2fa3b854c6b7b0d6035b0f9adf28f6f6900dd70cbf14680aa75def291aa9138c984db7aee3e3312408a3c03063e3594b644eed24f7d65b0624d4d2dd15074def
theorem g_tf_v142 : get (after refOps V) main_call0_call0.v142
    = (w_tf_v142 : (⟨S32, .i32⟩ : BufTy).Contents (Elt Ideal)) :=
  val_binary 212 V (a := main_call0_call0.v137) (b := main_call0_call0.v141) (y := main_call0_call0.v142) (f := addi) rfl (by decide +kernel) (g_tf_v137 V) (g_tf_v141 V) (vec_ext (by decide +kernel))

end Cert.Proof.Ref

end

end
-- ==== Proof.RefMixD.lean ====
/-
  The last rounds of the generator, as words.
-/
module

public import proofs.«01_k».proof.Proof.RefMixC

@[expose] public section

noncomputable section

namespace Cert.Proof.Ref

open Cert.ReferenceIdeal
open Cert.ReferenceIdeal.Facts₀ Cert.ReferenceIdeal.Facts
open Idealize.ShloMosaic Idealize.ShloMosaic.StableHlo Idealize.SL.Sem

set_option maxRecDepth 100000

variable (V : Valuation τ sig (Elt Ideal))

theorem g_tf_c_36 : get (after refOps V) main_call0_call0.c_36
    = ((constantI S_ 32 13#32) : (⟨S_, .i32⟩ : BufTy).Contents (Elt Ideal)) :=
  val_nullary 213 V (y := main_call0_call0.c_36) (f := (constantI S_ 32 13#32)) rfl (by decide +kernel) rfl

theorem g_tf_v143 : get (after refOps V) main_call0_call0.v143
    = (((broadcastInDim S32 ![] bcast_S_S32) (constantI S_ 32 13#32)) : (⟨S32, .i32⟩ : BufTy).Contents (Elt Ideal)) :=
  val_unary 214 V (a := main_call0_call0.c_36) (y := main_call0_call0.v143) (f := (broadcastInDim S32 ![] bcast_S_S32)) rfl (by decide +kernel) (g_tf_c_36 V) rfl

theorem g_tf_v144 : get (after refOps V) main_call0_call0.v144
    = ((Host.shli w_tf_v141 ((broadcastInDim S32 ![] bcast_S_S32) (constantI S_ 32 13#32))) : (⟨S32, .i32⟩ : BufTy).Contents (Elt Ideal)) :=
  val_binary 215 V (a := main_call0_call0.v141) (b := main_call0_call0.v143) (y := main_call0_call0.v144) (f := Host.shli) rfl (by decide +kernel) (g_tf_v141 V) (g_tf_v143 V) rfl

theorem g_tf_c_37 : get (after refOps V) main_call0_call0.c_37
    = ((constantI S_ 32 19#32) : (⟨S_, .i32⟩ : BufTy).Contents (Elt Ideal)) :=
  val_nullary 216 V (y := main_call0_call0.c_37) (f := (constantI S_ 32 19#32)) rfl (by decide +kernel) rfl

theorem g_tf_v145 : get (after refOps V) main_call0_call0.v145
    = (((broadcastInDim S32 ![] bcast_S_S32) (constantI S_ 32 19#32)) : (⟨S32, .i32⟩ : BufTy).Contents (Elt Ideal)) :=
  val_unary 217 V (a := main_call0_call0.c_37) (y := main_call0_call0.v145) (f := (broadcastInDim S32 ![] bcast_S_S32)) rfl (by decide +kernel) (g_tf_c_37 V) rfl

theorem g_tf_v146 : get (after refOps V) main_call0_call0.v146
    = ((Host.shrui w_tf_v141 ((broadcastInDim S32 ![] bcast_S_S32) (constantI S_ 32 19#32))) : (⟨S32, .i32⟩ : BufTy).Contents (Elt Ideal)) :=
  val_binary 218 V (a := main_call0_call0.v141) (b := main_call0_call0.v145) (y := main_call0_call0.v146) (f := Host.shrui) rfl (by decide +kernel) (g_tf_v141 V) (g_tf_v145 V) rfl

theorem g_tf_v147 : get (after refOps V) main_call0_call0.v147
    = ((ori (Host.shli w_tf_v141 ((broadcastInDim S32 ![] bcast_S_S32) (constantI S_ 32 13#32))) (Host.shrui w_tf_v141 ((broadcastInDim S32 ![] bcast_S_S32) (constantI S_ 32 19#32)))) : (⟨S32, .i32⟩ : BufTy).Contents (Elt Ideal)) :=
  val_binary 219 V (a := main_call0_call0.v144) (b := main_call0_call0.v146) (y := main_call0_call0.v147) (f := ori) rfl (by decide +kernel) (g_tf_v144 V) (g_tf_v146 V) rfl

/-- The word vector `main_call0_call0_v148`. -/
abbrev w_tf_v148 : (⟨S32, .i32⟩ : BufTy).Contents (Elt Ideal) := vec 0x49c03589880c7fa240ab36e5d2402a73b5a70cd32d3ec60d3b1e182dc9807d40c104b97e671a085f47a66d56872fbfa0d7957c93a9eacf7a12795a8e90a15f566e17681b0ad8b6e66f42fd590f431cab7f5f730962064ded2b7a9e238d830b9a4f3a309323146f6c8f8753ae386ee58c137f968482f6a1607c00bd9806ba86c8
theorem g_tf_v148 : get (after refOps V) main_call0_call0.v148
    = (w_tf_v148 : (⟨S32, .i32⟩ : BufTy).Contents (Elt Ideal)) :=
  val_binary 220 V (a := main_call0_call0.v142) (b := main_call0_call0.v147) (y := main_call0_call0.v148) (f := xori) rfl (by decide +kernel) (g_tf_v142 V) (g_tf_v147 V) (vec_ext (by decide +kernel))

/-- The word vector `main_call0_call0_v149`. -/
abbrev w_tf_v149 : (⟨S32, .i32⟩ : BufTy).Contents (Elt Ideal) := vec 0x75ca7b40220860fe51a43f2cccf8edf9f72f45ae7a547fcd86e652b84f95cfd353578149aaaac2139e2909edad8c1e02410b9b3c5fc57bb282df7124e15d14729dbb206fd19067bc729e0cf3ee6c13a10f6d4a15211ab5f7d2d88d4ca82c1f26e787e84106f7a090982b13de9c523ed777ce83a87accfc66a0d590751bc1d4b7
theorem g_tf_v149 : get (after refOps V) main_call0_call0.v149
    = (w_tf_v149 : (⟨S32, .i32⟩ : BufTy).Contents (Elt Ideal)) :=
  val_binary 221 V (a := main_call0_call0.v142) (b := main_call0_call0.v148) (y := main_call0_call0.v149) (f := addi) rfl (by decide +kernel) (g_tf_v142 V) (g_tf_v148 V) (vec_ext (by decide +kernel))

theorem g_tf_c_38 : get (after refOps V) main_call0_call0.c_38
    = ((constantI S_ 32 15#32) : (⟨S_, .i32⟩ : BufTy).Contents (Elt Ideal)) :=
  val_nullary 222 V (y := main_call0_call0.c_38) (f := (constantI S_ 32 15#32)) rfl (by decide +kernel) rfl

theorem g_tf_v150 : get (after refOps V) main_call0_call0.v150
    = (((broadcastInDim S32 ![] bcast_S_S32) (constantI S_ 32 15#32)) : (⟨S32, .i32⟩ : BufTy).Contents (Elt Ideal)) :=
  val_unary 223 V (a := main_call0_call0.c_38) (y := main_call0_call0.v150) (f := (broadcastInDim S32 ![] bcast_S_S32)) rfl (by decide +kernel) (g_tf_c_38 V) rfl

theorem g_tf_v151 : get (after refOps V) main_call0_call0.v151
    = ((Host.shli w_tf_v148 ((broadcastInDim S32 ![] bcast_S_S32) (constantI S_ 32 15#32))) : (⟨S32, .i32⟩ : BufTy).Contents (Elt Ideal)) :=
  val_binary 224 V (a := main_call0_call0.v148) (b := main_call0_call0.v150) (y := main_call0_call0.v151) (f := Host.shli) rfl (by decide +kernel) (g_tf_v148 V) (g_tf_v150 V) rfl

theorem g_tf_c_39 : get (after refOps V) main_call0_call0.c_39
    = ((constantI S_ 32 17#32) : (⟨S_, .i32⟩ : BufTy).Contents (Elt Ideal)) :=
  val_nullary 225 V (y := main_call0_call0.c_39) (f := (constantI S_ 32 17#32)) rfl (by decide +kernel) rfl

theorem g_tf_v152 : get (after refOps V) main_call0_call0.v152
    = (((broadcastInDim S32 ![] bcast_S_S32) (constantI S_ 32 17#32)) : (⟨S32, .i32⟩ : BufTy).Contents (Elt Ideal)) :=
  val_unary 226 V (a := main_call0_call0.c_39) (y := main_call0_call0.v152) (f := (broadcastInDim S32 ![] bcast_S_S32)) rfl (by decide +kernel) (g_tf_c_39 V) rfl

theorem g_tf_v153 : get (after refOps V) main_call0_call0.v153
    = ((Host.shrui w_tf_v148 ((broadcastInDim S32 ![] bcast_S_S32) (constantI S_ 32 17#32))) : (⟨S32, .i32⟩ : BufTy).Contents (Elt Ideal)) :=
  val_binary 227 V (a := main_call0_call0.v148) (b := main_call0_call0.v152) (y := main_call0_call0.v153) (f := Host.shrui) rfl (by decide +kernel) (g_tf_v148 V) (g_tf_v152 V) rfl

theorem g_tf_v154 : get (after refOps V) main_call0_call0.v154
    = ((ori (Host.shli w_tf_v148 ((broadcastInDim S32 ![] bcast_S_S32) (constantI S_ 32 15#32))) (Host.shrui w_tf_v148 ((broadcastInDim S32 ![] bcast_S_S32) (constantI S_ 32 17#32)))) : (⟨S32, .i32⟩ : BufTy).Contents (Elt Ideal)) :=
  val_binary 228 V (a := main_call0_call0.v151) (b := main_call0_call0.v153) (y := main_call0_call0.v154) (f := ori) rfl (by decide +kernel) (g_tf_v151 V) (g_tf_v153 V) rfl

/-- The word vector `main_call0_call0_v155`. -/
abbrev w_tf_v155 : (⟨S32, .i32⟩ : BufTy).Contents (Elt Ideal) := vec 0x6f0edfa01dd924f8cad69f79d9c104d971469f7d1952e9528af0cf377135ab130fe8e1cbae85719ea8822a3e725c5d95ff4270f638782f472f9878184ef65c2229b697648ae362d00c32bb5260399400b6e9f5ba07ec04f49dc918f12de159e7ffce4fdc3141b11a31fc541dee9422e0bc8c8a172a7cbd1dfe19ae7558a5d7ea
theorem g_tf_v155 : get (after refOps V) main_call0_call0.v155
    = (w_tf_v155 : (⟨S32, .i32⟩ : BufTy).Contents (Elt Ideal)) :=
  val_binary 229 V (a := main_call0_call0.v149) (b := main_call0_call0.v154) (y := main_call0_call0.v155) (f := xori) rfl (by decide +kernel) (g_tf_v149 V) (g_tf_v154 V) (vec_ext (by decide +kernel))

/-- The word vector `main_call0_call0_v156`. -/
abbrev w_tf_v156 : (⟨S32, .i32⟩ : BufTy).Contents (Elt Ideal) := vec 0xe4d95ae03fe185f61c7adea5a6b9f2d26875e52b93a7691f11d721efc0cb7ae663406314593033b146ab342b1fe87b97404e0c32983daaf9b277e93c30537094c771b7d35c73ca8c7ed0c8454ea5a7a1c6573fcf2906baeb70a1a63dd60d790de756381d383951aaca2767fb8ae661b7345b0dbfa549b9839eef3eea7467aca1
theorem g_tf_v156 : get (after refOps V) main_call0_call0.v156
    = (w_tf_v156 : (⟨S32, .i32⟩ : BufTy).Contents (Elt Ideal)) :=
  val_binary 230 V (a := main_call0_call0.v149) (b := main_call0_call0.v155) (y := main_call0_call0.v156) (f := addi) rfl (by decide +kernel) (g_tf_v149 V) (g_tf_v155 V) (vec_ext (by decide +kernel))

theorem g_tf_c_40 : get (after refOps V) main_call0_call0.c_40
    = ((constantI S_ 32 26#32) : (⟨S_, .i32⟩ : BufTy).Contents (Elt Ideal)) :=
  val_nullary 231 V (y := main_call0_call0.c_40) (f := (constantI S_ 32 26#32)) rfl (by decide +kernel) rfl

theorem g_tf_v157 : get (after refOps V) main_call0_call0.v157
    = (((broadcastInDim S32 ![] bcast_S_S32) (constantI S_ 32 26#32)) : (⟨S32, .i32⟩ : BufTy).Contents (Elt Ideal)) :=
  val_unary 232 V (a := main_call0_call0.c_40) (y := main_call0_call0.v157) (f := (broadcastInDim S32 ![] bcast_S_S32)) rfl (by decide +kernel) (g_tf_c_40 V) rfl

theorem g_tf_v158 : get (after refOps V) main_call0_call0.v158
    = ((Host.shli w_tf_v155 ((broadcastInDim S32 ![] bcast_S_S32) (constantI S_ 32 26#32))) : (⟨S32, .i32⟩ : BufTy).Contents (Elt Ideal)) :=
  val_binary 233 V (a := main_call0_call0.v155) (b := main_call0_call0.v157) (y := main_call0_call0.v158) (f := Host.shli) rfl (by decide +kernel) (g_tf_v155 V) (g_tf_v157 V) rfl

theorem g_tf_c_41 : get (after refOps V) main_call0_call0.c_41
    = ((constantI S_ 32 6#32) : (⟨S_, .i32⟩ : BufTy).Contents (Elt Ideal)) :=
  val_nullary 234 V (y := main_call0_call0.c_41) (f := (constantI S_ 32 6#32)) rfl (by decide +kernel) rfl

theorem g_tf_v159 : get (after refOps V) main_call0_call0.v159
    = (((broadcastInDim S32 ![] bcast_S_S32) (constantI S_ 32 6#32)) : (⟨S32, .i32⟩ : BufTy).Contents (Elt Ideal)) :=
  val_unary 235 V (a := main_call0_call0.c_41) (y := main_call0_call0.v159) (f := (broadcastInDim S32 ![] bcast_S_S32)) rfl (by decide +kernel) (g_tf_c_41 V) rfl

theorem g_tf_v160 : get (after refOps V) main_call0_call0.v160
    = ((Host.shrui w_tf_v155 ((broadcastInDim S32 ![] bcast_S_S32) (constantI S_ 32 6#32))) : (⟨S32, .i32⟩ : BufTy).Contents (Elt Ideal)) :=
  val_binary 236 V (a := main_call0_call0.v155) (b := main_call0_call0.v159) (y := main_call0_call0.v160) (f := Host.shrui) rfl (by decide +kernel) (g_tf_v155 V) (g_tf_v159 V) rfl

theorem g_tf_v161 : get (after refOps V) main_call0_call0.v161
    = ((ori (Host.shli w_tf_v155 ((broadcastInDim S32 ![] bcast_S_S32) (constantI S_ 32 26#32))) (Host.shrui w_tf_v155 ((broadcastInDim S32 ![] bcast_S_S32) (constantI S_ 32 6#32)))) : (⟨S32, .i32⟩ : BufTy).Contents (Elt Ideal)) :=
  val_binary 237 V (a := main_call0_call0.v158) (b := main_call0_call0.v160) (y := main_call0_call0.v161) (f := ori) rfl (by decide +kernel) (g_tf_v158 V) (g_tf_v160 V) rfl

/-- The word vector `main_call0_call0_v162`. -/
abbrev w_tf_v162 : (⟨S32, .i32⟩ : BufTy).Contents (Elt Ideal) := vec 0x6565619edf96e165fb5184d8c1def6c19db0ff56dbc222bacffce2d38d0fac4a4f7fc093238a2677bc093c834a210ae19bb305f184dc4a44d2c988dcb968a9e457d76d8e1e58470736e002a84f2541f12c8c9819f9190af8b6d6825e4abafc6a94a9012250fc576ebee096ab095c313c6aa93f97d1e04b7749175853dd053bfe
theorem g_tf_v162 : get (after refOps V) main_call0_call0.v162
    = (w_tf_v162 : (⟨S32, .i32⟩ : BufTy).Contents (Elt Ideal)) :=
  val_binary 238 V (a := main_call0_call0.v156) (b := main_call0_call0.v161) (y := main_call0_call0.v162) (f := xori) rfl (by decide +kernel) (g_tf_v156 V) (g_tf_v161 V) (vec_ext (by decide +kernel))

/-- The word vector `main_call0_call0_v163`. -/
abbrev w_tf_v163 : (⟨S32, .i32⟩ : BufTy).Contents (Elt Ideal) := vec 0x4a3ebc7e1f78675b17cc637d6898e9930626e4816f698bd9e1d404c24ddb2730b2c023a77cba5a2802b470ae6a098678dc0112231d19f53d85417218e9bc1a781f4925617acc1193b5b0caed9dcae992f2e3d7e8221fc5e32778289b20c875777bff393f8935a9188907fea6944292f39f044d56772a04fae806973d516ce89f
theorem g_tf_v163 : get (after refOps V) main_call0_call0.v163
    = (w_tf_v163 : (⟨S32, .i32⟩ : BufTy).Contents (Elt Ideal)) :=
  val_binary 239 V (a := main_call0_call0.v156) (b := main_call0_call0.v162) (y := main_call0_call0.v163) (f := addi) rfl (by decide +kernel) (g_tf_v156 V) (g_tf_v162 V) (vec_ext (by decide +kernel))

theorem g_tf_c_42 : get (after refOps V) main_call0_call0.c_42
    = ((constantI S_ 32 6#32) : (⟨S_, .i32⟩ : BufTy).Contents (Elt Ideal)) :=
  val_nullary 240 V (y := main_call0_call0.c_42) (f := (constantI S_ 32 6#32)) rfl (by decide +kernel) rfl

theorem g_tf_v164 : get (after refOps V) main_call0_call0.v164
    = (((broadcastInDim S32 ![] bcast_S_S32) (constantI S_ 32 6#32)) : (⟨S32, .i32⟩ : BufTy).Contents (Elt Ideal)) :=
  val_unary 241 V (a := main_call0_call0.c_42) (y := main_call0_call0.v164) (f := (broadcastInDim S32 ![] bcast_S_S32)) rfl (by decide +kernel) (g_tf_c_42 V) rfl

theorem g_tf_v165 : get (after refOps V) main_call0_call0.v165
    = ((Host.shli w_tf_v162 ((broadcastInDim S32 ![] bcast_S_S32) (constantI S_ 32 6#32))) : (⟨S32, .i32⟩ : BufTy).Contents (Elt Ideal)) :=
  val_binary 242 V (a := main_call0_call0.v162) (b := main_call0_call0.v164) (y := main_call0_call0.v165) (f := Host.shli) rfl (by decide +kernel) (g_tf_v162 V) (g_tf_v164 V) rfl

theorem g_tf_c_43 : get (after refOps V) main_call0_call0.c_43
    = ((constantI S_ 32 26#32) : (⟨S_, .i32⟩ : BufTy).Contents (Elt Ideal)) :=
  val_nullary 243 V (y := main_call0_call0.c_43) (f := (constantI S_ 32 26#32)) rfl (by decide +kernel) rfl

theorem g_tf_v166 : get (after refOps V) main_call0_call0.v166
    = (((broadcastInDim S32 ![] bcast_S_S32) (constantI S_ 32 26#32)) : (⟨S32, .i32⟩ : BufTy).Contents (Elt Ideal)) :=
  val_unary 244 V (a := main_call0_call0.c_43) (y := main_call0_call0.v166) (f := (broadcastInDim S32 ![] bcast_S_S32)) rfl (by decide +kernel) (g_tf_c_43 V) rfl

theorem g_tf_v167 : get (after refOps V) main_call0_call0.v167
    = ((Host.shrui w_tf_v162 ((broadcastInDim S32 ![] bcast_S_S32) (constantI S_ 32 26#32))) : (⟨S32, .i32⟩ : BufTy).Contents (Elt Ideal)) :=
  val_binary 245 V (a := main_call0_call0.v162) (b := main_call0_call0.v166) (y := main_call0_call0.v167) (f := Host.shrui) rfl (by decide +kernel) (g_tf_v162 V) (g_tf_v166 V) rfl

theorem g_tf_v168 : get (after refOps V) main_call0_call0.v168
    = ((ori (Host.shli w_tf_v162 ((broadcastInDim S32 ![] bcast_S_S32) (constantI S_ 32 6#32))) (Host.shrui w_tf_v162 ((broadcastInDim S32 ![] bcast_S_S32) (constantI S_ 32 26#32)))) : (⟨S32, .i32⟩ : BufTy).Contents (Elt Ideal)) :=
  val_binary 246 V (a := main_call0_call0.v165) (b := main_call0_call0.v167) (y := main_call0_call0.v168) (f := ori) rfl (by decide +kernel) (g_tf_v165 V) (g_tf_v167 V) rfl

/-- The word vector `main_call0_call0_v169`. -/
abbrev w_tf_v169 : (⟨S32, .i32⟩ : BufTy).Contents (Elt Ideal) := vec 0x1366dbe7fac03e2cc3ad55431f2559e36a1931269fe1256f1eecb0310e3035936d3007749e33c7e000fb5041e24b3e2a30c06e452a0b641c3723452cb3966356ea9246f4ecddd0540db060e0549a95c1d1c5d1a3645d7bdd92d8bf368e776fe551bf719ab620728c31225449c34eddf1354ba88c0f38d90eadd083ef10221728
theorem g_tf_v169 : get (after refOps V) main_call0_call0.v169
    = (w_tf_v169 : (⟨S32, .i32⟩ : BufTy).Contents (Elt Ideal)) :=
  val_binary 247 V (a := main_call0_call0.v163) (b := main_call0_call0.v168) (y := main_call0_call0.v169) (f := xori) rfl (by decide +kernel) (g_tf_v163 V) (g_tf_v168 V) (vec_ext (by decide +kernel))

theorem g_tf_v170 : get (after refOps V) main_call0_call0.v170
    = (((broadcastInDim S32 ![] bcast_S_S32) (fun _ => 466689008#32 : (⟨S_, .i32⟩ : BufTy).Contents (Elt Ideal))) : (⟨S32, .i32⟩ : BufTy).Contents (Elt Ideal)) :=
  val_unary 248 V (a := main_call0_call0.v1) (y := main_call0_call0.v170) (f := (broadcastInDim S32 ![] bcast_S_S32)) rfl (by decide +kernel) (g_tf_v1 V) rfl

/-- The word vector `main_call0_v15_0`. -/
abbrev w_tf_v171 : (⟨S32, .i32⟩ : BufTy).Contents (Elt Ideal) := vec 0x660fd86e3b49834b339d7f6d846a058321f800718b3aa7c9fda520b269ac4320ce913f97988b76181e858c9e85daa268f7d22e1338eb112da1128e08058d36683b1a4151969d2d83d181e6ddb99c05820eb4f3d83df0e1d34349448b3c99916797d0552fa506c508a4d91a96b013aee3bad5694692fb20ea03d7b32d6d3e048f
theorem g_tf_v171 : get (after refOps V) main_call0_call0.v171
    = (w_tf_v171 : (⟨S32, .i32⟩ : BufTy).Contents (Elt Ideal)) :=
  val_binary 249 V (a := main_call0_call0.v163) (b := main_call0_call0.v170) (y := main_call0_call0.v171) (f := addi) rfl (by decide +kernel) (g_tf_v163 V) (g_tf_v170 V) (vec_ext (by decide +kernel))

theorem g_tf_v172 : get (after refOps V) main_call0_call0.v172
    = (((broadcastInDim S32 ![] bcast_S_S32) (fun _ => 0#32 : (⟨S_, .i32⟩ : BufTy).Contents (Elt Ideal))) : (⟨S32, .i32⟩ : BufTy).Contents (Elt Ideal)) :=
  val_unary 250 V (a := main_call0.v5) (y := main_call0_call0.v172) (f := (broadcastInDim S32 ![] bcast_S_S32)) rfl (by decide +kernel) (g_un_v5 V) rfl

/-- The word vector `main_call0_call0_v173`. -/
abbrev w_tf_v173 : (⟨S32, .i32⟩ : BufTy).Contents (Elt Ideal) := vec 0x1366dbe7fac03e2cc3ad55431f2559e36a1931269fe1256f1eecb0310e3035936d3007749e33c7e000fb5041e24b3e2a30c06e452a0b641c3723452cb3966356ea9246f4ecddd0540db060e0549a95c1d1c5d1a3645d7bdd92d8bf368e776fe551bf719ab620728c31225449c34eddf1354ba88c0f38d90eadd083ef10221728
theorem g_tf_v173 : get (after refOps V) main_call0_call0.v173
    = (w_tf_v173 : (⟨S32, .i32⟩ : BufTy).Contents (Elt Ideal)) :=
  val_binary 251 V (a := main_call0_call0.v169) (b := main_call0_call0.v172) (y := main_call0_call0.v173) (f := addi) rfl (by decide +kernel) (g_tf_v169 V) (g_tf_v172 V) (vec_ext (by decide +kernel))

theorem g_tf_c_44 : get (after refOps V) main_call0_call0.c_44
    = ((constantI S_ 32 5#32) : (⟨S_, .i32⟩ : BufTy).Contents (Elt Ideal)) :=
  val_nullary 252 V (y := main_call0_call0.c_44) (f := (constantI S_ 32 5#32)) rfl (by decide +kernel) rfl

theorem g_tf_v174 : get (after refOps V) main_call0_call0.v174
    = (((broadcastInDim S32 ![] bcast_S_S32) (constantI S_ 32 5#32)) : (⟨S32, .i32⟩ : BufTy).Contents (Elt Ideal)) :=
  val_unary 253 V (a := main_call0_call0.c_44) (y := main_call0_call0.v174) (f := (broadcastInDim S32 ![] bcast_S_S32)) rfl (by decide +kernel) (g_tf_c_44 V) rfl

/-- The word vector `main_call0_v15_1`. -/
abbrev w_tf_v175 : (⟨S32, .i32⟩ : BufTy).Contents (Elt Ideal) := vec 0x1366dbecfac03e31c3ad55481f2559e86a19312b9fe125741eecb0360e3035986d3007799e33c7e500fb5046e24b3e2f30c06e4a2a0b642137234531b396635bea9246f9ecddd0590db060e5549a95c6d1c5d1a8645d7be292d8bf3b8e776fea51bf719fb62072913122544ec34eddf6354ba8910f38d913add083f41022172d
theorem g_tf_v175 : get (after refOps V) main_call0_call0.v175
    = (w_tf_v175 : (⟨S32, .i32⟩ : BufTy).Contents (Elt Ideal)) :=
  val_binary 254 V (a := main_call0_call0.v173) (b := main_call0_call0.v174) (y := main_call0_call0.v175) (f := addi) rfl (by decide +kernel) (g_tf_v173 V) (g_tf_v174 V) (vec_ext (by decide +kernel))

end Cert.Proof.Ref

end

end
-- ==== Proof.RefDraws.lean ====
/-
  The uniform draws from the generator's words.
-/
module

public import proofs.«01_k».proof.Proof.RefMixD

@[expose] public section

noncomputable section

namespace Cert.Proof.Ref

open Cert.ReferenceIdeal
open Cert.ReferenceIdeal.Facts₀ Cert.ReferenceIdeal.Facts
open Idealize.ShloMosaic Idealize.ShloMosaic.StableHlo Idealize.SL.Sem

set_option maxRecDepth 100000

variable (V : Valuation τ sig (Elt Ideal))

/-- The word vector `main_call0_v16`. -/
abbrev w_un_v16 : (⟨S32, .i32⟩ : BufTy).Contents (Elt Ideal) := vec 0x75690382c189bd7af0302a259b4f5c6b4be1315a14db82bde3499084679c76b8a3a138ee06b8b1fd1e7edcd867919c47c712405912e0750c9631cb39b61b5533d18807a87a40fddadc318638ed069044df71227059ad9a31d191fbb0b2eefe8dc66f24b01326b79995fb4ed8735d73158f9ec1d79dc3f9f9ae0730d97d1c13a2
theorem g_un_v16 : get (after refOps V) main_call0.v16
    = (w_un_v16 : (⟨S32, .i32⟩ : BufTy).Contents (Elt Ideal)) :=
  val_binary 255 V (a := main_call0_call0.v171) (b := main_call0_call0.v175) (y := main_call0.v16) (f := xori) rfl (by decide +kernel) (g_tf_v171 V) (g_tf_v175 V) (vec_ext (by decide +kernel))

theorem g_un_c_1 : get (after refOps V) main_call0.c_1
    = ((constantI S_ 32 9#32) : (⟨S_, .i32⟩ : BufTy).Contents (Elt Ideal)) :=
  val_nullary 256 V (y := main_call0.c_1) (f := (constantI S_ 32 9#32)) rfl (by decide +kernel) rfl

theorem g_un_v17 : get (after refOps V) main_call0.v17
    = (((broadcastInDim S32 ![] bcast_S_S32) (constantI S_ 32 9#32)) : (⟨S32, .i32⟩ : BufTy).Contents (Elt Ideal)) :=
  val_unary 257 V (a := main_call0.c_1) (y := main_call0.v17) (f := (broadcastInDim S32 ![] bcast_S_S32)) rfl (by decide +kernel) (g_un_c_1 V) rfl

theorem g_un_v18 : get (after refOps V) main_call0.v18
    = ((Host.shrui w_un_v16 ((broadcastInDim S32 ![] bcast_S_S32) (constantI S_ 32 9#32))) : (⟨S32, .i32⟩ : BufTy).Contents (Elt Ideal)) :=
  val_binary 258 V (a := main_call0.v16) (b := main_call0.v17) (y := main_call0.v18) (f := Host.shrui) rfl (by decide +kernel) (g_un_v16 V) (g_un_v17 V) rfl

theorem g_un_c_2 : get (after refOps V) main_call0.c_2
    = ((constantI S_ 32 1065353216#32) : (⟨S_, .i32⟩ : BufTy).Contents (Elt Ideal)) :=
  val_nullary 259 V (y := main_call0.c_2) (f := (constantI S_ 32 1065353216#32)) rfl (by decide +kernel) rfl

theorem g_un_v19 : get (after refOps V) main_call0.v19
    = (((broadcastInDim S32 ![] bcast_S_S32) (constantI S_ 32 1065353216#32)) : (⟨S32, .i32⟩ : BufTy).Contents (Elt Ideal)) :=
  val_unary 260 V (a := main_call0.c_2) (y := main_call0.v19) (f := (broadcastInDim S32 ![] bcast_S_S32)) rfl (by decide +kernel) (g_un_c_2 V) rfl

/-- The word vector `main_call0_v20`. -/
abbrev w_un_v20 : (⟨S32, .i32⟩ : BufTy).Contents (Elt Ideal) := vec 0x3fbab4813fe0c4de3ff818153fcda7ae3fa5f0983f8a6dc13ff1a4c83fb3ce3b3fd1d09c3f835c583f8f3f6e3fb3c8ce3fe389203f89703a3fcb18e53fdb0daa3fe8c4033fbd207e3fee18c33ff683483fefb8913facd6cd3fe8c8fd3fd9777f3fe337923f89935b3fcafda73fb9aeb93fc7cf603fcee1fc3fd703983fbe8e09
theorem g_un_v20 : get (after refOps V) main_call0.v20
    = (w_un_v20 : (⟨S32, .i32⟩ : BufTy).Contents (Elt Ideal)) :=
  val_binary 261 V (a := main_call0.v18) (b := main_call0.v19) (y := main_call0.v20) (f := ori) rfl (by decide +kernel) (g_un_v18 V) (g_un_v19 V) (vec_ext (by decide +kernel))

theorem g_un_v21 : get (after refOps V) main_call0.v21
    = (((bitcastToFloat (F := Ideal) .f32) w_un_v20) : (⟨S32, .f32⟩ : BufTy).Contents (Elt Ideal)) :=
  val_unary 262 V (a := main_call0.v20) (y := main_call0.v21) (f := (bitcastToFloat (F := Ideal) .f32)) rfl (by decide +kernel) (g_un_v20 V) rfl

theorem g_un_cst : get (after refOps V) main_call0.cst
    = ((constant (F := Ideal) S_ .f32 0x3F800000#32) : (⟨S_, .f32⟩ : BufTy).Contents (Elt Ideal)) :=
  val_nullary 263 V (y := main_call0.cst) (f := (constant (F := Ideal) S_ .f32 0x3F800000#32)) rfl (by decide +kernel) rfl

theorem g_un_v22 : get (after refOps V) main_call0.v22
    = (((broadcastInDim S32 ![] bcast_S_S32) (constant (F := Ideal) S_ .f32 0x3F800000#32)) : (⟨S32, .f32⟩ : BufTy).Contents (Elt Ideal)) :=
  val_unary 264 V (a := main_call0.cst) (y := main_call0.v22) (f := (broadcastInDim S32 ![] bcast_S_S32)) rfl (by decide +kernel) (g_un_cst V) rfl

theorem g_un_v23 : get (after refOps V) main_call0.v23
    = (((subf (F := Ideal) (φ := .f32)) ((bitcastToFloat (F := Ideal) .f32) w_un_v20) ((broadcastInDim S32 ![] bcast_S_S32) (constant (F := Ideal) S_ .f32 0x3F800000#32))) : (⟨S32, .f32⟩ : BufTy).Contents (Elt Ideal)) :=
  val_binary 265 V (a := main_call0.v21) (b := main_call0.v22) (y := main_call0.v23) (f := (subf (F := Ideal) (φ := .f32))) rfl (by decide +kernel) (g_un_v21 V) (g_un_v22 V) rfl

theorem g_un_v24 : get (after refOps V) main_call0.v24
    = (((subf (F := Ideal) (φ := .f32)) ((broadcastInDim S1 ![] bcast_S_S1) (id (constant (F := Ideal) S_ .f32 0x3F800000#32))) ((broadcastInDim S1 ![] bcast_S_S1) (id (constant (F := Ideal) S_ .f32 0x00000000#32)))) : (⟨S1, .f32⟩ : BufTy).Contents (Elt Ideal)) :=
  val_binary 266 V (a := main_call0.v3) (b := main_call0.v2) (y := main_call0.v24) (f := (subf (F := Ideal) (φ := .f32))) rfl (by decide +kernel) (g_un_v3 V) (g_un_v2 V) rfl

theorem g_un_v25 : get (after refOps V) main_call0.v25
    = (((broadcastInDim S32 ![0] bcast_S1_S32_0) ((subf (F := Ideal) (φ := .f32)) ((broadcastInDim S1 ![] bcast_S_S1) (id (constant (F := Ideal) S_ .f32 0x3F800000#32))) ((broadcastInDim S1 ![] bcast_S_S1) (id (constant (F := Ideal) S_ .f32 0x00000000#32))))) : (⟨S32, .f32⟩ : BufTy).Contents (Elt Ideal)) :=
  val_unary 267 V (a := main_call0.v24) (y := main_call0.v25) (f := (broadcastInDim S32 ![0] bcast_S1_S32_0)) rfl (by decide +kernel) (g_un_v24 V) rfl

theorem g_un_v26 : get (after refOps V) main_call0.v26
    = (((mulf (F := Ideal) (φ := .f32)) ((subf (F := Ideal) (φ := .f32)) ((bitcastToFloat (F := Ideal) .f32) w_un_v20) ((broadcastInDim S32 ![] bcast_S_S32) (constant (F := Ideal) S_ .f32 0x3F800000#32))) ((broadcastInDim S32 ![0] bcast_S1_S32_0) ((subf (F := Ideal) (φ := .f32)) ((broadcastInDim S1 ![] bcast_S_S1) (id (constant (F := Ideal) S_ .f32 0x3F800000#32))) ((broadcastInDim S1 ![] bcast_S_S1) (id (constant (F := Ideal) S_ .f32 0x00000000#32)))))) : (⟨S32, .f32⟩ : BufTy).Contents (Elt Ideal)) :=
  val_binary 268 V (a := main_call0.v23) (b := main_call0.v25) (y := main_call0.v26) (f := (mulf (F := Ideal) (φ := .f32))) rfl (by decide +kernel) (g_un_v23 V) (g_un_v25 V) rfl

theorem g_un_v27 : get (after refOps V) main_call0.v27
    = (((broadcastInDim S32 ![0] bcast_S1_S32_0) ((broadcastInDim S1 ![] bcast_S_S1) (id (constant (F := Ideal) S_ .f32 0x00000000#32)))) : (⟨S32, .f32⟩ : BufTy).Contents (Elt Ideal)) :=
  val_unary 269 V (a := main_call0.v2) (y := main_call0.v27) (f := (broadcastInDim S32 ![0] bcast_S1_S32_0)) rfl (by decide +kernel) (g_un_v2 V) rfl

theorem g_un_v28 : get (after refOps V) main_call0.v28
    = (((addf (F := Ideal) (φ := .f32)) ((mulf (F := Ideal) (φ := .f32)) ((subf (F := Ideal) (φ := .f32)) ((bitcastToFloat (F := Ideal) .f32) w_un_v20) ((broadcastInDim S32 ![] bcast_S_S32) (constant (F := Ideal) S_ .f32 0x3F800000#32))) ((broadcastInDim S32 ![0] bcast_S1_S32_0) ((subf (F := Ideal) (φ := .f32)) ((broadcastInDim S1 ![] bcast_S_S1) (id (constant (F := Ideal) S_ .f32 0x3F800000#32))) ((broadcastInDim S1 ![] bcast_S_S1) (id (constant (F := Ideal) S_ .f32 0x00000000#32)))))) ((broadcastInDim S32 ![0] bcast_S1_S32_0) ((broadcastInDim S1 ![] bcast_S_S1) (id (constant (F := Ideal) S_ .f32 0x00000000#32))))) : (⟨S32, .f32⟩ : BufTy).Contents (Elt Ideal)) :=
  val_binary 270 V (a := main_call0.v26) (b := main_call0.v27) (y := main_call0.v28) (f := (addf (F := Ideal) (φ := .f32))) rfl (by decide +kernel) (g_un_v26 V) (g_un_v27 V) rfl

theorem g_un_v29 : get (after refOps V) main_call0.v29
    = (((broadcastInDim S32 ![0] bcast_S1_S32_0) ((broadcastInDim S1 ![] bcast_S_S1) (id (constant (F := Ideal) S_ .f32 0x00000000#32)))) : (⟨S32, .f32⟩ : BufTy).Contents (Elt Ideal)) :=
  val_unary 271 V (a := main_call0.v2) (y := main_call0.v29) (f := (broadcastInDim S32 ![0] bcast_S1_S32_0)) rfl (by decide +kernel) (g_un_v2 V) rfl

/-- The uniform draws, as the reference computes them from the words. -/
def draws : (⟨S32, .f32⟩ : BufTy).Contents (Elt Ideal) :=
  ((maximumf (F := Ideal) (φ := .f32)) ((broadcastInDim S32 ![0] bcast_S1_S32_0) ((broadcastInDim S1 ![] bcast_S_S1) (id (constant (F := Ideal) S_ .f32 0x00000000#32)))) ((addf (F := Ideal) (φ := .f32)) ((mulf (F := Ideal) (φ := .f32)) ((subf (F := Ideal) (φ := .f32)) ((bitcastToFloat (F := Ideal) .f32) w_un_v20) ((broadcastInDim S32 ![] bcast_S_S32) (constant (F := Ideal) S_ .f32 0x3F800000#32))) ((broadcastInDim S32 ![0] bcast_S1_S32_0) ((subf (F := Ideal) (φ := .f32)) ((broadcastInDim S1 ![] bcast_S_S1) (id (constant (F := Ideal) S_ .f32 0x3F800000#32))) ((broadcastInDim S1 ![] bcast_S_S1) (id (constant (F := Ideal) S_ .f32 0x00000000#32)))))) ((broadcastInDim S32 ![0] bcast_S1_S32_0) ((broadcastInDim S1 ![] bcast_S_S1) (id (constant (F := Ideal) S_ .f32 0x00000000#32))))))
theorem g_rV11 : get (after refOps V) rV11
    = (draws : (⟨S32, .f32⟩ : BufTy).Contents (Elt Ideal)) :=
  val_binary 272 V (a := main_call0.v29) (b := main_call0.v28) (y := rV11) (f := (maximumf (F := Ideal) (φ := .f32))) rfl (by decide +kernel) (g_un_v29 V) (g_un_v28 V) rfl

end Cert.Proof.Ref

end

end
-- ==== Proof.RefSort.lean ====
/-
  The reference's draws as real numbers, their order, and the permutation their sort gives.
-/
module

public import proofs.«01_k».proof.Proof.RefDraws
public import Idealize.ShloMosaic.Lib.IdealHost

@[expose] public section

noncomputable section

namespace Cert.Proof.Ref

open Cert.ReferenceIdeal
open Cert.ReferenceIdeal.Facts₀ Cert.ReferenceIdeal.Facts
open Idealize.ShloMosaic Idealize.ShloMosaic.StableHlo Idealize.SL.Sem

set_option maxRecDepth 100000

/-- A 32-bit word of exponent 127 and sign plus denotes one plus its fraction. -/
theorem ieee_unit (b : BitVec 32) (M : ℕ) (h1 : (b.extractLsb' (8 + 23) 1 == 1#1) = false)
    (h2 : (b.extractLsb' 23 8).toNat = 127) (h3 : (b.extractLsb' 0 23).toNat = M) :
    Ideal.ofBits .f32 b = ((1 + (M : ℝ) * (2 : ℝ) ^ (-23 : Int) : ℝ) : EReal) := by
  show Ideal.ieee 8 23 b = _
  unfold Ideal.ieee
  simp only [h1, h2, h3]
  norm_num [-EReal.coe_mul, -EReal.coe_add]
  ring

/-- The word a draw is built from, at position `k`. -/
def wordAt (k : Fin 32) : BitVec 32 := show BitVec 32 from w_un_v20 (ix k)

/-- The fraction a draw stands for, in units of two to the minus twenty-three. -/
def fracAt (k : Fin 32) : ℕ := ((wordAt k).extractLsb' 0 23).toNat

theorem word_facts : ∀ k : Fin 32, ((wordAt k).extractLsb' (8 + 23) 1 == 1#1) = false
    ∧ ((wordAt k).extractLsb' 23 8).toNat = 127 := by decide +kernel

theorem ofBits_zero : Ideal.ofBits .f32 0x00000000#32 = 0 := by simp [Ideal.ofBits, Ideal.ieee]

/-- A draw, with its word and constants in place. -/
theorem draws_word (k : Fin 32) : (draws (ix k) : EReal)
    = max (Ideal.ofBits .f32 0x00000000#32)
        ((Ideal.ofBits .f32 (wordAt k) - Ideal.ofBits .f32 0x3F800000#32)
          * (Ideal.ofBits .f32 0x3F800000#32 - Ideal.ofBits .f32 0x00000000#32) + Ideal.ofBits .f32 0x00000000#32) := rfl

/-- A draw is its fraction. -/
theorem draws_eq (k : Fin 32) : (draws (ix k) : EReal) = (((fracAt k : ℝ) * (2 : ℝ) ^ (-23 : Int) : ℝ) : EReal) := by
  rw [draws_word, ieee_unit (wordAt k) (fracAt k) (word_facts k).1 (word_facts k).2 rfl, ofBits_zero,
    Ideal.ofBits_one_f32]
  have h : ((1 + (fracAt k : ℝ) * (2 : ℝ) ^ (-23 : Int) : ℝ) : EReal) - 1
      = (((fracAt k : ℝ) * (2 : ℝ) ^ (-23 : Int) : ℝ) : EReal) := by
    rw [show (1 : EReal) = ((1 : ℝ) : EReal) from rfl, ← EReal.coe_sub]
    congr 1; ring
  rw [h, sub_zero, mul_one, add_zero]
  refine max_eq_right ?_
  rw [show (0 : EReal) = ((0 : ℝ) : EReal) from rfl]
  exact EReal.coe_le_coe_iff.mpr (by positivity)

/-- Draws are ordered as their fractions. -/
theorem draws_lt (k k' : Fin 32) : (draws (ix k) : EReal) < (draws (ix k') : EReal) ↔ fracAt k < fracAt k' := by
  rw [draws_eq, draws_eq, EReal.coe_lt_coe_iff, mul_lt_mul_iff_left₀ (by positivity), Nat.cast_lt]

/-- The comparator's treatment of zero and of the unordered leaves an extended real as it is. -/
theorem settle (n x : EReal) :
    Scalar.select (Ideal.cmp .une x x) n (Scalar.select (Ideal.cmp .oeq x (Ideal.ofBits .f32 0x00000000#32))
      (Ideal.ofBits .f32 0x00000000#32) x) = x := by
  rw [ofBits_zero]
  by_cases h : x = 0
  · simp [Ideal.cmp, Scalar.select, h]
  · simp [Ideal.cmp, Scalar.select, h]

/-- The comparator is the order of the first components. -/
theorem comparator_eq (l r : EReal × BitVec 32) :
    (comparator_f32_i32_d0 (F := Ideal) l r == 1#1) = decide (l.1 < r.1) := by
  have h : comparator_f32_i32_d0 (F := Ideal) l r = Ideal.cmp .olt l.1 r.1 :=
    congrArg₂ (Ideal.cmp .olt) (settle _ l.1) (settle _ r.1)
  rw [h]
  by_cases hlt : l.1 < r.1
  · simp [Ideal.cmp, hlt]
  · simp [Ideal.cmp, hlt]

/-- The sort of the fractions, evaluated. -/
theorem perm_words : ∀ k : Fin 32,
    BitVec.ofNat 32 (sortedFrom (fun a b : Fin 32 => decide (fracAt a < fracAt b)) k).val
      = BitVec.ofNat 32 (0x1d0000000c000000190000000b0000000d000000090000000f00000013000000070000001e00000010000000080000000100000017000000020000001c000000110000000500000003000000000000000e0000001f0000000400000018000000140000000a0000001b000000150000001a000000060000001200000016 >>> (32 * k.val)) := by
  decide +kernel

/-- What the second operand of a sort of pairs holds, read at an index. -/
theorem sort2_snd {α β : Type} (cmp : α × β → α × β → BitVec 1) (x : S32.Idx → α) (y : S32.Idx → β) (k : Fin 32) :
    (Host.sort2 S32 0 cmp x y).2 (ix k)
      = y (ix (sortedFrom (fun a b : Fin 32 => cmp (x (ix a), y (ix a)) (x (ix b), y (ix b)) == 1#1) k)) := by
  have hal : (fun c : Fin 32 => Shape.Idx.along (s := S32) (ix k) (0 : Fin 1) c) = ix := by
    funext c q; fin_cases q; rfl
  exact congrArg (fun al : Fin 32 → S32.Idx => y (al (sortedFrom (fun a b : Fin 32 =>
    cmp (x (al a), y (al a)) (x (al b), y (al b)) == 1#1) k))) hal

/-- The positions carried by the sort of the draws, in its order. -/
theorem sort_draws : (fun x y => (Host.sort2 S32 0 (comparator_f32_i32_d0 (F := Ideal)) x y).2) draws (iotaInDim S32 32 0)
    = (vec 0x1d0000000c000000190000000b0000000d000000090000000f00000013000000070000001e00000010000000080000000100000017000000020000001c000000110000000500000003000000000000000e0000001f0000000400000018000000140000000a0000001b000000150000001a000000060000001200000016 : (⟨S32, .i32⟩ : BufTy).Contents (Elt Ideal)) := by
  refine vec_ext fun k => ?_
  rw [← perm_words k]
  have hb : (fun a b : Fin 32 => comparator_f32_i32_d0 (F := Ideal)
        (draws (ix a), iotaInDim S32 32 0 (ix a)) (draws (ix b), iotaInDim S32 32 0 (ix b)) == 1#1)
      = fun a b : Fin 32 => decide (fracAt a < fracAt b) := by
    funext a b
    rw [comparator_eq]
    exact decide_eq_decide.mpr (draws_lt a b)
  refine (sort2_snd _ _ _ k).trans ?_
  rw [hb]
  rfl

end Cert.Proof.Ref

end

end
-- ==== Proof.RefTail.lean ====
/-
  From the draws' order to the reference's result.
-/
module

public import proofs.«01_k».proof.Proof.RefSort

@[expose] public section

noncomputable section

namespace Cert.Proof.Ref

open Cert.ReferenceIdeal
open Cert.ReferenceIdeal.Facts₀ Cert.ReferenceIdeal.Facts
open Idealize.ShloMosaic Idealize.ShloMosaic.StableHlo Idealize.SL.Sem

set_option maxRecDepth 100000

variable (V : Valuation τ sig (Elt Ideal))

theorem g_as_v0 : get (after refOps V) main_call1.v0
    = ((iotaInDim S32 32 0) : (⟨S32, .i32⟩ : BufTy).Contents (Elt Ideal)) :=
  val_nullary 273 V (y := main_call1.v0) (f := (iotaInDim S32 32 0)) rfl (by decide +kernel) rfl

/-- The word vector of the permutation. -/
abbrev w_rV12 : (⟨S32, .i32⟩ : BufTy).Contents (Elt Ideal) := vec 0x1d0000000c000000190000000b0000000d000000090000000f00000013000000070000001e00000010000000080000000100000017000000020000001c000000110000000500000003000000000000000e0000001f0000000400000018000000140000000a0000001b000000150000001a000000060000001200000016
theorem g_rV12 : get (after refOps V) rV12
    = (w_rV12 : (⟨S32, .i32⟩ : BufTy).Contents (Elt Ideal)) :=
  val_binary 275 V (a := rV11) (b := main_call1.v0) (y := rV12) (f := (fun x y => (Host.sort2 S32 0 (comparator_f32_i32_d0 (F := Ideal)) x y).2)) rfl (by decide +kernel) (g_rV11 V) (g_as_v0 V) sort_draws

theorem g_rC_3 : get (after refOps V) rC_3
    = ((constantI S_ 32 0#32) : (⟨S_, .i32⟩ : BufTy).Contents (Elt Ideal)) :=
  val_nullary 276 V (y := rC_3) (f := (constantI S_ 32 0#32)) rfl (by decide +kernel) rfl

theorem g_rV13 : get (after refOps V) rV13
    = (((broadcastInDim S32 ![] bcast_S_S32 : (⟨S_, .i32⟩ : BufTy).Contents (Elt Ideal) → (⟨S32, .i32⟩ : BufTy).Contents (Elt Ideal)) (constantI S_ 32 0#32)) : (⟨S32, .i32⟩ : BufTy).Contents (Elt Ideal)) :=
  val_unary 277 V (a := rC_3) (y := rV13) (f := (broadcastInDim S32 ![] bcast_S_S32 : (⟨S_, .i32⟩ : BufTy).Contents (Elt Ideal) → (⟨S32, .i32⟩ : BufTy).Contents (Elt Ideal))) rfl (by decide +kernel) (g_rC_3 V) rfl

theorem g_rV14 : get (after refOps V) rV14
    = (((cmpi .slt : (⟨S32, .i32⟩ : BufTy).Contents (Elt Ideal) → (⟨S32, .i32⟩ : BufTy).Contents (Elt Ideal) → (⟨S32, .i1⟩ : BufTy).Contents (Elt Ideal)) w_rV12 ((broadcastInDim S32 ![] bcast_S_S32 : (⟨S_, .i32⟩ : BufTy).Contents (Elt Ideal) → (⟨S32, .i32⟩ : BufTy).Contents (Elt Ideal)) (constantI S_ 32 0#32))) : (⟨S32, .i1⟩ : BufTy).Contents (Elt Ideal)) :=
  val_binary 278 V (a := rV12) (b := rV13) (y := rV14) (f := (cmpi .slt : (⟨S32, .i32⟩ : BufTy).Contents (Elt Ideal) → (⟨S32, .i32⟩ : BufTy).Contents (Elt Ideal) → (⟨S32, .i1⟩ : BufTy).Contents (Elt Ideal))) rfl (by decide +kernel) (g_rV12 V) (g_rV13 V) rfl

theorem g_rC_4 : get (after refOps V) rC_4
    = ((constantI S_ 32 32#32) : (⟨S_, .i32⟩ : BufTy).Contents (Elt Ideal)) :=
  val_nullary 279 V (y := rC_4) (f := (constantI S_ 32 32#32)) rfl (by decide +kernel) rfl

theorem g_rV15 : get (after refOps V) rV15
    = (((broadcastInDim S32 ![] bcast_S_S32 : (⟨S_, .i32⟩ : BufTy).Contents (Elt Ideal) → (⟨S32, .i32⟩ : BufTy).Contents (Elt Ideal)) (constantI S_ 32 32#32)) : (⟨S32, .i32⟩ : BufTy).Contents (Elt Ideal)) :=
  val_unary 280 V (a := rC_4) (y := rV15) (f := (broadcastInDim S32 ![] bcast_S_S32 : (⟨S_, .i32⟩ : BufTy).Contents (Elt Ideal) → (⟨S32, .i32⟩ : BufTy).Contents (Elt Ideal))) rfl (by decide +kernel) (g_rC_4 V) rfl

/-- The word vector `main_v16`. -/
abbrev w_rV16 : (⟨S32, .i32⟩ : BufTy).Contents (Elt Ideal) := vec 0x3d0000002c000000390000002b0000002d000000290000002f00000033000000270000003e00000030000000280000002100000037000000220000003c000000310000002500000023000000200000002e0000003f0000002400000038000000340000002a0000003b000000350000003a000000260000003200000036
theorem g_rV16 : get (after refOps V) rV16
    = (w_rV16 : (⟨S32, .i32⟩ : BufTy).Contents (Elt Ideal)) :=
  val_binary 281 V (a := rV12) (b := rV15) (y := rV16) (f := (addi : (⟨S32, .i32⟩ : BufTy).Contents (Elt Ideal) → (⟨S32, .i32⟩ : BufTy).Contents (Elt Ideal) → (⟨S32, .i32⟩ : BufTy).Contents (Elt Ideal))) rfl (by decide +kernel) (g_rV12 V) (g_rV15 V) (vec_ext (by decide +kernel))

/-- The word vector `main_v17`. -/
abbrev w_rV17 : (⟨S32, .i32⟩ : BufTy).Contents (Elt Ideal) := vec 0x1d0000000c000000190000000b0000000d000000090000000f00000013000000070000001e00000010000000080000000100000017000000020000001c000000110000000500000003000000000000000e0000001f0000000400000018000000140000000a0000001b000000150000001a000000060000001200000016
theorem g_rV17 : get (after refOps V) rV17
    = (w_rV17 : (⟨S32, .i32⟩ : BufTy).Contents (Elt Ideal)) :=
  val_ternary 282 V (c := rV14) (a := rV16) (b := rV12) (y := rV17) (f := (select : (⟨S32, .i1⟩ : BufTy).Contents (Elt Ideal) → (⟨S32, .i32⟩ : BufTy).Contents (Elt Ideal) → (⟨S32, .i32⟩ : BufTy).Contents (Elt Ideal) → (⟨S32, .i32⟩ : BufTy).Contents (Elt Ideal))) rfl (by decide +kernel) (g_rV14 V) (g_rV16 V) (g_rV12 V) (vec_ext (by decide +kernel))

theorem g_rV18 : get (after refOps V) rV18
    = (((broadcastInDim S32x1 ![0] bcast_S32_S32x1_0 : (⟨S32, .i32⟩ : BufTy).Contents (Elt Ideal) → (⟨S32x1, .i32⟩ : BufTy).Contents (Elt Ideal)) w_rV17) : (⟨S32x1, .i32⟩ : BufTy).Contents (Elt Ideal)) :=
  val_unary 283 V (a := rV17) (y := rV18) (f := (broadcastInDim S32x1 ![0] bcast_S32_S32x1_0 : (⟨S32, .i32⟩ : BufTy).Contents (Elt Ideal) → (⟨S32x1, .i32⟩ : BufTy).Contents (Elt Ideal))) rfl (by decide +kernel) (g_rV17 V) rfl

theorem g_rV19 : get (after refOps V) rV19
    = ((((fun x i => Host.gather gather_S32x1x160000_S32x1_S32x1x160000_12_0_n_n_0_1_11160000 x i) : (⟨S32x1x160000, .f32⟩ : BufTy).Contents (Elt Ideal) → (⟨S32x1, .i32⟩ : BufTy).Contents (Elt Ideal) → (⟨S32x1x160000, .f32⟩ : BufTy).Contents (Elt Ideal)) (shapeCast S32x1x160000 (((extractStridedSlice S1x32x1x160000 ![0, 0, 0, 0] · slices_S2x32x1x160000_S1x32x1x160000_0_0_0_0) : (⟨S2x32x1x160000, .f32⟩ : BufTy).Contents (Elt Ideal) → (⟨S1x32x1x160000, .f32⟩ : BufTy).Contents (Elt Ideal)) (V (Proc.devRef .tc main_arg0) : (⟨S2x32x1x160000, .f32⟩ : BufTy).Contents (Elt Ideal))) shapeCasts_S1x32x1x160000_S32x1x160000) ((broadcastInDim S32x1 ![0] bcast_S32_S32x1_0 : (⟨S32, .i32⟩ : BufTy).Contents (Elt Ideal) → (⟨S32x1, .i32⟩ : BufTy).Contents (Elt Ideal)) w_rV17)) : (⟨S32x1x160000, .f32⟩ : BufTy).Contents (Elt Ideal)) :=
  val_binary 284 V (a := rV1) (b := rV18) (y := rV19) (f := ((fun x i => Host.gather gather_S32x1x160000_S32x1_S32x1x160000_12_0_n_n_0_1_11160000 x i) : (⟨S32x1x160000, .f32⟩ : BufTy).Contents (Elt Ideal) → (⟨S32x1, .i32⟩ : BufTy).Contents (Elt Ideal) → (⟨S32x1x160000, .f32⟩ : BufTy).Contents (Elt Ideal))) rfl (by decide +kernel) (g_rV1 V) (g_rV18 V) rfl

theorem g_rV20 : get (after refOps V) rV20
    = (((broadcastInDim S1x32x1x160000 ![1, 2, 3] bcast_S32x1x160000_S1x32x1x160000_1_2_3 : (⟨S32x1x160000, .f32⟩ : BufTy).Contents (Elt Ideal) → (⟨S1x32x1x160000, .f32⟩ : BufTy).Contents (Elt Ideal)) (((fun x i => Host.gather gather_S32x1x160000_S32x1_S32x1x160000_12_0_n_n_0_1_11160000 x i) : (⟨S32x1x160000, .f32⟩ : BufTy).Contents (Elt Ideal) → (⟨S32x1, .i32⟩ : BufTy).Contents (Elt Ideal) → (⟨S32x1x160000, .f32⟩ : BufTy).Contents (Elt Ideal)) (shapeCast S32x1x160000 (((extractStridedSlice S1x32x1x160000 ![0, 0, 0, 0] · slices_S2x32x1x160000_S1x32x1x160000_0_0_0_0) : (⟨S2x32x1x160000, .f32⟩ : BufTy).Contents (Elt Ideal) → (⟨S1x32x1x160000, .f32⟩ : BufTy).Contents (Elt Ideal)) (V (Proc.devRef .tc main_arg0) : (⟨S2x32x1x160000, .f32⟩ : BufTy).Contents (Elt Ideal))) shapeCasts_S1x32x1x160000_S32x1x160000) ((broadcastInDim S32x1 ![0] bcast_S32_S32x1_0 : (⟨S32, .i32⟩ : BufTy).Contents (Elt Ideal) → (⟨S32x1, .i32⟩ : BufTy).Contents (Elt Ideal)) w_rV17))) : (⟨S1x32x1x160000, .f32⟩ : BufTy).Contents (Elt Ideal)) :=
  val_unary 285 V (a := rV19) (y := rV20) (f := (broadcastInDim S1x32x1x160000 ![1, 2, 3] bcast_S32x1x160000_S1x32x1x160000_1_2_3 : (⟨S32x1x160000, .f32⟩ : BufTy).Contents (Elt Ideal) → (⟨S1x32x1x160000, .f32⟩ : BufTy).Contents (Elt Ideal))) rfl (by decide +kernel) (g_rV19 V) rfl

theorem g_rV21 : get (after refOps V) rV21
    = (((broadcastInDim S1x32x1x160000 ![1, 2, 3] bcast_S32x1x160000_S1x32x1x160000_1_2_3 : (⟨S32x1x160000, .f32⟩ : BufTy).Contents (Elt Ideal) → (⟨S1x32x1x160000, .f32⟩ : BufTy).Contents (Elt Ideal)) (shapeCast S32x1x160000 (((extractStridedSlice S1x32x1x160000 ![1, 0, 0, 0] · slices_S2x32x1x160000_S1x32x1x160000_1_0_0_0) : (⟨S2x32x1x160000, .f32⟩ : BufTy).Contents (Elt Ideal) → (⟨S1x32x1x160000, .f32⟩ : BufTy).Contents (Elt Ideal)) (V (Proc.devRef .tc main_arg0) : (⟨S2x32x1x160000, .f32⟩ : BufTy).Contents (Elt Ideal))) shapeCasts_S1x32x1x160000_S32x1x160000)) : (⟨S1x32x1x160000, .f32⟩ : BufTy).Contents (Elt Ideal)) :=
  val_unary 286 V (a := rV3) (y := rV21) (f := (broadcastInDim S1x32x1x160000 ![1, 2, 3] bcast_S32x1x160000_S1x32x1x160000_1_2_3 : (⟨S32x1x160000, .f32⟩ : BufTy).Contents (Elt Ideal) → (⟨S1x32x1x160000, .f32⟩ : BufTy).Contents (Elt Ideal))) rfl (by decide +kernel) (g_rV3 V) rfl

theorem g_rV22 : get (after refOps V) rV22
    = ((((fun a b => concatenate S2x32x1x160000 0 [⟨S1x32x1x160000, a⟩, ⟨S1x32x1x160000, b⟩] concatenates_S1x32x1x160000_S1x32x1x160000_S2x32x1x160000_d0) : (⟨S1x32x1x160000, .f32⟩ : BufTy).Contents (Elt Ideal) → (⟨S1x32x1x160000, .f32⟩ : BufTy).Contents (Elt Ideal) → (⟨S2x32x1x160000, .f32⟩ : BufTy).Contents (Elt Ideal)) ((broadcastInDim S1x32x1x160000 ![1, 2, 3] bcast_S32x1x160000_S1x32x1x160000_1_2_3 : (⟨S32x1x160000, .f32⟩ : BufTy).Contents (Elt Ideal) → (⟨S1x32x1x160000, .f32⟩ : BufTy).Contents (Elt Ideal)) (((fun x i => Host.gather gather_S32x1x160000_S32x1_S32x1x160000_12_0_n_n_0_1_11160000 x i) : (⟨S32x1x160000, .f32⟩ : BufTy).Contents (Elt Ideal) → (⟨S32x1, .i32⟩ : BufTy).Contents (Elt Ideal) → (⟨S32x1x160000, .f32⟩ : BufTy).Contents (Elt Ideal)) (shapeCast S32x1x160000 (((extractStridedSlice S1x32x1x160000 ![0, 0, 0, 0] · slices_S2x32x1x160000_S1x32x1x160000_0_0_0_0) : (⟨S2x32x1x160000, .f32⟩ : BufTy).Contents (Elt Ideal) → (⟨S1x32x1x160000, .f32⟩ : BufTy).Contents (Elt Ideal)) (V (Proc.devRef .tc main_arg0) : (⟨S2x32x1x160000, .f32⟩ : BufTy).Contents (Elt Ideal))) shapeCasts_S1x32x1x160000_S32x1x160000) ((broadcastInDim S32x1 ![0] bcast_S32_S32x1_0 : (⟨S32, .i32⟩ : BufTy).Contents (Elt Ideal) → (⟨S32x1, .i32⟩ : BufTy).Contents (Elt Ideal)) w_rV17))) ((broadcastInDim S1x32x1x160000 ![1, 2, 3] bcast_S32x1x160000_S1x32x1x160000_1_2_3 : (⟨S32x1x160000, .f32⟩ : BufTy).Contents (Elt Ideal) → (⟨S1x32x1x160000, .f32⟩ : BufTy).Contents (Elt Ideal)) (shapeCast S32x1x160000 (((extractStridedSlice S1x32x1x160000 ![1, 0, 0, 0] · slices_S2x32x1x160000_S1x32x1x160000_1_0_0_0) : (⟨S2x32x1x160000, .f32⟩ : BufTy).Contents (Elt Ideal) → (⟨S1x32x1x160000, .f32⟩ : BufTy).Contents (Elt Ideal)) (V (Proc.devRef .tc main_arg0) : (⟨S2x32x1x160000, .f32⟩ : BufTy).Contents (Elt Ideal))) shapeCasts_S1x32x1x160000_S32x1x160000))) : (⟨S2x32x1x160000, .f32⟩ : BufTy).Contents (Elt Ideal)) :=
  val_binary 287 V (a := rV20) (b := rV21) (y := rV22) (f := ((fun a b => concatenate S2x32x1x160000 0 [⟨S1x32x1x160000, a⟩, ⟨S1x32x1x160000, b⟩] concatenates_S1x32x1x160000_S1x32x1x160000_S2x32x1x160000_d0) : (⟨S1x32x1x160000, .f32⟩ : BufTy).Contents (Elt Ideal) → (⟨S1x32x1x160000, .f32⟩ : BufTy).Contents (Elt Ideal) → (⟨S2x32x1x160000, .f32⟩ : BufTy).Contents (Elt Ideal))) rfl (by decide +kernel) (g_rV20 V) (g_rV21 V) rfl

end Cert.Proof.Ref

end

end
-- ==== Proof.RefOut.lean ====
/-
  The reference's first result, element by element: rows of the first half by the permutation, the second half as it is.
-/
module

public import proofs.«01_k».proof.Proof.RefTail
public import Idealize.ShloMosaic.Lib.Pipeline.Value

@[expose] public section

noncomputable section

namespace Cert.Proof.Ref

open Cert.ReferenceIdeal
open Cert.ReferenceIdeal.Facts₀ Cert.ReferenceIdeal.Facts
open Idealize.ShloMosaic Idealize.ShloMosaic.StableHlo Idealize.SL.Sem

set_option maxRecDepth 100000

/-! ## Indices by their coordinates -/

def jx4 (a : Fin 2) (b : Fin 32) (t : Fin 160000) : S2x32x1x160000.Idx := fun
  | 0 => a
  | 1 => b
  | 2 => (0 : Fin 1)
  | 3 => t

def kx4 (b : Fin 32) (t : Fin 160000) : S1x32x1x160000.Idx := fun
  | 0 => (0 : Fin 1)
  | 1 => b
  | 2 => (0 : Fin 1)
  | 3 => t

def kx3 (b : Fin 32) (t : Fin 160000) : S32x1x160000.Idx := fun
  | 0 => b
  | 1 => (0 : Fin 1)
  | 2 => t

theorem jx4_eq (i : S2x32x1x160000.Idx) : jx4 ⟨(i 0).val, (i 0).isLt⟩ ⟨(i 1).val, (i 1).isLt⟩ ⟨(i 3).val, (i 3).isLt⟩ = i := by
  funext a
  match a with
  | ⟨0, _⟩ => rfl
  | ⟨1, _⟩ => rfl
  | ⟨2, _⟩ =>
    refine Fin.ext ?_
    show 0 = (i 2).val
    exact (Nat.lt_one_iff.mp (i 2).isLt).symm
  | ⟨3, _⟩ => rfl

/-! ## The operations of the tail, element by element -/

/-- Where the permutation sends a row. -/
def perm (b : Fin 32) : Fin 32 := ⟨(show BitVec 32 from w_rV17 (ix b)).toNat % 32, Nat.mod_lt _ (by decide)⟩

/-- A word of the permutation, read signed and clamped to a row, is that row. -/
theorem perm_clamp : ∀ b : Fin 32, min (show BitVec 32 from w_rV17 (ix b)).toInt.toNat (32 - 1) = (perm b).val := by
  decide +kernel

section Parts
variable {α : Type}

theorem slice_left (x : S2x32x1x160000.Idx → α) (b : Fin 32) (t : Fin 160000) :
    shapeCast S32x1x160000 (extractStridedSlice S1x32x1x160000 ![0, 0, 0, 0] x slices_S2x32x1x160000_S1x32x1x160000_0_0_0_0)
      shapeCasts_S1x32x1x160000_S32x1x160000 (kx3 b t) = x (jx4 0 b t) := by
  have h : Shape.reshapeEquiv shapeCasts_S1x32x1x160000_S32x1x160000 (kx3 b t) = kx4 b t := by
    refine Shape.reshapeEquiv_eq_of_rowMajor _ ?_
    rw [Shape.rowMajor_val_four, Shape.rowMajor_val_three]
    show ((0 * 32 + b.val) * 1 + 0) * 160000 + t.val = (b.val * 1 + 0) * 160000 + t.val
    omega
  show x _ = _
  rw [h]
  refine congrArg x (funext fun a => Fin.ext ?_)
  match a with
  | ⟨0, _⟩ => rfl
  | ⟨1, _⟩ => exact Nat.zero_add _
  | ⟨2, _⟩ => rfl
  | ⟨3, _⟩ => exact Nat.zero_add _

theorem slice_right (x : S2x32x1x160000.Idx → α) (b : Fin 32) (t : Fin 160000) :
    shapeCast S32x1x160000 (extractStridedSlice S1x32x1x160000 ![1, 0, 0, 0] x slices_S2x32x1x160000_S1x32x1x160000_1_0_0_0)
      shapeCasts_S1x32x1x160000_S32x1x160000 (kx3 b t) = x (jx4 1 b t) := by
  have h : Shape.reshapeEquiv shapeCasts_S1x32x1x160000_S32x1x160000 (kx3 b t) = kx4 b t := by
    refine Shape.reshapeEquiv_eq_of_rowMajor _ ?_
    rw [Shape.rowMajor_val_four, Shape.rowMajor_val_three]
    show ((0 * 32 + b.val) * 1 + 0) * 160000 + t.val = (b.val * 1 + 0) * 160000 + t.val
    omega
  show x _ = _
  rw [h]
  refine congrArg x (funext fun a => Fin.ext ?_)
  match a with
  | ⟨0, _⟩ => rfl
  | ⟨1, _⟩ => exact Nat.zero_add _
  | ⟨2, _⟩ => rfl
  | ⟨3, _⟩ => exact Nat.zero_add _

theorem stack_row (x : S32x1x160000.Idx → α) (b : Fin 32) (t : Fin 160000) :
    broadcastInDim S1x32x1x160000 ![1, 2, 3] bcast_S32x1x160000_S1x32x1x160000_1_2_3 x (kx4 b t) = x (kx3 b t) := by
  refine congrArg x (funext fun a => Fin.ext ?_)
  match a with
  | ⟨0, _⟩ => rfl
  | ⟨1, _⟩ => rfl
  | ⟨2, _⟩ => rfl

theorem stack_left (x y : S1x32x1x160000.Idx → α) (b : Fin 32) (t : Fin 160000) :
    concatenate S2x32x1x160000 0 [⟨S1x32x1x160000, x⟩, ⟨S1x32x1x160000, y⟩]
      concatenates_S1x32x1x160000_S1x32x1x160000_S2x32x1x160000_d0 (jx4 0 b t) = x (kx4 b t) := by
  refine concatenate_pair_apply_left (0 : Fin S2x32x1x160000.rank) x y _ (jx4 0 b t) rfl (kx4 b t) fun a => ?_
  match a with
  | ⟨0, _⟩ => rfl
  | ⟨1, _⟩ => rfl
  | ⟨2, _⟩ => rfl
  | ⟨3, _⟩ => rfl

theorem stack_right (x y : S1x32x1x160000.Idx → α) (b : Fin 32) (t : Fin 160000) :
    concatenate S2x32x1x160000 0 [⟨S1x32x1x160000, x⟩, ⟨S1x32x1x160000, y⟩]
      concatenates_S1x32x1x160000_S1x32x1x160000_S2x32x1x160000_d0 (jx4 1 b t) = y (kx4 b t) := by
  refine concatenate_pair_apply_right (0 : Fin S2x32x1x160000.rank) x y _ (jx4 1 b t) rfl rfl (kx4 b t) (fun a ha => ?_) rfl
  match a with
  | ⟨0, _⟩ => exact absurd rfl ha
  | ⟨1, _⟩ => rfl
  | ⟨2, _⟩ => rfl
  | ⟨3, _⟩ => rfl

/-- The rows gathered by the permutation. -/
theorem gather_row (x : S32x1x160000.Idx → α) (b : Fin 32) (t : Fin 160000) :
    Host.gather gather_S32x1x160000_S32x1_S32x1x160000_12_0_n_n_0_1_11160000 x
      (broadcastInDim S32x1 ![0] bcast_S32_S32x1_0 (show IVec S32 32 from w_rV17)) (kx3 b t) = x (kx3 (perm b) t) := by
  refine congrArg x (funext fun a => Fin.ext ?_)
  match a with
  | ⟨0, _⟩ =>
    refine Eq.trans ?_ (perm_clamp b)
    rfl
  | ⟨1, _⟩ => rfl
  | ⟨2, _⟩ => exact Nat.zero_add _

end Parts

/-- The reference's first result at a row of the first half: the permuted row. -/
theorem out_left (V : Valuation τ sig (Elt Ideal)) (b : Fin 32) (t : Fin 160000) :
    (get (after refOps V) rV22 : S2x32x1x160000.Idx → Elt Ideal .f32) (jx4 0 b t)
      = (V (Proc.devRef .tc main_arg0) : S2x32x1x160000.Idx → Elt Ideal .f32) (jx4 0 (perm b) t) := by
  rw [g_rV22]
  refine (stack_left _ _ b t).trans ?_
  refine (stack_row _ b t).trans ?_
  refine (gather_row _ b t).trans ?_
  exact slice_left _ (perm b) t

/-- The reference's first result at a row of the second half: that row. -/
theorem out_right (V : Valuation τ sig (Elt Ideal)) (b : Fin 32) (t : Fin 160000) :
    (get (after refOps V) rV22 : S2x32x1x160000.Idx → Elt Ideal .f32) (jx4 1 b t)
      = (V (Proc.devRef .tc main_arg0) : S2x32x1x160000.Idx → Elt Ideal .f32) (jx4 1 b t) := by
  rw [g_rV22]
  refine (stack_right _ _ b t).trans ?_
  refine (stack_row _ b t).trans ?_
  exact slice_right _ b t

end Cert.Proof.Ref

end

end
-- ==== Proof.Equation.lean ====
/-
  The two programs' results are equal: the table the kernel carries is the permutation the reference draws, and the
  second result is the second argument on both sides.
-/
module

public import proofs.«01_k».proof.Proof.Launch
public import proofs.«01_k».proof.Proof.RefOut

@[expose] public section

noncomputable section

namespace Cert.Proof

open Cert.KernelIdeal Cert.KernelIdeal.Gen
open Idealize.ShloMosaic Idealize.SL.Sem
open Cert.Proof.Tile (tab tab_lt rowIx srcOf sIx OUT RES RES' SRC TGT)
open Cert.Proof.Ref (jx4 jx4_eq perm)

set_option maxRecDepth 100000

/-! ## The kernel's flat places as rows -/

/-- The table's word of output row `R`. -/
abbrev word (R : Nat) : Nat := (tab (rowIx (R / 2) (R % 2))).toNat

/-- The first thirty-two words are the permutation. -/
theorem word_left : ∀ b : Fin 32, word b.val = (perm b).val := by
  decide +kernel

/-- The other thirty-two words are the rows themselves. -/
theorem word_right : ∀ b : Fin 32, word (32 + b.val) = 32 + b.val := by
  decide +kernel

/-- A row's element in the flat array. -/
theorem flat_at {α : Type} (x : S2x32x1x160000.Idx → α) (a : Fin 2) (b : Fin 32) (t : Fin 160000) :
    shapeCast S10240000 x shapeCasts_S2x32x1x160000_S10240000 (sIx ((a.val * 32 + b.val) * 160000 + t.val)) = x (jx4 a b t) := by
  have ha := a.isLt
  have hb := b.isLt
  have ht := t.isLt
  refine congrArg x (Shape.reshapeEquiv_eq_of_rowMajor _ ?_)
  rw [Shape.rowMajor_val_four, Shape.rowMajor_val_one]
  show ((a.val * 32 + b.val) * 1 + 0) * 160000 + t.val = ((a.val * 32 + b.val) * 160000 + t.val) % 10240000
  omega

/-- The kernel's first result, element by element: the row that the table's word names. -/
theorem res_at {α : Type} (x : S2x32x1x160000.Idx → α) (a : Fin 2) (b : Fin 32) (t : Fin 160000) (a' : Fin 2) (b' : Fin 32)
    (hw : word (a.val * 32 + b.val) = a'.val * 32 + b'.val) :
    shapeCast S2x32x1x160000 (OUT tab (shapeCast S10240000 x shapeCasts_S2x32x1x160000_S10240000)) shapeCasts_S10240000_S2x32x1x160000 (jx4 a b t)
      = x (jx4 a' b' t) := by
  have ha := a.isLt
  have hb := b.isLt
  have ht := t.isLt
  have hn : Shape.reshapeEquiv shapeCasts_S10240000_S2x32x1x160000 (jx4 a b t) = sIx ((a.val * 32 + b.val) * 160000 + t.val) := by
    refine Shape.reshapeEquiv_eq_of_rowMajor _ ?_
    rw [Shape.rowMajor_val_one, Shape.rowMajor_val_four]
    show ((a.val * 32 + b.val) * 160000 + t.val) % 10240000 = ((a.val * 32 + b.val) * 1 + 0) * 160000 + t.val
    omega
  have hs : srcOf tab (((a.val * 32 + b.val) * 160000 + t.val) % 10240000) = (a'.val * 32 + b'.val) * 160000 + t.val := by
    have h1 : ((a.val * 32 + b.val) * 160000 + t.val) % 10240000 = (a.val * 32 + b.val) * 160000 + t.val := by omega
    have h2 : ((a.val * 32 + b.val) * 160000 + t.val) / 320000 = (a.val * 32 + b.val) / 2 := by omega
    have h3 : ((a.val * 32 + b.val) * 160000 + t.val) / 160000 % 2 = (a.val * 32 + b.val) % 2 := by omega
    have h4 : ((a.val * 32 + b.val) * 160000 + t.val) % 160000 = t.val := by omega
    rw [h1]
    unfold srcOf
    rw [h2, h3, h4, ← hw]
  refine Eq.trans ?_ (flat_at x a' b' t)
  show OUT tab _ (Shape.reshapeEquiv _ _) = _
  rw [hn]
  exact congrArg (fun n => shapeCast S10240000 x shapeCasts_S2x32x1x160000_S10240000 (sIx n)) hs

/-- The second result flattened and shaped again is the second argument. -/
theorem res'_eq {F : FTy → Type} (m : (ℓ : Loc nD τ sig) → Buf (Elt F) ℓ) (d : Dev nD) : RES' m d = m (Tile.bLoc d) := by
  refine funext fun j => congrArg (m (Tile.bLoc d)) ?_
  exact (Shape.reshapeEquiv_reshapeEquiv _ _ j).trans (Shape.reshapeEquiv_self _ j)

/-! ## The value claim -/

/-- The reference's first result is the kernel's, from the same first argument. -/
theorem res_eq (m : (ℓ : Loc nD τ sig) → Buf (Elt Ideal) ℓ) (d : Dev nD) (V : Valuation Cert.ReferenceIdeal.τ Cert.ReferenceIdeal.sig (Elt Ideal))
    (hV : (V (Proc.devRef .tc Cert.ReferenceIdeal.main_arg0) : S2x32x1x160000.Idx → Elt Ideal .f32) = m (Tile.aLoc d)) :
    (Ref.get (StableHlo.after Ref.refOps V) Ref.rV22 : S2x32x1x160000.Idx → Elt Ideal .f32) = RES m d := by
  funext i
  rw [← jx4_eq i]
  generalize (⟨(i 0).val, (i 0).isLt⟩ : Fin 2) = a
  generalize (⟨(i 1).val, (i 1).isLt⟩ : Fin 32) = b
  generalize (⟨(i 3).val, (i 3).isLt⟩ : Fin 160000) = t
  match a with
  | ⟨0, _⟩ =>
    refine (Ref.out_left V b t).trans ?_
    refine (congrFun hV _).trans ?_
    refine (res_at (m (Tile.aLoc d)) 0 b t 0 (perm b) ?_).symm
    show word (0 * 32 + b.val) = 0 * 32 + (perm b).val
    rw [Nat.zero_mul, Nat.zero_add, Nat.zero_add]
    exact word_left b
  | ⟨1, _⟩ =>
    refine (Ref.out_right V b t).trans ?_
    refine (congrFun hV _).trans ?_
    refine (res_at (m (Tile.aLoc d)) 1 b t 1 b ?_).symm
    show word (1 * 32 + b.val) = 1 * 32 + b.val
    rw [Nat.one_mul]
    exact word_right b

theorem algebraic : Cert.algebraic_KernelIdeal_ReferenceIdeal := fun m g m' g' _ hagree =>
  ⟨fun c => RES m c, fun c => RES' m c,
    (θ_run (Cert.KernelIdeal.defs (F := Ideal)) _ _).mono (fun r h c => h.1 c) (Tile.run_main (F := Ideal) m g),
    (θ_run (Cert.ReferenceIdeal.defs (F := Ideal)) _ _).mono (fun r h c =>
      ⟨(h c Cert.ReferenceIdeal.main_v22).trans (res_eq m c _ (hagree c).1),
        ((h c Cert.ReferenceIdeal.main_arg1).trans (Ref.arg1_eq _)).trans ((hagree c).2.trans (res'_eq m c).symm),
        (h c Cert.ReferenceIdeal.main_arg0).trans (Ref.arg0_eq _),
        (h c Cert.ReferenceIdeal.main_arg1).trans (Ref.arg1_eq _)⟩) (Ref.run_ref m' g')⟩

end Cert.Proof

end

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Tile.frame_kernel, Tile.frame_ideal, Ref.frame_ref, trivial, algebraic⟩

end Cert.Proof

end
